-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_attention [hPre_finite_attention : Cert.Pre_finite_attention.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_attention.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_attention [hPre_finite_attention : Cert.Pre_finite_attention.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_attention.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_tables_in_range : Cert.Pre_tables_in_range.Facts] (m : (ℓ : Loc Cert.Kernel5.nD Cert.Kernel5.τ Cert.Kernel5.sig) → Buf (Elt Bits) ℓ) : Prop :=
  ∀ c : Dev Cert.Kernel5.nD,
    (Cert.Pre_tables_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_tables_in_range : Cert.Pre_tables_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tables_in_range [hPre_tables_in_range : Cert.Pre_tables_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tables_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_attention [hKernel3Ideal : Cert.Kernel3Ideal.Facts] [hPre_finite_attention : Cert.Pre_finite_attention.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_attention m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_attention [hReference3Ideal : Cert.Reference3Ideal.Facts] [hPre_finite_attention : Cert.Pre_finite_attention.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_attention m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_tables_in_range : Cert.Pre_tables_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_tables_in_range : Cert.Pre_tables_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_tables_in_range [hReference5Ideal : Cert.Reference5Ideal.Facts] [hPre_tables_in_range : Cert.Pre_tables_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tables_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v47) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_attention [hKernel3Ideal : Cert.Kernel3Ideal.Facts] [hReference3Ideal : Cert.Reference3Ideal.Facts] [hPre_finite_attention : Cert.Pre_finite_attention.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_attention m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_tables_in_range : Cert.Pre_tables_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_attention : Cert.Pre_finite_attention.Facts) (hPre_tables_in_range : Cert.Pre_tables_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_attention (hKernel3Ideal := hKernel3Ideal) (hPre_finite_attention := hPre_finite_attention)
    ∧ quiescent_Reference3Ideal (hReference3Ideal := hReference3Ideal)
    ∧ quiescent_Reference3Ideal_pre_finite_attention (hReference3Ideal := hReference3Ideal) (hPre_finite_attention := hPre_finite_attention)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_tables_in_range := hPre_tables_in_range)
    ∧ quiescent_Kernel5Ideal (hKernel5Ideal := hKernel5Ideal) (hPre_tables_in_range := hPre_tables_in_range)
    ∧ quiescent_Reference5Ideal (hReference5Ideal := hReference5Ideal)
    ∧ quiescent_Reference5Ideal_pre_tables_in_range (hReference5Ideal := hReference5Ideal) (hPre_tables_in_range := hPre_tables_in_range)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_attention (hKernel3Ideal := hKernel3Ideal) (hReference3Ideal := hReference3Ideal) (hPre_finite_attention := hPre_finite_attention)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_tables_in_range := hPre_tables_in_range)
-- ==== Pre_finite_attention.lean ====
abbrev S2x16384x1024 : Shape := ⟨3, ![2, 16384, 1024]⟩
abbrev S512x2048 : Shape := ⟨2, ![512, 2048]⟩
abbrev S1x1024x1024 : Shape := ⟨3, ![1, 1024, 1024]⟩
abbrev S1x1024 : Shape := ⟨2, ![1, 1024]⟩
abbrev S32x2x512x1024 : Shape := ⟨4, ![32, 2, 512, 1024]⟩
abbrev S_ : Shape := ⟨0, ![]⟩
abbrev S2x512x1024 : Shape := ⟨3, ![2, 512, 1024]⟩
abbrev S1x2x512x1024 : Shape := ⟨4, ![1, 2, 512, 1024]⟩
abbrev S512x1024 : Shape := ⟨2, ![512, 1024]⟩
abbrev S1x1x512x1024 : Shape := ⟨4, ![1, 1, 512, 1024]⟩

class Facts : Prop where
  shapeCasts_S2x16384x1024_S32x2x512x1024 : S2x16384x1024.ShapeCasts S32x2x512x1024
  bcast_S_S32x2x512x1024 : S_.BroadcastsInDim S32x2x512x1024 (![] : Fin 0 → Fin S32x2x512x1024.rank)
  shapeCasts_S1x1024x1024_S2x512x1024 : S1x1024x1024.ShapeCasts S2x512x1024
  bcast_S_S2x512x1024 : S_.BroadcastsInDim S2x512x1024 (![] : Fin 0 → Fin S2x512x1024.rank)
  bcast_S2x512x1024_S1x2x512x1024_1_2_3 : S2x512x1024.BroadcastsInDim S1x2x512x1024 (![1, 2, 3] : Fin 3 → Fin S1x2x512x1024.rank)
  bcast_S1x2x512x1024_S32x2x512x1024_0_1_2_3 : S1x2x512x1024.BroadcastsInDim S32x2x512x1024 (![0, 1, 2, 3] : Fin 4 → Fin S32x2x512x1024.rank)
  slices_S512x2048_S512x1024_0_0 : S512x2048.Slices ![0, 0] S512x1024
  bcast_S_S512x1024 : S_.BroadcastsInDim S512x1024 (![] : Fin 0 → Fin S512x1024.rank)
  bcast_S512x1024_S1x1x512x1024_2_3 : S512x1024.BroadcastsInDim S1x1x512x1024 (![2, 3] : Fin 2 → Fin S1x1x512x1024.rank)
  bcast_S1x1x512x1024_S32x2x512x1024_0_1_2_3 : S1x1x512x1024.BroadcastsInDim S32x2x512x1024 (![0, 1, 2, 3] : Fin 4 → Fin S32x2x512x1024.rank)

variable [Facts]

def fn {F : FTy → Type} [FloatOps F] (main_arg0 : FVec F S2x16384x1024 .f32) (main_arg1 : FVec F S512x2048 .f32) (main_arg2 : FVec F S1x1024x1024 .f32) (main_arg3 : FVec F S1x1024x1024 .f32) (main_arg4 : FVec F S1x1024 .f32) (main_arg5 : FVec F S1x1024 .f32) : IVec S32x2x512x1024 1 :=
  let main_v0 : FVec F S32x2x512x1024 .f32 := shapeCast S32x2x512x1024 main_arg0 shapeCasts_S2x16384x1024_S32x2x512x1024
  let main_v1 : FVec F S32x2x512x1024 .f32 := Host.absf main_v0
  let main_cst : FVec F S_ .f32 := constant S_ .f32 0x7F800000#32
  let main_v2 : FVec F S32x2x512x1024 .f32 := broadcastInDim S32x2x512x1024 ![] bcast_S_S32x2x512x1024 main_cst
  let main_v3 : IVec S32x2x512x1024 1 := cmpf .olt main_v1 main_v2
  let main_v4 : FVec F S2x512x1024 .f32 := shapeCast S2x512x1024 main_arg2 shapeCasts_S1x1024x1024_S2x512x1024
  let main_v5 : FVec F S2x512x1024 .f32 := Host.absf main_v4
  let main_cst_0 : FVec F S_ .f32 := constant S_ .f32 0x7F800000#32
  let main_v6 : FVec F S2x512x1024 .f32 := broadcastInDim S2x512x1024 ![] bcast_S_S2x512x1024 main_cst_0
  let main_v7 : IVec S2x512x1024 1 := cmpf .olt main_v5 main_v6
  let main_v8 : IVec S1x2x512x1024 1 := broadcastInDim S1x2x512x1024 ![1, 2, 3] bcast_S2x512x1024_S1x2x512x1024_1_2_3 main_v7
  let main_v9 : IVec S32x2x512x1024 1 := broadcastInDim S32x2x512x1024 ![0, 1, 2, 3] bcast_S1x2x512x1024_S32x2x512x1024_0_1_2_3 main_v8
  let main_v10 : IVec S32x2x512x1024 1 := andi main_v3 main_v9
  let main_v11 : FVec F S512x1024 .f32 := (extractStridedSlice S512x1024 ![0, 0] · slices_S512x2048_S512x1024_0_0) main_arg1
  let main_v12 : FVec F S512x1024 .f32 := Host.absf main_v11
  let main_cst_1 : FVec F S_ .f32 := constant S_ .f32 0x7F800000#32
  let main_v13 : FVec F S512x1024 .f32 := broadcastInDim S512x1024 ![] bcast_S_S512x1024 main_cst_1
  let main_v14 : IVec S512x1024 1 := cmpf .olt main_v12 main_v13
  let main_v15 : IVec S1x1x512x1024 1 := broadcastInDim S1x1x512x1024 ![2, 3] bcast_S512x1024_S1x1x512x1024_2_3 main_v14
  let main_v16 : IVec S32x2x512x1024 1 := broadcastInDim S32x2x512x1024 ![0, 1, 2, 3] bcast_S1x1x512x1024_S32x2x512x1024_0_1_2_3 main_v15
  let main_v17 : IVec S32x2x512x1024 1 := andi main_v10 main_v16
  main_v17
-- ==== Pre_finite_inputs.lean ====
abbrev S2x16384x3352 : Shape := ⟨3, ![2, 16384, 3352]⟩
abbrev S2x512 : Shape := ⟨2, ![2, 512]⟩
abbrev S1x128 : Shape := ⟨2, ![1, 128]⟩
abbrev S2x16384x512 : Shape := ⟨3, ![2, 16384, 512]⟩
abbrev S_ : Shape := ⟨0, ![]⟩
abbrev S1x512 : Shape := ⟨2, ![1, 512]⟩
abbrev S512 : Shape := ⟨1, ![512]⟩
abbrev S1x1x512 : Shape := ⟨3, ![1, 1, 512]⟩

class Facts : Prop where
  slices_S2x16384x3352_S2x16384x512_0_0_1304 : S2x16384x3352.Slices ![0, 0, 1304] S2x16384x512
  slices_S2x16384x3352_S2x16384x512_0_0_2328 : S2x16384x3352.Slices ![0, 0, 2328] S2x16384x512
  bcast_S_S2x16384x512 : S_.BroadcastsInDim S2x16384x512 (![] : Fin 0 → Fin S2x16384x512.rank)
  slices_S2x512_S1x512_0_0 : S2x512.Slices ![0, 0] S1x512
  shapeCasts_S1x512_S512 : S1x512.ShapeCasts S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S2x16384x512_0_1_2 : S1x1x512.BroadcastsInDim S2x16384x512 (![0, 1, 2] : Fin 3 → Fin S2x16384x512.rank)
  slices_S2x512_S1x512_1_0 : S2x512.Slices ![1, 0] S1x512

variable [Facts]

def fn_part1 {F : FTy → Type} [FloatOps F] (main_v16 : IVec S2x16384x512 1) (main_v19 : FVec F S512 .f32) (main_cst_2 : FVec F S_ .f32) : IVec S2x16384x512 1 :=
  let main_v20 : FVec F S512 .f32 := broadcastInDim S512 ![] bcast_S_S512 main_cst_2
  let main_v21 : IVec S512 1 := cmpf .olt main_v19 main_v20
  let main_v22 : IVec S1x1x512 1 := broadcastInDim S1x1x512 ![2] bcast_S512_S1x1x512_2 main_v21
  let main_v23 : IVec S2x16384x512 1 := broadcastInDim S2x16384x512 ![0, 1, 2] bcast_S1x1x512_S2x16384x512_0_1_2 main_v22
  let main_v24 : IVec S2x16384x512 1 := andi main_v16 main_v23
  main_v24

def fn {F : FTy → Type} [FloatOps F] (main_arg0 : FVec F S2x16384x3352 .f32) (main_arg1 : FVec F S2x512 .f32) (main_arg2 : FVec F S1x128 .f32) : IVec S2x16384x512 1 :=
  let main_v0 : FVec F S2x16384x512 .f32 := (extractStridedSlice S2x16384x512 ![0, 0, 1304] · slices_S2x16384x3352_S2x16384x512_0_0_1304) main_arg0
  let main_v1 : FVec F S2x16384x512 .f32 := (extractStridedSlice S2x16384x512 ![0, 0, 2328] · slices_S2x16384x3352_S2x16384x512_0_0_2328) main_arg0
  let main_v2 : FVec F S2x16384x512 .f32 := Host.absf main_v0
  let main_cst : FVec F S_ .f32 := constant S_ .f32 0x7F800000#32
  let main_v3 : FVec F S2x16384x512 .f32 := broadcastInDim S2x16384x512 ![] bcast_S_S2x16384x512 main_cst
  let main_v4 : IVec S2x16384x512 1 := cmpf .olt main_v2 main_v3
  let main_v5 : FVec F S2x16384x512 .f32 := Host.absf main_v1
  let main_cst_0 : FVec F S_ .f32 := constant S_ .f32 0x7F800000#32
  let main_v6 : FVec F S2x16384x512 .f32 := broadcastInDim S2x16384x512 ![] bcast_S_S2x16384x512 main_cst_0
  let main_v7 : IVec S2x16384x512 1 := cmpf .olt main_v5 main_v6
  let main_v8 : IVec S2x16384x512 1 := andi main_v4 main_v7
  let main_v9 : FVec F S1x512 .f32 := (extractStridedSlice S1x512 ![0, 0] · slices_S2x512_S1x512_0_0) main_arg1
  let main_v10 : FVec F S512 .f32 := shapeCast S512 main_v9 shapeCasts_S1x512_S512
  let main_v11 : FVec F S512 .f32 := Host.absf main_v10
  let main_cst_1 : FVec F S_ .f32 := constant S_ .f32 0x7F800000#32
  let main_v12 : FVec F S512 .f32 := broadcastInDim S512 ![] bcast_S_S512 main_cst_1
  let main_v13 : IVec S512 1 := cmpf .olt main_v11 main_v12
  let main_v14 : IVec S1x1x512 1 := broadcastInDim S1x1x512 ![2] bcast_S512_S1x1x512_2 main_v13
  let main_v15 : IVec S2x16384x512 1 := broadcastInDim S2x16384x512 ![0, 1, 2] bcast_S1x1x512_S2x16384x512_0_1_2 main_v14
  let main_v16 : IVec S2x16384x512 1 := andi main_v8 main_v15
  let main_v17 : FVec F S1x512 .f32 := (extractStridedSlice S1x512 ![1, 0] · slices_S2x512_S1x512_1_0) main_arg1
  let main_v18 : FVec F S512 .f32 := shapeCast S512 main_v17 shapeCasts_S1x512_S512
  let main_v19 : FVec F S512 .f32 := Host.absf main_v18
  let main_cst_2 : FVec F S_ .f32 := constant S_ .f32 0x7F800000#32
  fn_part1 (F := F) main_v16 main_v19 main_cst_2
-- ==== Pre_tables_in_range.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S73728x1024 .f32) (main_arg3 : FVec F S32x1024x512 .bf16) (main_arg4 : FVec F S32x1024x512 .bf16) (main_arg5 : FVec F S32x512x1024 .bf16) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S288 1 := broadcastInDim S288 ![0] bcast_S1_S288_0 main_v6
  let main_v8 : IVec S288 1 := andi main_v4 main_v7
  main_v8
-- ==== Kernel.lean ====
abbrev S2x16384x3352 : Shape := ⟨3, ![2, 16384, 3352]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S32768x3352 : Shape := ⟨2, ![32768, 3352]⟩
abbrev S32768x512 : Shape := ⟨2, ![32768, 512]⟩
abbrev S32768x2048 : Shape := ⟨2, ![32768, 2048]⟩
abbrev S32768x768 : Shape := ⟨2, ![32768, 768]⟩
abbrev S32768x24 : Shape := ⟨2, ![32768, 24]⟩
abbrev S32768x104 : Shape := ⟨2, ![32768, 104]⟩
abbrev S32768x3456 : Shape := ⟨2, ![32768, 3456]⟩
abbrev S4x1x128 : Shape := ⟨3, ![4, 1, 128]⟩
abbrev S128 : Shape := ⟨1, ![128]⟩
abbrev S512x512 : Shape := ⟨2, ![512, 512]⟩
abbrev S4x128x128 : Shape := ⟨3, ![4, 128, 128]⟩
abbrev S4x2x144x128 : Shape := ⟨4, ![4, 2, 144, 128]⟩
abbrev S128x128 : Shape := ⟨2, ![128, 128]⟩
abbrev S1x4x1x128 : Shape := ⟨4, ![1, 4, 1, 128]⟩
abbrev S1 : Shape := ⟨1, ![1]⟩
abbrev S1x1x1x1 : Shape := ⟨4, ![1, 1, 1, 1]⟩
abbrev S1x128x128 : Shape := ⟨3, ![1, 128, 128]⟩
abbrev S1x1x128 : Shape := ⟨3, ![1, 1, 128]⟩
abbrev S16x128 : Shape := ⟨2, ![16, 128]⟩
abbrev S128x1 : Shape := ⟨2, ![128, 1]⟩
abbrev S1x2x144x128 : Shape := ⟨4, ![1, 2, 144, 128]⟩
abbrev S2x144x128 : Shape := ⟨3, ![2, 144, 128]⟩

abbrev nBuf : Space → Nat
  | .hbm => 34
  | .vmem => 14
  | .smem => 0
  | _ => 0

abbrev bufTy : (tb : Table) → Fin (tcTables nBuf tb) → BufTy
  | .hbm, ⟨0, _⟩ => ⟨S2x16384x3352, .f32⟩
  | .hbm, ⟨1, _⟩ => ⟨S2x512, .f32⟩
  | .hbm, ⟨2, _⟩ => ⟨S1x128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S32768x3352, .f32⟩
  | .hbm, ⟨21, _⟩ => ⟨S32768x512, .f32⟩
  | .hbm, ⟨22, _⟩ => ⟨S32768x2048, .f32⟩
  | .hbm, ⟨23, _⟩ => ⟨S32768x768, .f32⟩
  | .hbm, ⟨24, _⟩ => ⟨S32768x24, .f32⟩
  | .hbm, ⟨25, _⟩ => ⟨S_, .f32⟩
  | .hbm, ⟨26, _⟩ => ⟨S32768x104, .f32⟩
  | .hbm, ⟨27, _⟩ => ⟨S32768x3456, .f32⟩
  | .hbm, ⟨28, _⟩ => ⟨S1x512, .f32⟩
  | .hbm, ⟨29, _⟩ => ⟨S512, .f32⟩
  | .hbm, ⟨30, _⟩ => ⟨S4x1x128, .f32⟩
  | .hbm, ⟨31, _⟩ => ⟨S128, .f32⟩
  | .hbm, ⟨32, _⟩ => ⟨S1x128, .f32⟩
  | .hbm, ⟨33, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x1x128, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S4x128x128, .f32⟩
  | .local _ .vmem, ⟨13, _⟩ => ⟨S4x2x144x128, .f32⟩
  | _, _ => ⟨S2x16384x3352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 1, 32], ![false, false, false]⟩

@[reducible] def k0_t1_loop : Scf.Loop 32 :=
  let c0_i32_21 : BitVec 32 := 0#32
  let c4_i32_22 : BitVec 32 := 4#32
  let v43 : BitVec 32 := Scalar.addi c0_i32_21 c4_i32_22
  let c1_i32 : BitVec 32 := 1#32
  ⟨c0_i32_21, v43, c1_i32⟩
def k0_mult1 (k0_t1 : Fin k0_t1_loop.trips) : BitVec 32 :=
  let c0_i32_21 : BitVec 32 := 0#32
  let c1_i32 : BitVec 32 := 1#32
  let arg12 : BitVec 32 := Scf.iv c0_i32_21 c1_i32 k0_t1
  let c128_i32 : BitVec 32 := 128#32
  let v57 : BitVec 32 := Scalar.muli arg12 c128_i32
  v57
def k0_off1 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32 : BitVec 32 := 128#32
  let v57 : BitVec 32 := Scalar.muli arg12 c128_i32
  let v58 : BitVec 32 := v57
  let v59 : Index := Scalar.indexCast v58
  let c0_36 : Index := 0#32
  ![v59.toNat, 0]
def k0_off2 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32 : BitVec 32 := 128#32
  let v57 : BitVec 32 := Scalar.muli arg12 c128_i32
  let v58 : BitVec 32 := v57
  let v248 : Index := Scalar.indexCast v58
  let c128 : Index := 128#32
  ![v248.toNat, 128]
def k0_off3 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32 : BitVec 32 := 128#32
  let v57 : BitVec 32 := Scalar.muli arg12 c128_i32
  let v58 : BitVec 32 := v57
  let v437 : Index := Scalar.indexCast v58
  let c256 : Index := 256#32
  ![v437.toNat, 256]
def k0_off4 (k0_t1 : Fin k0_t1_loop.trips) : Fin 2 → Nat :=
  let c0_i32_21 : BitVec 32 := 0#32
  let c1_i32 : BitVec 32 := 1#32
  let arg12 : BitVec 32 := Scf.iv c0_i32_21 c1_i32 k0_t1
  let c128_i32 : BitVec 32 := 128#32
  let v57 : BitVec 32 := Scalar.muli arg12 c128_i32
  let v58 : BitVec 32 := v57
  let v626 : Index := Scalar.indexCast v58
  let c384 : Index := 384#32
  ![v626.toNat, 384]
@[reducible] def k0_t2_loop : Scf.Loop 32 :=
  let c0_i32_21 : BitVec 32 := 0#32
  let c4_i32_22 : BitVec 32 := 4#32
  let v43 : BitVec 32 := Scalar.addi c0_i32_21 c4_i32_22
  let c1_i32 : BitVec 32 := 1#32
  ⟨c0_i32_21, v43, c1_i32⟩
def k0_mult2 (k0_t2 : Fin k0_t2_loop.trips) : BitVec 32 :=
  let c0_i32_21 : BitVec 32 := 0#32
  let c1_i32 : BitVec 32 := 1#32
  let arg12 : BitVec 32 := Scf.iv c0_i32_21 c1_i32 k0_t2
  let c128_i32 : BitVec 32 := 128#32
  let v57 : BitVec 32 := Scalar.muli arg12 c128_i32
  v57
def k0_off5 (k0_t2 : Fin k0_t2_loop.trips) : Fin 2 → Nat :=
  let c0_i32_21 : BitVec 32 := 0#32
  let c1_i32 : BitVec 32 := 1#32
  let arg12 : BitVec 32 := Scf.iv c0_i32_21 c1_i32 k0_t2
  let c128_i32 : BitVec 32 := 128#32
  let v57 : BitVec 32 := Scalar.muli arg12 c128_i32
  let v58 : BitVec 32 := v57
  let v59 : Index := Scalar.indexCast v58
  let c0_36 : Index := 0#32
  ![v59.toNat, 0]
def k0_off6 (k0_t2 : Fin k0_t2_loop.trips) : Fin 2 → Nat :=
  let c0_i32_21 : BitVec 32 := 0#32
  let c1_i32 : BitVec 32 := 1#32
  let arg12 : BitVec 32 := Scf.iv c0_i32_21 c1_i32 k0_t2
  let c128_i32 : BitVec 32 := 128#32
  let v57 : BitVec 32 := Scalar.muli arg12 c128_i32
  let v58 : BitVec 32 := v57
  let v516 : Index := Scalar.indexCast v58
  let c128 : Index := 128#32
  ![v516.toNat, 128]
def k0_off7 (k0_t2 : Fin k0_t2_loop.trips) : Fin 2 → Nat :=
  let c0_i32_21 : BitVec 32 := 0#32
  let c1_i32 : BitVec 32 := 1#32
  let arg12 : BitVec 32 := Scf.iv c0_i32_21 c1_i32 k0_t2
  let c128_i32 : BitVec 32 := 128#32
  let v57 : BitVec 32 := Scalar.muli arg12 c128_i32
  let v58 : BitVec 32 := v57
  let v973 : Index := Scalar.indexCast v58
  let c256 : Index := 256#32
  ![v973.toNat, 256]
def k0_off8 (k0_t2 : Fin k0_t2_loop.trips) : Fin 2 → Nat :=
  let c0_i32_21 : BitVec 32 := 0#32
  let c1_i32 : BitVec 32 := 1#32
  let arg12 : BitVec 32 := Scf.iv c0_i32_21 c1_i32 k0_t2
  let c128_i32 : BitVec 32 := 128#32
  let v57 : BitVec 32 := Scalar.muli arg12 c128_i32
  let v58 : BitVec 32 := v57
  let v1430 : Index := Scalar.indexCast v58
  let c384 : Index := 384#32
  ![v1430.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x16384x3352 : Shape := ⟨3, ![2, 16384, 3352]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S2x16384x512 : Shape := ⟨3, ![2, 16384, 512]⟩
abbrev S2x16384x4x128 : Shape := ⟨4, ![2, 16384, 4, 128]⟩
abbrev S4x128 : Shape := ⟨2, ![4, 128]⟩
abbrev S1x1x4x128 : Shape := ⟨4, ![1, 1, 4, 128]⟩
abbrev S2x4x128x128 : Shape := ⟨4, ![2, 4, 128, 128]⟩
abbrev S16384x2x4x128 : Shape := ⟨4, ![16384, 2, 4, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S2x4x1x128 : Shape := ⟨4, ![2, 4, 1, 128]⟩
abbrev S2x16384x4 : Shape := ⟨3, ![2, 16384, 4]⟩
abbrev S2x16384x4x1 : Shape := ⟨4, ![2, 16384, 4, 1]⟩
abbrev S128 : Shape := ⟨1, ![128]⟩
abbrev S1x1x1x128 : Shape := ⟨4, ![1, 1, 1, 128]⟩
abbrev S32768x512 : Shape := ⟨2, ![32768, 512]⟩

abbrev nBuf : Space → Nat
  | .hbm => 154
  | .vmem => 0
  | .smem => 0
  | _ => 0

abbrev hbmTy0_0 (i : Nat) : BufTy := match i % 128 with
  | 0 => ⟨S2x16384x3352, .f32⟩
  | 1 => ⟨S2x512, .f32⟩
  | 2 => ⟨S1x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S2x16384x512, .f32⟩
  | 21 => ⟨S2x16384x512, .f32⟩
  | 22 => ⟨S2x16384x512, .f32⟩
  | 23 => ⟨S2x16384x4x128, .f32⟩
  | 24 => ⟨S2x16384x4x128, .f32⟩
  | 25 => ⟨S2x16384x4x128, .f32⟩
  | 26 => ⟨S1x512, .f32⟩
  | 27 => ⟨S512, .f32⟩
  | 28 => ⟨S4x128, .f32⟩
  | 29 => ⟨S4x128, .f32⟩
  | 30 => ⟨S4x128, .f32⟩
  | 31 => ⟨S4x128, .f32⟩
  | 32 => ⟨S2x16384x4x128, .f32⟩
  | 33 => ⟨S_, .f32⟩
  | 34 => ⟨S2x16384x4x128, .f32⟩
  | 35 => ⟨S2x16384x4x128, .f32⟩
  | 36 => ⟨S2x16384x4x128, .f32⟩
  | 37 => ⟨S2x16384x4x128, .f32⟩
  | 38 => ⟨S2x16384x4x128, .i1⟩
  | 39 => ⟨S2x16384x4x128, .f32⟩
  | 40 => ⟨S2x16384x4x128, .f32⟩
  | 41 => ⟨S2x16384x4x128, .f32⟩
  | 42 => ⟨S2x16384x4x128, .f32⟩
  | 43 => ⟨S2x16384x4x128, .f32⟩
  | 44 => ⟨S2x16384x4x128, .f32⟩
  | 45 => ⟨S2x16384x4x128, .f32⟩
  | 46 => ⟨S2x16384x4x128, .f32⟩
  | 47 => ⟨S2x16384x4x128, .f32⟩
  | 48 => ⟨S1x1x4x128, .f32⟩
  | 49 => ⟨S2x16384x4x128, .f32⟩
  | 50 => ⟨S2x16384x4x128, .f32⟩
  | 51 => ⟨S1x1x4x128, .f32⟩
  | 52 => ⟨S2x16384x4x128, .f32⟩
  | 53 => ⟨S2x16384x4x128, .f32⟩
  | 54 => ⟨S2x16384x4x128, .f32⟩
  | 55 => ⟨S2x16384x4x128, .f32⟩
  | 56 => ⟨S2x16384x4x128, .i1⟩
  | 57 => ⟨S2x16384x4x128, .f32⟩
  | 58 => ⟨S2x16384x4x128, .f32⟩
  | 59 => ⟨S2x16384x4x128, .f32⟩
  | 60 => ⟨S2x16384x4x128, .f32⟩
  | 61 => ⟨S2x16384x4x128, .f32⟩
  | 62 => ⟨S2x16384x4x128, .f32⟩
  | 63 => ⟨S2x16384x4x128, .f32⟩
  | 64 => ⟨S2x16384x4x128, .f32⟩
  | 65 => ⟨S2x16384x4x128, .f32⟩
  | 66 => ⟨S2x16384x4x128, .f32⟩
  | 67 => ⟨S2x16384x4x128, .f32⟩
  | 68 => ⟨S_, .f32⟩
  | 69 => ⟨S2x4x128x128, .f32⟩
  | 70 => ⟨S16384x2x4x128, .f32⟩
  | 71 => ⟨S16384x2x4x128, .f32⟩
  | 72 => ⟨S16384x2x4x128, .f32⟩
  | 73 => ⟨S16384x2x4x128, .f32⟩
  | 74 => ⟨S_, .f32⟩
  | 75 => ⟨S16384x2x4x128, .f32⟩
  | 76 => ⟨S_, .i32⟩
  | 77 => ⟨S16384x2x4x128, .f32⟩
  | 78 => ⟨S16384x2x4x128, .f32⟩
  | 79 => ⟨S16384x2x4x128, .f32⟩
  | 80 => ⟨S16384x2x4x128, .f32⟩
  | 81 => ⟨S_, .i32⟩
  | 82 => ⟨S2x4x128x128, .f32⟩
  | 83 => ⟨S16384x2x4x128, .f32⟩
  | 84 => ⟨S_, .i32⟩
  | 85 => ⟨S_, .i1⟩
  | 86 => ⟨S_, .i32⟩
  | 87 => ⟨S_, .i32⟩
  | 88 => ⟨S_, .i32⟩
  | 89 => ⟨S1x2x4x128, .f32⟩
  | 90 => ⟨S2x4x128, .f32⟩
  | 91 => ⟨S_, .i32⟩
  | 92 => ⟨S_, .i32⟩
  | 93 => ⟨S_, .i32⟩
  | 94 => ⟨S1x2x4x128, .f32⟩
  | 95 => ⟨S2x4x128, .f32⟩
  | 96 => ⟨S_, .i32⟩
  | 97 => ⟨S_, .i32⟩
  | 98 => ⟨S_, .i32⟩
  | 99 => ⟨S1x2x4x128, .f32⟩
  | 100 => ⟨S2x4x128, .f32⟩
  | 101 => ⟨S_, .i32⟩
  | 102 => ⟨S_, .i32⟩
  | 103 => ⟨S_, .i32⟩
  | 104 => ⟨S1x2x4x128, .f32⟩
  | 105 => ⟨S2x4x128, .f32⟩
  | 106 => ⟨S2x4x128x1, .f32⟩
  | 107 => ⟨S2x4x128x128, .f32⟩
  | 108 => ⟨S2x4x128x128, .f32⟩
  | 109 => ⟨S2x4x128x1, .f32⟩
  | 110 => ⟨S2x4x1x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S2x4x128, .f32⟩
  | 116 => ⟨S1x2x4x128, .f32⟩
  | 117 => ⟨S_, .i32⟩
  | 118 => ⟨S_, .i32⟩
  | 119 => ⟨S_, .i32⟩
  | 120 => ⟨S16384x2x4x128, .f32⟩
  | 121 => ⟨S_, .i32⟩
  | 122 => ⟨S_, .i32⟩
  | 123 => ⟨S2x16384x4x128, .f32⟩
  | 124 => ⟨S2x16384x4x128, .f32⟩
  | 125 => ⟨S_, .f32⟩
  | 126 => ⟨S2x16384x4, .f32⟩
  | 127 => ⟨S2x16384x4x1, .f32⟩
  | _ => ⟨S2x16384x3352, .f32⟩

abbrev hbmTy0_1 (i : Nat) : BufTy := match i % 128 with
  | 0 => ⟨S_, .f32⟩
  | 1 => ⟨S2x16384x4x1, .f32⟩
  | 2 => ⟨S2x16384x4x1, .f32⟩
  | 3 => ⟨S_, .f32⟩
  | 4 => ⟨S2x16384x4x1, .f32⟩
  | 5 => ⟨S2x16384x4x1, .f32⟩
  | 6 => ⟨S2x16384x4x1, .f32⟩
  | 7 => ⟨S2x16384x4x128, .f32⟩
  | 8 => ⟨S2x16384x4x128, .f32⟩
  | 9 => ⟨S128, .f32⟩
  | 10 => ⟨S1x1x1x128, .f32⟩
  | 11 => ⟨S2x16384x4x128, .f32⟩
  | 12 => ⟨S2x16384x4x128, .f32⟩
  | 13 => ⟨S2x16384x512, .f32⟩
  | 14 => ⟨S2x16384x4x128, .f32⟩
  | 15 => ⟨S2x16384x4x128, .f32⟩
  | 16 => ⟨S2x16384x4x128, .f32⟩
  | 17 => ⟨S_, .f32⟩
  | 18 => ⟨S2x16384x4x128, .f32⟩
  | 19 => ⟨S2x16384x4x128, .f32⟩
  | 20 => ⟨S_, .f32⟩
  | 21 => ⟨S2x16384x4x128, .f32⟩
  | 22 => ⟨S2x16384x4x128, .f32⟩
  | 23 => ⟨S2x16384x4x128, .f32⟩
  | 24 => ⟨S2x16384x4x128, .f32⟩
  | 25 => ⟨S32768x512, .f32⟩
  | _ => ⟨S2x16384x3352, .f32⟩

abbrev hbmTy (i : Nat) : BufTy := match i / 128 with
  | 0 => hbmTy0_0 i
  | 1 => hbmTy0_1 i
  | _ => ⟨S2x16384x3352, .f32⟩

abbrev bufTy : (tb : Table) → Fin (tcTables nBuf tb) → BufTy
  | .hbm, ⟨i, _⟩ => hbmTy i
  | _, _ => ⟨S2x16384x3352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_c : Ref sig .tc := ⟨.hbm, 76, rfl⟩
abbrev main_v51_0 : Ref sig .tc := ⟨.hbm, 77, rfl⟩
abbrev main_v51_1 : Ref sig .tc := ⟨.hbm, 78, rfl⟩
abbrev main_v51_2 : Ref sig .tc := ⟨.hbm, 79, rfl⟩
abbrev main_v51_3 : Ref sig .tc := ⟨.hbm, 80, rfl⟩
abbrev main_v51_4 : Ref sig .tc := ⟨.hbm, 81, rfl⟩
abbrev main_v51_5 : Ref sig .tc := ⟨.hbm, 82, rfl⟩
abbrev main_v51_6 : Ref sig .tc := ⟨.hbm, 83, rfl⟩
abbrev main_while0c_c_13 : Ref sig .tc := ⟨.hbm, 84, rfl⟩
abbrev main_while0c_v72 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_v0 : Ref sig .tc := ⟨.hbm, 89, rfl⟩
abbrev main_while0b_v72 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_v0 : Ref sig .tc := ⟨.hbm, 94, rfl⟩
abbrev main_while0b_v73 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_v0 : Ref sig .tc := ⟨.hbm, 99, rfl⟩
abbrev main_while0b_v74 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_v0 : Ref sig .tc := ⟨.hbm, 104, rfl⟩
abbrev main_while0b_v75 : Ref sig .tc := ⟨.hbm, 105, rfl⟩
abbrev main_while0b_v76 : Ref sig .tc := ⟨.hbm, 106, rfl⟩
abbrev main_while0b_v77 : Ref sig .tc := ⟨.hbm, 107, rfl⟩
abbrev main_while0b_v78 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_call6_v0 : Ref sig .tc := ⟨.hbm, 116, rfl⟩
abbrev main_while0b_call6_c : Ref sig .tc := ⟨.hbm, 117, rfl⟩
abbrev main_while0b_call6_c_0 : Ref sig .tc := ⟨.hbm, 118, rfl⟩
abbrev main_while0b_call6_c_1 : Ref sig .tc := ⟨.hbm, 119, rfl⟩
abbrev main_while0b_v86 : Ref sig .tc := ⟨.hbm, 120, rfl⟩
abbrev main_while0b_c_13 : Ref sig .tc := ⟨.hbm, 121, rfl⟩
abbrev main_while0b_v87 : Ref sig .tc := ⟨.hbm, 122, rfl⟩
abbrev main_v52 : Ref sig .tc := ⟨.hbm, 123, rfl⟩
abbrev main_v53 : Ref sig .tc := ⟨.hbm, 124, rfl⟩
abbrev main_cst_4 : Ref sig .tc := ⟨.hbm, 125, rfl⟩
abbrev main_v54 : Ref sig .tc := ⟨.hbm, 126, rfl⟩
abbrev main_v55 : Ref sig .tc := ⟨.hbm, 127, rfl⟩
abbrev main_cst_5 : Ref sig .tc := ⟨.hbm, 128, rfl⟩
abbrev main_v56 : Ref sig .tc := ⟨.hbm, 129, rfl⟩
abbrev main_v57 : Ref sig .tc := ⟨.hbm, 130, rfl⟩
abbrev main_cst_6 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S1x1024x3352 : Shape := ⟨3, ![1, 1024, 3352]⟩
abbrev S32768x1024 : Shape := ⟨2, ![32768, 1024]⟩
abbrev S1024x3352 : Shape := ⟨2, ![1024, 3352]⟩
abbrev S1024x512 : Shape := ⟨2, ![1024, 512]⟩
abbrev S1024x2048 : Shape := ⟨2, ![1024, 2048]⟩
abbrev S1024x768 : Shape := ⟨2, ![1024, 768]⟩
abbrev S1024x24 : Shape := ⟨2, ![1024, 24]⟩
abbrev S_ : Shape := ⟨0, ![]⟩
abbrev S1024x104 : Shape := ⟨2, ![1024, 104]⟩
abbrev S1024x3456 : Shape := ⟨2, ![1024, 3456]⟩
abbrev S32768x3456 : Shape := ⟨2, ![32768, 3456]⟩
abbrev S2x2x16384x128 : Shape := ⟨4, ![2, 2, 16384, 128]⟩
abbrev S2x2x16384x64 : Shape := ⟨4, ![2, 2, 16384, 64]⟩
abbrev S2x2x80x16384 : Shape := ⟨4, ![2, 2, 80, 16384]⟩
abbrev S256x1024 : Shape := ⟨2, ![256, 1024]⟩
abbrev S256x3456 : Shape := ⟨2, ![256, 3456]⟩
abbrev S1x2x256x128 : Shape := ⟨4, ![1, 2, 256, 128]⟩
abbrev S1x2x256x64 : Shape := ⟨4, ![1, 2, 256, 64]⟩
abbrev S1x2x80x256 : Shape := ⟨4, ![1, 2, 80, 256]⟩
abbrev S256x1 : Shape := ⟨2, ![256, 1]⟩
abbrev S1x64 : Shape := ⟨2, ![1, 64]⟩
abbrev S256x64 : Shape := ⟨2, ![256, 64]⟩
abbrev S16x256 : Shape := ⟨2, ![16, 256]⟩
abbrev S256x128 : Shape := ⟨2, ![256, 128]⟩
abbrev S128x256 : Shape := ⟨2, ![128, 256]⟩
abbrev S1x1x256x128 : Shape := ⟨4, ![1, 1, 256, 128]⟩
abbrev S1x1x256x64 : Shape := ⟨4, ![1, 1, 256, 64]⟩
abbrev S64x256 : Shape := ⟨2, ![64, 256]⟩
abbrev S80x256 : Shape := ⟨2, ![80, 256]⟩
abbrev S1x1x80x256 : Shape := ⟨4, ![1, 1, 80, 256]⟩

abbrev nBuf : Space → Nat
  | .hbm => 17
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3352, .f32⟩
  | .hbm, ⟨2, _⟩ => ⟨S32768x1024, .f32⟩
  | .hbm, ⟨3, _⟩ => ⟨S1024x3352, .f32⟩
  | .hbm, ⟨4, _⟩ => ⟨S1024x512, .f32⟩
  | .hbm, ⟨5, _⟩ => ⟨S1024x2048, .f32⟩
  | .hbm, ⟨6, _⟩ => ⟨S1024x768, .f32⟩
  | .hbm, ⟨7, _⟩ => ⟨S1024x24, .f32⟩
  | .hbm, ⟨8, _⟩ => ⟨S_, .f32⟩
  | .hbm, ⟨9, _⟩ => ⟨S1024x104, .f32⟩
  | .hbm, ⟨10, _⟩ => ⟨S1024x3456, .f32⟩
  | .hbm, ⟨11, _⟩ => ⟨S1024x3456, .bf16⟩
  | .hbm, ⟨12, _⟩ => ⟨S32768x3456, .f32⟩
  | .hbm, ⟨13, _⟩ => ⟨S2x2x16384x128, .bf16⟩
  | .hbm, ⟨14, _⟩ => ⟨S2x2x16384x64, .bf16⟩
  | .hbm, ⟨15, _⟩ => ⟨S2x2x80x16384, .bf16⟩
  | .hbm, ⟨16, _⟩ => ⟨S2x2x80x16384, .bf16⟩
  | .local _ .vmem, ⟨0, _⟩ => ⟨S256x1024, .f32⟩
  | .local _ .vmem, ⟨1, _⟩ => ⟨S256x1024, .f32⟩
  | .local _ .vmem, ⟨2, _⟩ => ⟨S1024x3456, .bf16⟩
  | .local _ .vmem, ⟨3, _⟩ => ⟨S256x3456, .f32⟩
  | .local _ .vmem, ⟨4, _⟩ => ⟨S256x3456, .f32⟩
  | .local _ .vmem, ⟨5, _⟩ => ⟨S1x2x256x128, .bf16⟩
  | .local _ .vmem, ⟨6, _⟩ => ⟨S1x2x256x128, .bf16⟩
  | .local _ .vmem, ⟨7, _⟩ => ⟨S1x2x256x64, .bf16⟩
  | .local _ .vmem, ⟨8, _⟩ => ⟨S1x2x256x64, .bf16⟩
  | .local _ .vmem, ⟨9, _⟩ => ⟨S1x2x80x256, .bf16⟩
  | .local _ .vmem, ⟨10, _⟩ => ⟨S1x2x80x256, .bf16⟩
  | .local _ .vmem, ⟨11, _⟩ => ⟨S1x2x80x256, .bf16⟩
  | .local _ .vmem, ⟨12, _⟩ => ⟨S1x2x80x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_6 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3456 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x1024 : Shape := ⟨3, ![2, 16384, 1024]⟩
abbrev S1x1024x3352 : Shape := ⟨3, ![1, 1024, 3352]⟩
abbrev S1024x3352 : Shape := ⟨2, ![1024, 3352]⟩
abbrev S2x16384x3352 : Shape := ⟨3, ![2, 16384, 3352]⟩
abbrev S2x16384x512 : Shape := ⟨3, ![2, 16384, 512]⟩
abbrev S2x16384x768 : Shape := ⟨3, ![2, 16384, 768]⟩
abbrev S2x16384x24 : Shape := ⟨3, ![2, 16384, 24]⟩
abbrev S2x16384x2048 : Shape := ⟨3, ![2, 16384, 2048]⟩
abbrev S2x16384x128 : Shape := ⟨3, ![2, 16384, 128]⟩
abbrev S16384 : Shape := ⟨1, ![16384]⟩
abbrev S_ : Shape := ⟨0, ![]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S2x16384x2x64 : Shape := ⟨4, ![2, 16384, 2, 64]⟩
abbrev S2x2x16384x64 : Shape := ⟨4, ![2, 2, 16384, 64]⟩
abbrev S2x2x16384x128 : Shape := ⟨4, ![2, 2, 16384, 128]⟩
abbrev S16 : Shape := ⟨1, ![16]⟩
abbrev S16x1 : Shape := ⟨2, ![16, 1]⟩
abbrev S2x2x16x16384 : Shape := ⟨4, ![2, 2, 16, 16384]⟩
abbrev S2x16384x104 : Shape := ⟨3, ![2, 16384, 104]⟩
abbrev S2x16384x3456 : Shape := ⟨3, ![2, 16384, 3456]⟩
abbrev S2x2x64x16384 : Shape := ⟨4, ![2, 2, 64, 16384]⟩
abbrev S2x2x80x16384 : Shape := ⟨4, ![2, 2, 80, 16384]⟩
abbrev S32768x3456 : Shape := ⟨2, ![32768, 3456]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024x3352, .f32⟩
  | .hbm, ⟨2, _⟩ => ⟨S1024x3352, .f32⟩
  | .hbm, ⟨3, _⟩ => ⟨S2x16384x3352, .f32⟩
  | .hbm, ⟨4, _⟩ => ⟨S2x16384x512, .f32⟩
  | .hbm, ⟨5, _⟩ => ⟨S2x16384x768, .f32⟩
  | .hbm, ⟨6, _⟩ => ⟨S2x16384x24, .f32⟩
  | .hbm, ⟨7, _⟩ => ⟨S2x16384x2048, .f32⟩
  | .hbm, ⟨8, _⟩ => ⟨S2x16384x128, .f32⟩
  | .hbm, ⟨9, _⟩ => ⟨S2x16384x128, .f32⟩
  | .hbm, ⟨10, _⟩ => ⟨S2x16384x128, .f32⟩
  | .hbm, ⟨11, _⟩ => ⟨S2x16384x128, .f32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S64, .i32⟩
  | .hbm, ⟨21, _⟩ => ⟨S1x64, .i32⟩
  | .hbm, ⟨22, _⟩ => ⟨S16384x64, .i32⟩
  | .hbm, ⟨23, _⟩ => ⟨S16384x64, .i32⟩
  | .hbm, ⟨24, _⟩ => ⟨S16384x64, .i1⟩
  | .hbm, ⟨25, _⟩ => ⟨S16384x64, .f32⟩
  | .hbm, ⟨26, _⟩ => ⟨S2x16384x2x64, .f32⟩
  | .hbm, ⟨27, _⟩ => ⟨S2x2x16384x64, .f32⟩
  | .hbm, ⟨28, _⟩ => ⟨S2x2x16384x64, .f32⟩
  | .hbm, ⟨29, _⟩ => ⟨S2x2x16384x128, .f32⟩
  | .hbm, ⟨30, _⟩ => ⟨S16, .i32⟩
  | .hbm, ⟨31, _⟩ => ⟨S16x1, .i32⟩
  | .hbm, ⟨32, _⟩ => ⟨S_, .i32⟩
  | .hbm, ⟨33, _⟩ => ⟨S16x1, .i32⟩
  | .hbm, ⟨34, _⟩ => ⟨S16x1, .i1⟩
  | .hbm, ⟨35, _⟩ => ⟨S16x1, .f32⟩
  | .hbm, ⟨36, _⟩ => ⟨S2x2x16x16384, .f32⟩
  | .hbm, ⟨37, _⟩ => ⟨S_, .f32⟩
  | .hbm, ⟨38, _⟩ => ⟨S2x16384x104, .f32⟩
  | .hbm, ⟨39, _⟩ => ⟨S2x16384x3456, .f32⟩
  | .hbm, ⟨40, _⟩ => ⟨S2x16384x2x64, .f32⟩
  | .hbm, ⟨41, _⟩ => ⟨S2x2x16384x64, .f32⟩
  | .hbm, ⟨42, _⟩ => ⟨S2x16384x2x64, .f32⟩
  | .hbm, ⟨43, _⟩ => ⟨S2x2x16384x64, .f32⟩
  | .hbm, ⟨44, _⟩ => ⟨S2x2x64x16384, .f32⟩
  | .hbm, ⟨45, _⟩ => ⟨S2x2x80x16384, .f32⟩
  | .hbm, ⟨46, _⟩ => ⟨S2x16384x2x64, .f32⟩
  | .hbm, ⟨47, _⟩ => ⟨S2x2x16384x64, .f32⟩
  | .hbm, ⟨48, _⟩ => ⟨S2x2x64x16384, .f32⟩
  | .hbm, ⟨49, _⟩ => ⟨S2x2x80x16384, .f32⟩
  | .hbm, ⟨50, _⟩ => ⟨S2x2x16384x128, .bf16⟩
  | .hbm, ⟨51, _⟩ => ⟨S2x2x16384x64, .bf16⟩
  | .hbm, ⟨52, _⟩ => ⟨S2x2x80x16384, .bf16⟩
  | .hbm, ⟨53, _⟩ => ⟨S2x2x80x16384, .bf16⟩
  | .hbm, ⟨54, _⟩ => ⟨S32768x3456, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Kernel3.lean ====
abbrev S2x16384x1024 : Shape := ⟨3, ![2, 16384, 1024]⟩
abbrev S512x2048 : Shape := ⟨2, ![512, 2048]⟩
abbrev S1x1024x1024 : Shape := ⟨3, ![1, 1024, 1024]⟩
abbrev S1x1024 : Shape := ⟨2, ![1, 1024]⟩
abbrev S512x1024 : Shape := ⟨2, ![512, 1024]⟩
abbrev S2x256x1024 : Shape := ⟨3, ![2, 256, 1024]⟩
abbrev S2x1024x256 : Shape := ⟨3, ![2, 1024, 256]⟩
abbrev S1024x1024 : Shape := ⟨2, ![1024, 1024]⟩
abbrev S1024 : Shape := ⟨1, ![1024]⟩
abbrev S1x512x1024 : Shape := ⟨3, ![1, 512, 1024]⟩
abbrev S1x1024x256 : Shape := ⟨3, ![1, 1024, 256]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 22
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S512x2048, .f32⟩
  | .hbm, ⟨2, _⟩ => ⟨S1x1024x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S512x1024, .f32⟩
  | .hbm, ⟨7, _⟩ => ⟨S2x256x1024, .f32⟩
  | .hbm, ⟨8, _⟩ => ⟨S2x1024x256, .f32⟩
  | .hbm, ⟨9, _⟩ => ⟨S2x1024x256, .bf16⟩
  | .hbm, ⟨10, _⟩ => ⟨S512x1024, .f32⟩
  | .hbm, ⟨11, _⟩ => ⟨S2x256x1024, .f32⟩
  | .hbm, ⟨12, _⟩ => ⟨S2x256x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x256x1024, .bf16⟩
  | .local _ .vmem, ⟨6, _⟩ => ⟨S1x256x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x16384x1024 : Shape := ⟨3, ![2, 16384, 1024]⟩
abbrev S512x2048 : Shape := ⟨2, ![512, 2048]⟩
abbrev S1x1024x1024 : Shape := ⟨3, ![1, 1024, 1024]⟩
abbrev S1x1024 : Shape := ⟨2, ![1, 1024]⟩
abbrev S1024x1024 : Shape := ⟨2, ![1024, 1024]⟩
abbrev S2x16384x4x256 : Shape := ⟨4, ![2, 16384, 4, 256]⟩
abbrev S512x1024 : Shape := ⟨2, ![512, 1024]⟩
abbrev S2x256x4x256 : Shape := ⟨4, ![2, 256, 4, 256]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S512x2048, .f32⟩
  | .hbm, ⟨2, _⟩ => ⟨S1x1024x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S2x16384x1024, .f32⟩
  | .hbm, ⟨8, _⟩ => ⟨S2x16384x4x256, .f32⟩
  | .hbm, ⟨9, _⟩ => ⟨S512x1024, .f32⟩
  | .hbm, ⟨10, _⟩ => ⟨S2x256x4x256, .f32⟩
  | .hbm, ⟨11, _⟩ => ⟨S512x1024, .f32⟩
  | .hbm, ⟨12, _⟩ => ⟨S2x256x4x256, .f32⟩
  | .hbm, ⟨13, _⟩ => ⟨S2x4x16384x256, .f32⟩
  | .hbm, ⟨14, _⟩ => ⟨S_, .f32⟩
  | .hbm, ⟨15, _⟩ => ⟨S2x4x16384x256, .f32⟩
  | .hbm, ⟨16, _⟩ => ⟨S2x4x16384x256, .f32⟩
  | .hbm, ⟨17, _⟩ => ⟨S_, .f32⟩
  | .hbm, ⟨18, _⟩ => ⟨S2x4x16384, .f32⟩
  | .hbm, ⟨19, _⟩ => ⟨S_, .f32⟩
  | .hbm, ⟨20, _⟩ => ⟨S2x4x16384, .f32⟩
  | .hbm, ⟨21, _⟩ => ⟨S2x4x16384, .f32⟩
  | .hbm, ⟨22, _⟩ => ⟨S2x4x16384x1, .f32⟩
  | .hbm, ⟨23, _⟩ => ⟨S2x4x16384x256, .f32⟩
  | .hbm, ⟨24, _⟩ => ⟨S2x4x16384x256, .f32⟩
  | .hbm, ⟨25, _⟩ => ⟨S2x4x16384x256, .f32⟩
  | .hbm, ⟨26, _⟩ => ⟨S_, .f32⟩
  | .hbm, ⟨27, _⟩ => ⟨S2x4x16384, .f32⟩
  | .hbm, ⟨28, _⟩ => ⟨S2x4x16384x1, .f32⟩
  | .hbm, ⟨29, _⟩ => ⟨S2x4x16384x256, .f32⟩
  | .hbm, ⟨30, _⟩ => ⟨S2x4x16384x256, .f32⟩
  | .hbm, ⟨31, _⟩ => ⟨S2x4x256x16384, .f32⟩
  | .hbm, ⟨32, _⟩ => ⟨S2x16384x4x256, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S1024x1024, .f32⟩
  | .hbm, ⟨38, _⟩ => ⟨S2x16384x1024, .f32⟩
  | .hbm, ⟨39, _⟩ => ⟨S2x16384x1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x16384, .f32⟩
  | .hbm, ⟨53, _⟩ => ⟨S2x16384x1, .f32⟩
  | .hbm, ⟨54, _⟩ => ⟨S_, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x1, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S2x16384x1024, .f32⟩
  | .hbm, ⟨67, _⟩ => ⟨S2x16384x1024, .f32⟩
  | .hbm, ⟨68, _⟩ => ⟨S1x1x1024, .f32⟩
  | .hbm, ⟨69, _⟩ => ⟨S2x16384x1024, .f32⟩
  | .hbm, ⟨70, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel4.lean ====
abbrev S32768x512 : Shape := ⟨2, ![32768, 512]⟩
abbrev S2x16384x1024 : Shape := ⟨3, ![2, 16384, 1024]⟩
abbrev S1x512 : Shape := ⟨2, ![1, 512]⟩
abbrev S1x1024x1024 : Shape := ⟨3, ![1, 1024, 1024]⟩
abbrev S1x1024 : Shape := ⟨2, ![1, 1024]⟩
abbrev S32768x1024 : Shape := ⟨2, ![32768, 1024]⟩
abbrev S1024x1024 : Shape := ⟨2, ![1024, 1024]⟩
abbrev S512 : Shape := ⟨1, ![512]⟩
abbrev S1024 : Shape := ⟨1, ![1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S2x16384x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S512, .f32⟩
  | .hbm, ⟨11, _⟩ => ⟨S1x512, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x512 : Shape := ⟨2, ![32768, 512]⟩
abbrev S2x16384x1024 : Shape := ⟨3, ![2, 16384, 1024]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S512 : Shape := ⟨1, ![512]⟩
abbrev S32768x1024 : Shape := ⟨2, ![32768, 1024]⟩
abbrev S1024x1024 : Shape := ⟨2, ![1024, 1024]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S2x16384x1024, .f32⟩
  | .hbm, ⟨3, _⟩ => ⟨S1x512, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S32768x512, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x512, .f32⟩
  | .hbm, ⟨19, _⟩ => ⟨S32768x512, .f32⟩
  | .hbm, ⟨20, _⟩ => ⟨S512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x1024, .f32⟩
  | .hbm, ⟨25, _⟩ => ⟨S1024x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S288 : Shape := ⟨1, ![288]⟩
abbrev S1 : Shape := ⟨1, ![1]⟩
abbrev S73728x1024 : Shape := ⟨2, ![73728, 1024]⟩
abbrev S32x1024x512 : Shape := ⟨3, ![32, 1024, 512]⟩
abbrev S32x512x1024 : Shape := ⟨3, ![32, 512, 1024]⟩
abbrev S288x256x1024 : Shape := ⟨3, ![288, 256, 1024]⟩
abbrev S288x1 : Shape := ⟨2, ![288, 1]⟩
abbrev S288x1024x512 : Shape := ⟨3, ![288, 1024, 512]⟩
abbrev S288x256x512 : Shape := ⟨3, ![288, 256, 512]⟩
abbrev S_ : Shape := ⟨0, ![]⟩
abbrev S288x512x1024 : Shape := ⟨3, ![288, 512, 1024]⟩
abbrev S288x1x1 : Shape := ⟨3, ![288, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S288x256x1024, .f32⟩
  | .hbm, ⟨7, _⟩ => ⟨S32x1024x512, .f32⟩
  | .hbm, ⟨8, _⟩ => ⟨S288x1, .i32⟩
  | .hbm, ⟨9, _⟩ => ⟨S288x1024x512, .f32⟩
  | .hbm, ⟨10, _⟩ => ⟨S288x256x512, .f32⟩
  | .hbm, ⟨11, _⟩ => ⟨S32x1024x512, .f32⟩
  | .hbm, ⟨12, _⟩ => ⟨S288x1, .i32⟩
  | .hbm, ⟨13, _⟩ => ⟨S288x1024x512, .f32⟩
  | .hbm, ⟨14, _⟩ => ⟨S288x256x512, .f32⟩
  | .hbm, ⟨15, _⟩ => ⟨S288x256x512, .f32⟩
  | .hbm, ⟨16, _⟩ => ⟨S288x256x512, .f32⟩
  | .hbm, ⟨17, _⟩ => ⟨S_, .f32⟩
  | .hbm, ⟨18, _⟩ => ⟨S288x256x512, .f32⟩
  | .hbm, ⟨19, _⟩ => ⟨S288x256x512, .f32⟩
  | .hbm, ⟨20, _⟩ => ⟨S_, .f32⟩
  | .hbm, ⟨21, _⟩ => ⟨S288x256x512, .f32⟩
  | .hbm, ⟨22, _⟩ => ⟨S288x256x512, .f32⟩
  | .hbm, ⟨23, _⟩ => ⟨S288x256x512, .f32⟩
  | .hbm, ⟨24, _⟩ => ⟨S288x256x512, .f32⟩
  | .hbm, ⟨25, _⟩ => ⟨S32x512x1024, .f32⟩
  | .hbm, ⟨26, _⟩ => ⟨S288x1, .i32⟩
  | .hbm, ⟨27, _⟩ => ⟨S288x512x1024, .f32⟩
  | .hbm, ⟨28, _⟩ => ⟨S288x256x1024, .f32⟩
  | .hbm, ⟨29, _⟩ => ⟨S288, .i32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S288x1x1, .i1⟩
  | .hbm, ⟨34, _⟩ => ⟨S_, .f32⟩
  | .hbm, ⟨35, _⟩ => ⟨S_, .f32⟩
  | .hbm, ⟨36, _⟩ => ⟨S288x256x1024, .i1⟩
  | .hbm, ⟨37, _⟩ => ⟨S288x256x1024, .f32⟩
  | .hbm, ⟨38, _⟩ => ⟨S288x256x1024, .f32⟩
  | .hbm, ⟨39, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Proof.Run.lean ====
module

public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch that clears the state, at the first point of a batch. -/
abbrev cond0_0 (i : grid0.Coords) : Prop := (Scalar.cmpi .ne (Scalar.extui (Scalar.cmpi .eq (BitVec.ofNat 32 (i 2).val) 0#32)) 0#32) = 1#1

/-- The body's opening conditional, before a program `p`: at a sequence's first point both carried buffers are filled with zeros. -/
noncomputable def bodyHead (i : grid0.Coords) (arg10 : Memref sig .tc .vmem S4x128x128 .f32) (arg11 : Memref sig .tc .vmem S4x2x144x128 .f32)
    (p : Prog (TpuEff nD τ sig (Elt F) Λ₀ .tc) PUnit) : Prog (TpuEff nD τ sig (Elt F) Λ₀ .tc) PUnit :=
  if _h : cond0_0 i then do
    let _v : Vec F S4x128x128 .f32 ← Prog.lift (.load arg10 (Rect.unit (s := S4x128x128) ![0, 0, 0] S4x128x128.size inb_S4x128x128_S4x128x128_0_0_0).toLoadRect (View.loadsAt_vmem h_S4x128x128))
    Prog.lift (.store arg10 (Rect.unit (s := S4x128x128) ![0, 0, 0] S4x128x128.size inb_S4x128x128_S4x128x128_0_0_0) (k0_pay1 (F := F)) Finset.univ (View.stores_vmem_bits_univ h_S4x128x128 rfl) (.inl rfl))
    let _w : Vec F S4x2x144x128 .f32 ← Prog.lift (.load arg11 (Rect.unit (s := S4x2x144x128) ![0, 0, 0, 0] S4x2x144x128.size inb_S4x2x144x128_S4x2x144x128_0_0_0_0).toLoadRect (View.loadsAt_vmem h_S4x2x144x128))
    Prog.lift (.store arg11 (Rect.unit (s := S4x2x144x128) ![0, 0, 0, 0] S4x2x144x128.size inb_S4x2x144x128_S4x2x144x128_0_0_0_0) (k0_pay2 (F := F)) Finset.univ (View.stores_vmem_bits_univ h_S4x2x144x128 rfl) (.inl rfl))
    p
  else p

/-- The kernel's body after its opening conditional, with the equation that splits the body. -/
noncomputable def bodyRest (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) :
    { p : Prog (TpuEff nD τ sig (Elt F) Λ₀ .tc) PUnit // cc0_hgrn_skel (F := F) i arg3 harg3 arg4 harg4 arg5 harg5 arg6 harg6 arg7 harg7 arg8 harg8 arg9 harg9 arg10 harg10 arg11 harg11 = bodyHead (F := F) i arg10 arg11 p } := by
  refine ⟨?_, ?h⟩
  case h =>
    unfold cc0_hgrn_skel bodyHead
    exact rfl

/-- The body's second condition: the least lower bound is above the limit at which a block's exponents may be factored. -/
abbrev cond0_1 (x4 : Vec F S4x1x128 .f32) : Prop := (Scalar.cmpi .ne (Scalar.extui (Scalar.cmpf .ogt (k0_pay10 x4) (Scalar.ofBits .f32 0x3CC0A84A#32))) 0#32) = 1#1

/-- The outputs and the carried states after the loop of the branch for large lower bounds. -/
noncomputable abbrev stT (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 : Vec F S512x512 .f32) (x1 : Vec F S512x512 .f32) (x2 : Vec F S512x512 .f32) (x3 : Vec F S512x512 .f32) (x4 : Vec F S4x1x128 .f32) (x5 : Vec F S1x128 .f32) (s10 : Vec F S4x128x128 .f32) :=
  st_k0_t1 (F := F) Variants.none c none i arg3 harg3 arg4 harg4 arg5 harg5 arg6 harg6 arg7 harg7 arg8 harg8 arg9 harg9 arg10 harg10 arg11 harg11 (View.readAt (Elt F) arg8.view (Rect.unit (s := S1x128) ![0, 0] S1x128.size inb_S1x128_S1x128_0_0).toLoadRect (harg8.unread x5)) (harg3.unread x0) (harg4.unread x1) (harg5.unread x2) (harg6.unread x3) (harg7.unread x4) (k0_pay11 (View.readAt (Elt F) arg10.view (Rect.unit (s := S4x128x128) ![0, 0, 0] S1x128x128.size inb_S4x128x128_S1x128x128_0_0_0).toLoadRect (harg10.unread s10)), k0_pay12 (View.readAt (Elt F) arg10.view (Rect.unit (s := S4x128x128) ![1, 0, 0] S1x128x128.size inb_S4x128x128_S1x128x128_1_0_0).toLoadRect (harg10.unread s10)), k0_pay13 (View.readAt (Elt F) arg10.view (Rect.unit (s := S4x128x128) ![2, 0, 0] S1x128x128.size inb_S4x128x128_S1x128x128_2_0_0).toLoadRect (harg10.unread s10)), k0_pay14 (View.readAt (Elt F) arg10.view (Rect.unit (s := S4x128x128) ![3, 0, 0] S1x128x128.size inb_S4x128x128_S1x128x128_3_0_0).toLoadRect (harg10.unread s10))) (Scf.trips k0_t1_loop.lb k0_t1_loop.ub k0_t1_loop.st)

/-- The four written-back states of `stT`, last first. -/
noncomputable abbrev backT (V : Vec F S128x128 .f32 × Vec F S128x128 .f32 × Vec F S128x128 .f32 × Vec F S128x128 .f32) : List (View.Piece (Elt F) S4x128x128 .f32) :=
  [⟨Rect.unit ![3, 0, 0] S1x128x128.size inb_S4x128x128_S1x128x128_3_0_0, k0_pay18 V.2.2.2⟩, ⟨Rect.unit ![2, 0, 0] S1x128x128.size inb_S4x128x128_S1x128x128_2_0_0, k0_pay17 V.2.2.1⟩,
   ⟨Rect.unit ![1, 0, 0] S1x128x128.size inb_S4x128x128_S1x128x128_1_0_0, k0_pay16 V.2.1⟩, ⟨Rect.unit ![0, 0, 0] S1x128x128.size inb_S4x128x128_S1x128x128_0_0_0, k0_pay15 V.1⟩]

set_option maxHeartbeats 2000000 in
/-- The point's run in that branch. -/
theorem runT (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 : Vec F S512x512 .f32) (x1 : Vec F S512x512 .f32) (x2 : Vec F S512x512 .f32) (x3 : Vec F S512x512 .f32) (x4 : Vec F S4x1x128 .f32) (x5 : Vec F S1x128 .f32) (hc1 : cond0_1 x4)
    (s10 : Vec F S4x128x128 .f32) (s11 : Vec F S4x2x144x128 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s10 ∗ owns (c : Thread nD τ) arg11 fullShare s11
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f (stT c i arg3 harg3 arg4 harg4 arg5 harg5 arg6 harg6 arg7 harg7 arg8 harg8 arg9 harg9 arg10 harg10 arg11 harg11 x0 x1 x2 x3 x4 x5 s10).2) ∗ (arg10.view.loc (c : Thread nD τ) ↦[arg10.view.set]{fullShare} arg10.view.writes (Elt F) (harg10.unread s10) (backT (stT c i arg3 harg3 arg4 harg4 arg5 harg5 arg6 harg6 arg7 harg7 arg8 harg8 arg9 harg9 arg10 harg10 arg11 harg11 x0 x1 x2 x3 x4 x5 s10).1)) ∗ owns (c : Thread nD τ) arg11 fullShare s11) -∗ K ⟨⟩))
          ⊢ wp frame (wpE (defs₀ (F := F)) Variants.none c none) E (bodyRest (F := F) i arg3 harg3 arg4 harg4 arg5 harg5 arg6 harg6 arg7 harg7 arg8 harg8 arg9 harg9 arg10 harg10 arg11 harg11).1 K := by
    unfold bodyRest
    dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8
    have e7 : View.readAt (Elt F) arg7.view (Rect.unit ![0, 0, 0] ![4, 1, 128] inb_S4x1x128_S4x1x128_0_0_0).toLoadRect (harg7.unread x4) = x4 :=
      (View.readAt_full _ _ _).trans (harg7.read_unread _)
    have hc2 := hc1; rw [← e7] at hc2
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists f6; iexact H6
    isplitl [HS0]; · iexact HS0
    iexists _; isplitr; · ipureintro; exact harg11.read_unread _
    iexact HS1

/-- The outputs and the carried states after the loop of the other branch. -/
noncomputable abbrev stF (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 : Vec F S512x512 .f32) (x1 : Vec F S512x512 .f32) (x2 : Vec F S512x512 .f32) (x3 : Vec F S512x512 .f32) (x4 : Vec F S4x1x128 .f32) (x5 : Vec F S1x128 .f32) (s10 : Vec F S4x128x128 .f32) (d9 : Vec F S512x512 .f32) (s11 : Vec F S4x2x144x128 .f32) :=
  st_k0_t2 (F := F) Variants.none c none i arg3 harg3 arg4 harg4 arg5 harg5 arg6 harg6 arg7 harg7 arg8 harg8 arg9 harg9 arg10 harg10 arg11 harg11 (View.readAt (Elt F) arg8.view (Rect.unit (s := S1x128) ![0, 0] S1x128.size inb_S1x128_S1x128_0_0).toLoadRect (harg8.unread x5)) (harg3.unread x0) (harg4.unread x1) (harg5.unread x2) (harg6.unread x3) (harg7.unread x4) (harg9.unread d9) (harg11.unread s11) (k0_pay19 (View.readAt (Elt F) arg10.view (Rect.unit (s := S4x128x128) ![0, 0, 0] S1x128x128.size inb_S4x128x128_S1x128x128_0_0_0).toLoadRect (harg10.unread s10)), k0_pay20 (View.readAt (Elt F) arg10.view (Rect.unit (s := S4x128x128) ![1, 0, 0] S1x128x128.size inb_S4x128x128_S1x128x128_1_0_0).toLoadRect (harg10.unread s10)), k0_pay21 (View.readAt (Elt F) arg10.view (Rect.unit (s := S4x128x128) ![2, 0, 0] S1x128x128.size inb_S4x128x128_S1x128x128_2_0_0).toLoadRect (harg10.unread s10)), k0_pay22 (View.readAt (Elt F) arg10.view (Rect.unit (s := S4x128x128) ![3, 0, 0] S1x128x128.size inb_S4x128x128_S1x128x128_3_0_0).toLoadRect (harg10.unread s10))) (Scf.trips k0_t2_loop.lb k0_t2_loop.ub k0_t2_loop.st)

/-- The four written-back states of `stF`, last first. -/
noncomputable abbrev backF (V : Vec F S128x128 .f32 × Vec F S128x128 .f32 × Vec F S128x128 .f32 × Vec F S128x128 .f32) : List (View.Piece (Elt F) S4x128x128 .f32) :=
  [⟨Rect.unit ![3, 0, 0] S1x128x128.size inb_S4x128x128_S1x128x128_3_0_0, k0_pay26 V.2.2.2⟩, ⟨Rect.unit ![2, 0, 0] S1x128x128.size inb_S4x128x128_S1x128x128_2_0_0, k0_pay25 V.2.2.1⟩,
   ⟨Rect.unit ![1, 0, 0] S1x128x128.size inb_S4x128x128_S1x128x128_1_0_0, k0_pay24 V.2.1⟩, ⟨Rect.unit ![0, 0, 0] S1x128x128.size inb_S4x128x128_S1x128x128_0_0_0, k0_pay23 V.1⟩]

set_option maxHeartbeats 2000000 in
/-- The point's run in that branch. -/
theorem runF (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 : Vec F S512x512 .f32) (x1 : Vec F S512x512 .f32) (x2 : Vec F S512x512 .f32) (x3 : Vec F S512x512 .f32) (x4 : Vec F S4x1x128 .f32) (x5 : Vec F S1x128 .f32) (hc1 : ¬ cond0_1 x4)
    (s10 : Vec F S4x128x128 .f32) (s11 : Vec F S4x2x144x128 .f32) (d9 : Vec F S512x512 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ owns (c : Thread nD τ) arg10 fullShare s10 ∗ owns (c : Thread nD τ) arg11 fullShare s11
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f (stF c i arg3 harg3 arg4 harg4 arg5 harg5 arg6 harg6 arg7 harg7 arg8 harg8 arg9 harg9 arg10 harg10 arg11 harg11 x0 x1 x2 x3 x4 x5 s10 d9 s11).2.1) ∗ (arg10.view.loc (c : Thread nD τ) ↦[arg10.view.set]{fullShare} arg10.view.writes (Elt F) (harg10.unread s10) (backF (stF c i arg3 harg3 arg4 harg4 arg5 harg5 arg6 harg6 arg7 harg7 arg8 harg8 arg9 harg9 arg10 harg10 arg11 harg11 x0 x1 x2 x3 x4 x5 s10 d9 s11).1)) ∗ arg11.view.loc (c : Thread nD τ) ↦[arg11.view.set]{fullShare} arg11.view.writes (Elt F) (harg11.unread s11) (stF c i arg3 harg3 arg4 harg4 arg5 harg5 arg6 harg6 arg7 harg7 arg8 harg8 arg9 harg9 arg10 harg10 arg11 harg11 x0 x1 x2 x3 x4 x5 s10 d9 s11).2.2) -∗ K ⟨⟩))
          ⊢ wp frame (wpE (defs₀ (F := F)) Variants.none c none) E (bodyRest (F := F) i arg3 harg3 arg4 harg4 arg5 harg5 arg6 harg6 arg7 harg7 arg8 harg8 arg9 harg9 arg10 harg10 arg11 harg11).1 K := by
    unfold bodyRest
    dsimp only
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8; obtain rfl := harg9.eq_unread hf6
    have e7 : View.readAt (Elt F) arg7.view (Rect.unit ![0, 0, 0] ![4, 1, 128] inb_S4x1x128_S4x1x128_0_0_0).toLoadRect (harg7.unread x4) = x4 :=
      (View.readAt_full _ _ _).trans (harg7.read_unread _)
    have hc2 := hc1; rw [← e7] at hc2
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists (harg9.unread d9); iexact H6
    isplitl [HS0]; · iexact HS0
    iexact HS1

end Cert.KernelIdeal.Gen
end
-- ==== Proof.Head.lean ====
module

public import proofs.«01_k».proof.Proof.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! One head of one chunk of 128 rows, in the kernel's own operations: the log decays and their running sums, the chunk's
attention matrix in either branch's form, the gated and normalised output, and the state handed to the next chunk. -/

/-- The index difference inside a block of sixteen, or -1 off the diagonal blocks. -/
abbrev dmat : IVec S128x128 32 := k0_pay7
/-- The constant zero matrix. -/
abbrev zeroM : FVec F S128x128 .f32 := constant S128x128 .f32 0x00000000#32
/-- A matrix of one scalar. -/
abbrev spl (b : BitVec 32) : FVec F S128x128 .f32 := broadcast S128x128 (Scalar.ofBits .f32 b)
/-- The lower bound as a row. -/
abbrev lbRow (b : Vec F S1x1x128 .f32) : FVec F S1x128 .f32 := shapeCast S1x128 b shapeCasts_S1x1x128_S1x128
/-- A row repeated down the chunk. -/
abbrev rows (r : FVec F S1x128 .f32) : FVec F S128x128 .f32 := broadcastTo S128x128 r broadcasts_S1x128_S128x128
/-- The logistic function as the kernel spells it. -/
abbrev sig1 (x : FVec F S128x128 .f32) : FVec F S128x128 .f32 := divf (spl 0x3F800000#32) (addf (spl 0x3F800000#32) (exp (subf (spl 0x00000000#32) x)))
/-- A chunk's block as the body reads it. -/
abbrev blkc (x : Vec F S128x128 .f32) : FVec F S128x128 .f32 := shapeCast S128x128 x shapeCasts_S128x128_S128x128
/-- The log decays. -/
def logF (f : Vec F S128x128 .f32) (b : Vec F S1x1x128 .f32) : FVec F S128x128 .f32 :=
  log (addf (rows (lbRow b)) (mulf (rows (subf (broadcast S1x128 (Scalar.ofBits .f32 0x3F800000#32)) (lbRow b))) (sig1 (blkc f))))
/-- What each row adds: one minus the decay, computed apart. -/
def inpK (f : Vec F S128x128 .f32) (b : Vec F S1x1x128 .f32) : FVec F S128x128 .f32 :=
  mulf (rows (subf (broadcast S1x128 (Scalar.ofBits .f32 0x3F800000#32)) (lbRow b))) (sig1 (subf (spl 0x00000000#32) (blkc f)))
/-- The rounding of a matrix. -/
abbrev hi (x : FVec F S128x128 .f32) : FVec F S128x128 .bf16 := truncf .bf16 x bitsLt_bf16_f32
/-- What the rounding leaves. -/
abbrev lo (x : FVec F S128x128 .f32) : FVec F S128x128 .f32 := subf x (extf .f32 (hi x) bitsLt_bf16_f32)
/-- A product with a matrix of ones and zeros, in three rounded parts. -/
abbrev dot3 (m : FVec F S128x128 .bf16) (x : FVec F S128x128 .f32) : FVec F S128x128 .f32 :=
  addf (addf (matmul dot_S128x128_S128x128_S128x128_1_0_0_1_n_n none m (hi x) zeroM) (matmul dot_S128x128_S128x128_S128x128_1_0_0_1_n_n none m (hi (lo x)) zeroM))
    (matmul dot_S128x128_S128x128_S128x128_1_0_0_1_n_n none m (hi (lo (lo x))) zeroM)
/-- The running sum of the log decays, through each row. -/
def runT0 (f : Vec F S128x128 .f32) (b : Vec F S1x1x128 .f32) : FVec F S128x128 .f32 := dot3 k0_pay5 (logF f b)
/-- The running sum up to the start of each row's block of sixteen. -/
def runS0 (f : Vec F S128x128 .f32) (b : Vec F S1x1x128 .f32) : FVec F S128x128 .f32 := dot3 k0_pay6 (logF f b)
/-- The queries, decayed from their block's start. -/
def qDec (q f : Vec F S128x128 .f32) (b : Vec F S1x1x128 .f32) : FVec F S128x128 .bf16 := hi (mulf (blkc q) (exp (subf (runT0 f b) (runS0 f b))))
/-- The keys, decayed to the start of the block whose row of running sums is `r`. -/
def kDec (f : Vec F S128x128 .f32) (b : Vec F S1x1x128 .f32) (r : FVec F S1x128 .f32) : FVec F S128x128 .bf16 :=
  hi (mulf (inpK f b) (exp (minimumf (subf (rows r) (runT0 f b)) (spl 0x00000000#32))))
/-- The zero strip. -/
abbrev zeroS : FVec F S16x128 .f32 := constant S16x128 .f32 0x00000000#32

/-- The strip of scores of block 1. -/
def strip1 (q f : Vec F S128x128 .f32) (b : Vec F S1x1x128 .f32) : FVec F S16x128 .f32 :=
  matmul dot_S16x128_S128x128_S16x128_1_1_0_0_n_n none (extractStridedSlice S16x128 ![16, 0] (qDec q f b) slices_S128x128_o16_0_S16x128)
    (kDec f b (extractStridedSlice S1x128 ![16, 0] (runS0 f b) slices_S128x128_o16_0_S1x128)) zeroS
/-- The strip of scores of block 2. -/
def strip2 (q f : Vec F S128x128 .f32) (b : Vec F S1x1x128 .f32) : FVec F S16x128 .f32 :=
  matmul dot_S16x128_S128x128_S16x128_1_1_0_0_n_n none (extractStridedSlice S16x128 ![32, 0] (qDec q f b) slices_S128x128_o32_0_S16x128)
    (kDec f b (extractStridedSlice S1x128 ![32, 0] (runS0 f b) slices_S128x128_o32_0_S1x128)) zeroS
/-- The strip of scores of block 3. -/
def strip3 (q f : Vec F S128x128 .f32) (b : Vec F S1x1x128 .f32) : FVec F S16x128 .f32 :=
  matmul dot_S16x128_S128x128_S16x128_1_1_0_0_n_n none (extractStridedSlice S16x128 ![48, 0] (qDec q f b) slices_S128x128_o48_0_S16x128)
    (kDec f b (extractStridedSlice S1x128 ![48, 0] (runS0 f b) slices_S128x128_o48_0_S1x128)) zeroS
/-- The strip of scores of block 4. -/
def strip4 (q f : Vec F S128x128 .f32) (b : Vec F S1x1x128 .f32) : FVec F S16x128 .f32 :=
  matmul dot_S16x128_S128x128_S16x128_1_1_0_0_n_n none (extractStridedSlice S16x128 ![64, 0] (qDec q f b) slices_S128x128_o64_0_S16x128)
    (kDec f b (extractStridedSlice S1x128 ![64, 0] (runS0 f b) slices_S128x128_o64_0_S1x128)) zeroS
/-- The strip of scores of block 5. -/
def strip5 (q f : Vec F S128x128 .f32) (b : Vec F S1x1x128 .f32) : FVec F S16x128 .f32 :=
  matmul dot_S16x128_S128x128_S16x128_1_1_0_0_n_n none (extractStridedSlice S16x128 ![80, 0] (qDec q f b) slices_S128x128_o80_0_S16x128)
    (kDec f b (extractStridedSlice S1x128 ![80, 0] (runS0 f b) slices_S128x128_o80_0_S1x128)) zeroS
/-- The strip of scores of block 6. -/
def strip6 (q f : Vec F S128x128 .f32) (b : Vec F S1x1x128 .f32) : FVec F S16x128 .f32 :=
  matmul dot_S16x128_S128x128_S16x128_1_1_0_0_n_n none (extractStridedSlice S16x128 ![96, 0] (qDec q f b) slices_S128x128_o96_0_S16x128)
    (kDec f b (extractStridedSlice S1x128 ![96, 0] (runS0 f b) slices_S128x128_o96_0_S1x128)) zeroS
/-- The strip of scores of block 7. -/
def strip7 (q f : Vec F S128x128 .f32) (b : Vec F S1x1x128 .f32) : FVec F S16x128 .f32 :=
  matmul dot_S16x128_S128x128_S16x128_1_1_0_0_n_n none (extractStridedSlice S16x128 ![112, 0] (qDec q f b) slices_S128x128_o112_0_S16x128)
    (kDec f b (extractStridedSlice S1x128 ![112, 0] (runS0 f b) slices_S128x128_o112_0_S1x128)) zeroS

/-- The scores off the diagonal blocks, strip by strip. -/
def offDiag (q f : Vec F S128x128 .f32) (b : Vec F S1x1x128 .f32) : FVec F S128x128 .f32 :=
  concatenate S128x128 0 [⟨S16x128, broadcast S16x128 (Scalar.ofBits .f32 0x00000000#32)⟩, ⟨S16x128, strip1 q f b⟩, ⟨S16x128, strip2 q f b⟩, ⟨S16x128, strip3 q f b⟩, ⟨S16x128, strip4 q f b⟩, ⟨S16x128, strip5 q f b⟩, ⟨S16x128, strip6 q f b⟩, ⟨S16x128, strip7 q f b⟩] concatenates_S16x128_S16x128_S16x128_S16x128_S16x128_S16x128_S16x128_S16x128_S128x128_d0
/-- The diagonal blocks' scores where the decays may be factored. -/
def diagA (q f : Vec F S128x128 .f32) (b : Vec F S1x1x128 .f32) : FVec F S128x128 .f32 :=
  select (cmpi .sge dmat (broadcast S128x128 0#32))
    (matmul dot_S128x128_S128x128_S128x128_1_1_0_0_n_n none (qDec q f b) (hi (mulf (inpK f b) (exp (subf (runS0 f b) (runT0 f b))))) zeroM) (spl 0x00000000#32)
/-- The matrix of ones. -/
abbrev onesM : FVec F S128x128 .bf16 := broadcast S128x128 (Scalar.ofBits .bf16 0x3F80#16)
/-- A matrix moved down by `d` rows, zeros coming in. -/
def down (d : ℕ) (x : FVec F S128x128 .f32) : FVec F S128x128 .f32 :=
  fun i => if h : d ≤ (i 0).val then x (fun a => match a with | 0 => ⟨(i 0).val - d, by have := (i 0).isLt; exact Nat.lt_of_le_of_lt (Nat.sub_le _ _) this⟩ | 1 => i 1) else Scalar.ofBits .f32 0x00000000#32
/-- One band of the diagonal blocks: the scores of the rows some way back, given the keys and the running sums moved down so far. -/
def band (q f : Vec F S128x128 .f32) (b : Vec F S1x1x128 .f32) (x y : FVec F S128x128 .f32) : FVec F S128x128 .f32 :=
  matmul dot_S128x128_S128x128_S128x128_1_0_0_1_n_n none (hi (mulf (mulf (blkc q) x) (exp (subf (runT0 f b) y)))) onesM zeroM
/-- The bands laid over one another, the widest last, given the keys and the running sums moved down by each distance. -/
def bands (q f : Vec F S128x128 .f32) (b : Vec F S1x1x128 .f32) (X Y : ℕ → FVec F S128x128 .f32) : ℕ → FVec F S128x128 .f32
  | 0 => select (cmpi .eq dmat (broadcast S128x128 0#32))
      (matmul dot_S128x128_S128x128_S128x128_1_0_0_1_n_n none (hi (mulf (blkc q) (inpK f b))) onesM zeroM) (spl 0x00000000#32)
  | d + 1 => select (cmpi .eq dmat (broadcast S128x128 (BitVec.ofNat 32 (d + 1)))) (band q f b (X (d + 1)) (Y (d + 1))) (bands q f b X Y d)
/-- The diagonal blocks' scores, band by band. -/
def diagB (q f : Vec F S128x128 .f32) (b : Vec F S1x1x128 .f32) (X Y : ℕ → FVec F S128x128 .f32) : FVec F S128x128 .f32 :=
  select (cmpi .sge dmat (broadcast S128x128 0#32)) (bands q f b X Y 15) (spl 0x00000000#32)
/-- The chunk's scores, given its diagonal blocks. -/
def scores (d : FVec F S128x128 .f32) (q f : Vec F S128x128 .f32) (b : Vec F S1x1x128 .f32) : FVec F S128x128 .f32 :=
  select k0_pay8 (offDiag q f b) d
/-- The chunk's readout: the carried state's part and the chunk's own. -/
def readout (d : FVec F S128x128 .f32) (q f v : Vec F S128x128 .f32) (b : Vec F S1x1x128 .f32) (S : FVec F S128x128 .f32) : FVec F S128x128 .f32 :=
  addf (matmul dot_S128x128_S128x128_S128x128_1_1_0_0_n_n none (hi (mulf (blkc q) (exp (runT0 f b)))) (hi S) zeroM)
    (matmul dot_S128x128_S128x128_S128x128_1_0_0_1_n_n none (hi (scores d q f b)) (hi (blkc v)) zeroM)
/-- The readout normalised, scaled and gated. -/
def gated (o : FVec F S128x128 .f32) (g : Vec F S128x128 .f32) (ng : Vec F S1x128 .f32) : FVec F S128x128 .f32 :=
  mulf (mulf (mulf o (broadcastTo S128x128 (rsqrt (addf (divf (shapeCast S128x1 (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
    (rows (shapeCast S1x128 ng shapeCasts_S1x128_S1x128))) (mulf (blkc g) (sig1 (blkc g)))
/-- The state after the chunk. -/
def nextS (f v : Vec F S128x128 .f32) (b : Vec F S1x1x128 .f32) (S : FVec F S128x128 .f32) : FVec F S128x128 .f32 :=
  addf (mulf S (rows (exp (extractStridedSlice S1x128 ![127, 0] (runT0 f b) slices_S128x128_o127_0_S1x128))))
    (matmul dot_S128x128_S128x128_S128x128_1_0_0_1_n_n none (hi (transpose S128x128 [1, 0] (blkc v) transposes_S128x128_p1_0_S128x128))
      (hi (mulf (inpK f b) (exp (subf (rows (extractStridedSlice S1x128 ![127, 0] (runT0 f b) slices_S128x128_o127_0_S1x128)) (runT0 f b))))) zeroM)
/-- A head's output in the factored branch. -/
def outA (q f v g : Vec F S128x128 .f32) (b : Vec F S1x1x128 .f32) (ng : Vec F S1x128 .f32) (S : FVec F S128x128 .f32) : FVec F S128x128 .f32 :=
  gated (readout (diagA q f b) q f v b S) g ng
/-- A head's output in the other branch, from the moved keys and running sums it loads. -/
def outL (X Y : ℕ → FVec F S128x128 .f32) (q f v g : Vec F S128x128 .f32) (b : Vec F S1x1x128 .f32) (ng : Vec F S1x128 .f32) (S : FVec F S128x128 .f32) : FVec F S128x128 .f32 :=
  gated (readout (diagB q f b X Y) q f v b S) g ng
/-- A head's output in the other branch. -/
def outB (q f v g : Vec F S128x128 .f32) (b : Vec F S1x1x128 .f32) (ng : Vec F S1x128 .f32) (S : FVec F S128x128 .f32) : FVec F S128x128 .f32 :=
  outL (fun d => down d (inpK f b)) (fun d => down d (runT0 f b)) q f v g b ng S

/-- A head's half of the moving buffer. -/
def hr (h : Fin 4) : Rect S4x2x144x128 := Rect.unit ![h.val, 0, 0, 0] S1x2x144x128.size (by revert h; decide)
/-- Rows from `o` on of one of the two matrices kept there. -/
def jr (j : Fin 2) (o : Fin 17) : Rect S2x144x128 := Rect.unit ![j.val, o.val, 0] S1x128x128.size (by revert j o; decide)
/-- A store of a matrix sixteen rows down. -/
def piece11 (h : Fin 4) (j : Fin 2) (w : Vec F S1x128x128 .f32) : View.Piece (Elt F) S4x2x144x128 .f32 :=
  ⟨(hr h).within ((jr j 16).consLift ![1, 2, 144, 128] rfl (by decide)) (fun _ => rfl), Rect.payAlong (Rect.numel_consLift (jr j 16) ![1, 2, 144, 128] rfl (by decide)) w⟩
/-- A load of the matrix from row `o` on. -/
def raw11 (arg11 : Memref sig .tc .vmem S4x2x144x128 .f32) (f : BufTy.Contents (Elt F) arg11.view.ty) (h : Fin 4) (j : Fin 2) (o : Fin 17) : Vec F S1x128x128 .f32 :=
  LoadRect.valAlong (LoadRect.numel_consLift (jr j o).toLoadRect ![1, 2, 144, 128] rfl (by decide))
    (View.readAt (Elt F) arg11.view ((hr h).withinL ((jr j o).toLoadRect.consLift ![1, 2, 144, 128] rfl (by decide)) (fun _ => rfl)) f)
/-- A loaded matrix as a block. -/
abbrev sq (w : Vec F S1x128x128 .f32) : FVec F S128x128 .f32 := shapeCast S128x128 w shapeCasts_S1x128x128_S128x128
/-- A block as a stored matrix. -/
abbrev unsq (w : FVec F S128x128 .f32) : Vec F S1x128x128 .f32 := shapeCast S1x128x128 w shapeCasts_S128x128_S1x128x128
/-- A head's two stores, then the stores before. -/
def store11 (h : Fin 4) (f : Vec F S128x128 .f32) (b : Vec F S1x1x128 .f32) (L : List (View.Piece (Elt F) S4x2x144x128 .f32)) : List (View.Piece (Elt F) S4x2x144x128 .f32) :=
  piece11 h 1 (unsq (runT0 f b)) :: piece11 h 0 (unsq (inpK f b)) :: L
/-- A head's moved matrices, as loaded from contents `f`: moved by `d` is read from row `16 - d`. -/
def ld11 (arg11 : Memref sig .tc .vmem S4x2x144x128 .f32) (f : BufTy.Contents (Elt F) arg11.view.ty) (h : Fin 4) (j : Fin 2) (d : ℕ) : FVec F S128x128 .f32 :=
  sq (raw11 arg11 f h j (Fin.ofNat 17 (16 - d)))
end Cert.KernelIdeal.Gen
end
-- ==== Proof.Moved.lean ====
module

public import proofs.«01_k».proof.Proof.Head
public import Idealize.ShloMosaic.Lib.VecWindow
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The moving buffer of the second branch: what its stores leave and its loads read. -/

/-- Dropping a leading unit axis, at an index. -/
theorem sq_apply (w : Vec F S1x128x128 .f32) (i : S128x128.Idx) : sq w i = w (Fin.cons ⟨0, Nat.one_pos⟩ i) :=
  congrArg w (Shape.reshapeEquiv_cons_one (d := ![128, 128]) _ i)

private theorem reshape_back {s t : Shape} (h : s.numel = t.numel) (h' : t.numel = s.numel) (i : s.Idx) : Shape.reshapeEquiv h' (Shape.reshapeEquiv h i) = i := by
  rw [Shape.reshapeEquiv_reshapeEquiv]; exact Shape.reshapeEquiv_self _ _

/-- Adding a leading unit axis, at an index. -/
theorem unsq_apply (w : FVec F S128x128 .f32) (i : S128x128.Idx) : unsq w (Fin.cons ⟨0, Nat.one_pos⟩ i) = w i := by
  have hn : S128x128.numel = S1x128x128.numel := shapeCasts_S1x128x128_S128x128.symm
  have h2 : Shape.reshapeEquiv hn i = (Fin.cons ⟨0, Nat.one_pos⟩ i : S1x128x128.Idx) := Shape.reshapeEquiv_cons_one (d := ![128, 128]) hn i
  have h3 := (congrArg (Shape.reshapeEquiv hn.symm) h2.symm).trans (reshape_back hn hn.symm i)
  exact congrArg w h3

/-- The place of one entry of the moving buffer. -/
def at11 (h : Fin 4) (j : Fin 2) (r : Fin 144) (l : Fin 128) : S4x2x144x128.Idx := ix4 h j r l

/-- What a load reads, entry by entry. -/
theorem sq_raw11 (arg11 : Memref sig .tc .vmem S4x2x144x128 .f32) (f : BufTy.Contents (Elt F) arg11.view.ty) (h : Fin 4) (j : Fin 2) (o : Fin 17) (i : S128x128.Idx) :
    sq (raw11 arg11 f h j o) i = arg11.view.read (Elt F) f (at11 h j ⟨o.val + (i 0).val, by have := (i 0).isLt; have h2 : S128x128.size 0 = 128 := rfl; omega⟩ (i 1)) := by
  rw [sq_apply]
  unfold raw11 LoadRect.valAlong
  show arg11.view.read (Elt F) f _ = _
  refine congrArg (arg11.view.read (Elt F) f) ?_
  have key : ∀ z : ((jr j o).toLoadRect.consLift ![1, 2, 144, 128] rfl (by decide)).shape.Idx, z = Fin.cons ⟨0, Nat.one_pos⟩ (Fin.cons ⟨0, Nat.one_pos⟩ i) →
      ((hr h).withinL ((jr j o).toLoadRect.consLift ![1, 2, 144, 128] rfl (by decide)) (fun _ => rfl)).idx z = at11 h j ⟨o.val + (i 0).val, by have := (i 0).isLt; have h2 : S128x128.size 0 = 128 := rfl; omega⟩ (i 1) := by
    rintro z rfl
    funext a
    apply Fin.ext
    match a with
    | ⟨0, _⟩ => show h.val + 0 + 1 * 0 = h.val; omega
    | ⟨1, _⟩ => show 0 + j.val + 1 * 0 = j.val; omega
    | ⟨2, _⟩ => show 0 + o.val + 1 * (i 0).val = o.val + (i 0).val; omega
    | ⟨3, _⟩ => show 0 + 0 + 1 * (i 1).val = (i 1).val; omega
  exact key _ (Shape.reshapeEquiv_cons_one (d := S1x128x128.size) (LoadRect.numel_consLift (jr j o).toLoadRect ![1, 2, 144, 128] rfl (by decide)) (Fin.cons ⟨0, Nat.one_pos⟩ i))

/-- A store, read back under itself. -/
theorem read_piece11_hit (arg11 : Memref sig .tc .vmem S4x2x144x128 .f32) (f : BufTy.Contents (Elt F) arg11.view.ty) (L : List (View.Piece (Elt F) S4x2x144x128 .f32)) (h : Fin 4) (j : Fin 2) (w : FVec F S128x128 .f32)
    (r : Fin 144) (l : Fin 128) (hr16 : 16 ≤ r.val) :
    arg11.view.read (Elt F) (arg11.view.writes (Elt F) f (piece11 h j (unsq w) :: L)) (at11 h j r l) = w (ix2 ⟨r.val - 16, by omega⟩ l) := by
  unfold piece11
  have hx := View.read_writes_cons_hit_of_coords arg11.view f ((hr h).within ((jr j 16).consLift ![1, 2, 144, 128] rfl (by decide)) (fun _ => rfl))
    (Rect.payAlong (Rect.numel_consLift (jr j 16) ![1, 2, 144, 128] rfl (by decide)) (unsq w)) L
    (Fin.cons ⟨0, Nat.one_pos⟩ (Fin.cons ⟨0, Nat.one_pos⟩ (ix2 (n0 := 128) (n1 := 128) ⟨r.val - 16, by omega⟩ l))) (at11 h j r l) (by
      intro a
      match a with
      | ⟨0, _⟩ => show h.val = h.val + 0 + 1 * 0; omega
      | ⟨1, _⟩ => show j.val = 0 + j.val + 1 * 0; omega
      | ⟨2, _⟩ => show r.val = 0 + 16 + 1 * (r.val - 16); omega
      | ⟨3, _⟩ => show l.val = 0 + 0 + 1 * l.val; omega)
  refine hx.trans ?_
  refine (Rect.payAlong_consLift (jr j 16) ![1, 2, 144, 128] rfl (by decide) (unsq w) _ _ (Fin.cons ⟨0, Nat.one_pos⟩ (ix2 (n0 := 128) (n1 := 128) ⟨r.val - 16, by omega⟩ l)) (fun i => by
    match i with
    | ⟨0, _⟩ => rfl
    | ⟨1, _⟩ => rfl
    | ⟨2, _⟩ => rfl)).trans ?_
  exact unsq_apply w _

/-- A store leaves every entry of the other matrix, of the other heads, and of the first sixteen rows. -/
theorem read_piece11_miss (arg11 : Memref sig .tc .vmem S4x2x144x128 .f32) (f : BufTy.Contents (Elt F) arg11.view.ty) (L : List (View.Piece (Elt F) S4x2x144x128 .f32)) (h : Fin 4) (j : Fin 2) (w : Vec F S1x128x128 .f32)
    (y : S4x2x144x128.Idx) (hy : (y 2).val < 16 ∨ (y 1).val ≠ j.val) :
    arg11.view.read (Elt F) (arg11.view.writes (Elt F) f (piece11 h j w :: L)) y = arg11.view.read (Elt F) (arg11.view.writes (Elt F) f L) y := by
  rcases hy with hy | hy
  · exact View.read_writes_cons_miss_of_axis _ _ _ _ y 2 16 128 rfl rfl rfl (.inl hy)
  · exact View.read_writes_cons_miss_of_axis _ _ _ _ y 1 j.val 1 (by show 0 + j.val = j.val; omega) rfl rfl (by omega)

/-- The first sixteen rows hold zeros. -/
def Top0 (g : Vec F S4x2x144x128 .f32) : Prop := ∀ h j (r : Fin 144) l, r.val < 16 → g (at11 h j r l) = Scalar.ofBits .f32 0x00000000#32

/-- Storing keys below the top rows keeps those zero. -/
theorem Top0.store {arg11 : Memref sig .tc .vmem S4x2x144x128 .f32} {f : BufTy.Contents (Elt F) arg11.view.ty} {L : List (View.Piece (Elt F) S4x2x144x128 .f32)}
    (H : Top0 (arg11.view.read (Elt F) (arg11.view.writes (Elt F) f L))) (h : Fin 4) (x : Vec F S128x128 .f32) (b : Vec F S1x1x128 .f32) :
    Top0 (arg11.view.read (Elt F) (arg11.view.writes (Elt F) f (store11 h x b L))) := fun h' j r l hr => by
  unfold store11
  rw [read_piece11_miss _ _ _ _ _ _ _ (.inl hr), read_piece11_miss _ _ _ _ _ _ _ (.inl hr)]
  exact H h' j r l hr

private theorem down_eq (X : FVec F S128x128 .f32) (g : Vec F S4x2x144x128 .f32) (h : Fin 4) (j : Fin 2) (H : Top0 g)
    (hX : ∀ (r : Fin 144) l (hr : 16 ≤ r.val), g (at11 h j r l) = X (ix2 ⟨r.val - 16, by omega⟩ l)) (d : ℕ) (hd : d ≤ 16) (i : S128x128.Idx)
    (hlt : (16 - d) + (i 0).val < 144) :
    g (at11 h j ⟨(16 - d) + (i 0).val, hlt⟩ (i 1)) = down d X i := by
  unfold down
  by_cases hdi : d ≤ (i 0).val
  · rw [dif_pos hdi]
    refine (hX ⟨16 - d + (i 0).val, hlt⟩ (i 1) (by show 16 ≤ 16 - d + (i 0).val; omega)).trans ?_
    refine congrArg X (funext fun a => ?_)
    match a with
    | ⟨0, _⟩ => exact Fin.ext (show 16 - d + (i 0).val - 16 = (i 0).val - d by omega)
    | ⟨1, _⟩ => rfl
  · rw [dif_neg hdi]
    exact H _ _ _ _ (by show 16 - d + (i 0).val < 16; omega)

/-- The keys read back. -/
theorem ld11_key (arg11 : Memref sig .tc .vmem S4x2x144x128 .f32) (f : BufTy.Contents (Elt F) arg11.view.ty) (L : List (View.Piece (Elt F) S4x2x144x128 .f32))
    (H : Top0 (arg11.view.read (Elt F) (arg11.view.writes (Elt F) f L))) (h : Fin 4) (x : Vec F S128x128 .f32) (b : Vec F S1x1x128 .f32) (d : ℕ) (hd : d ≤ 16) :
    ld11 arg11 (arg11.view.writes (Elt F) f (store11 h x b L)) h 0 d = down d (inpK x b) := by
  funext i
  have ho : (Fin.ofNat 17 (16 - d)).val = 16 - d := Nat.mod_eq_of_lt (by omega)
  unfold ld11
  rw [sq_raw11]
  have hlt : (16 - d) + (i 0).val < 144 := by have := (i 0).isLt; have h2 : S128x128.size 0 = 128 := rfl; omega
  rw [show (⟨(Fin.ofNat 17 (16 - d)).val + (i 0).val, _⟩ : Fin 144) = ⟨(16 - d) + (i 0).val, hlt⟩ from Fin.ext (by show _ + _ = _; rw [ho])]
  refine down_eq _ _ h 0 (H.store h x b) (fun r l hr => ?_) d hd i hlt
  unfold store11
  rw [read_piece11_miss _ _ _ _ _ _ _ (.inr (show (0 : ℕ) ≠ 1 by decide)), read_piece11_hit _ _ _ _ _ _ _ _ hr]

/-- The running sums read back. -/
theorem ld11_sum (arg11 : Memref sig .tc .vmem S4x2x144x128 .f32) (f : BufTy.Contents (Elt F) arg11.view.ty) (L : List (View.Piece (Elt F) S4x2x144x128 .f32))
    (H : Top0 (arg11.view.read (Elt F) (arg11.view.writes (Elt F) f L))) (h : Fin 4) (x : Vec F S128x128 .f32) (b : Vec F S1x1x128 .f32) (d : ℕ) (hd : d ≤ 16) :
    ld11 arg11 (arg11.view.writes (Elt F) f (store11 h x b L)) h 1 d = down d (runT0 x b) := by
  funext i
  have ho : (Fin.ofNat 17 (16 - d)).val = 16 - d := Nat.mod_eq_of_lt (by omega)
  unfold ld11
  rw [sq_raw11]
  have hlt : (16 - d) + (i 0).val < 144 := by have := (i 0).isLt; have h2 : S128x128.size 0 = 128 := rfl; omega
  rw [show (⟨(Fin.ofNat 17 (16 - d)).val + (i 0).val, _⟩ : Fin 144) = ⟨(16 - d) + (i 0).val, hlt⟩ from Fin.ext (by show _ + _ = _; rw [ho])]
  refine down_eq _ _ h 1 (H.store h x b) (fun r l hr => ?_) d hd i hlt
  unfold store11
  rw [read_piece11_hit _ _ _ _ _ _ _ _ hr]

/-- The bands depend on the keys and sums below only. -/
theorem bands_congr (q f : Vec F S128x128 .f32) (b : Vec F S1x1x128 .f32) (X Y X' Y' : ℕ → FVec F S128x128 .f32) (n : ℕ)
    (hX : ∀ d ≤ n, X d = X' d) (hY : ∀ d ≤ n, Y d = Y' d) : bands q f b X Y n = bands q f b X' Y' n := by
  induction n with
  | zero => rfl
  | succ n ih =>
    unfold bands
    rw [hX (n + 1) le_rfl, hY (n + 1) le_rfl, ih (fun d hd => hX d (by omega)) (fun d hd => hY d (by omega))]

/-- A head's output from what it loads is its output from its own matrices. -/
theorem outL_eq (arg11 : Memref sig .tc .vmem S4x2x144x128 .f32) (f : BufTy.Contents (Elt F) arg11.view.ty) (L : List (View.Piece (Elt F) S4x2x144x128 .f32))
    (H : Top0 (arg11.view.read (Elt F) (arg11.view.writes (Elt F) f L))) (h : Fin 4)
    (q x v g : Vec F S128x128 .f32) (b : Vec F S1x1x128 .f32) (ng : Vec F S1x128 .f32) (S : FVec F S128x128 .f32) :
    outL (ld11 arg11 (arg11.view.writes (Elt F) f (store11 h x b L)) h 0) (ld11 arg11 (arg11.view.writes (Elt F) f (store11 h x b L)) h 1) q x v g b ng S
      = outB q x v g b ng S := by
  unfold outB outL diagB
  rw [bands_congr q x b _ _ _ _ 15 (fun d hd => ld11_key arg11 f L H h x b d (by omega)) (fun d hd => ld11_sum arg11 f L H h x b d (by omega))]

end Cert.KernelIdeal.Gen
end
-- ==== Proof.Trips.lean ====
module

public import proofs.«01_k».proof.Proof.Head

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip of the factored branch hands on each head's next state. -/
theorem tripR_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (v24 : Vec F S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (acc : FVec F S128x128 .f32 × FVec F S128x128 .f32 × FVec F S128x128 .f32 × FVec F S128x128 .f32) :
    tripR_k0_t1 (F := F) Variants.none c none i arg3 harg3 arg4 harg4 arg5 harg5 arg6 harg6 arg7 harg7 arg8 harg8 arg9 harg9 arg10 harg10 arg11 harg11 v24 X3 X4 X5 X6 X7 k acc
      = (nextS (View.readAt (Elt F) arg4.view (Rect.unit (s := S512x512) (k0_off1 k) S128x128.size (k0_off1_inb k)).toLoadRect X4) (View.readAt (Elt F) arg5.view (Rect.unit (s := S512x512) (k0_off1 k) S128x128.size (k0_off1_inb k)).toLoadRect X5) (View.readAt (Elt F) arg7.view (Rect.unit (s := S4x1x128) ![0, 0, 0] S1x1x128.size inb_S4x1x128_S1x1x128_0_0_0).toLoadRect X7) acc.1, nextS (View.readAt (Elt F) arg4.view (Rect.unit (s := S512x512) (k0_off2 k) S128x128.size (k0_off2_inb k)).toLoadRect X4) (View.readAt (Elt F) arg5.view (Rect.unit (s := S512x512) (k0_off2 k) S128x128.size (k0_off2_inb k)).toLoadRect X5) (View.readAt (Elt F) arg7.view (Rect.unit (s := S4x1x128) ![1, 0, 0] S1x1x128.size inb_S4x1x128_S1x1x128_1_0_0).toLoadRect X7) acc.2.1, nextS (View.readAt (Elt F) arg4.view (Rect.unit (s := S512x512) (k0_off3 k) S128x128.size (k0_off3_inb k)).toLoadRect X4) (View.readAt (Elt F) arg5.view (Rect.unit (s := S512x512) (k0_off3 k) S128x128.size (k0_off3_inb k)).toLoadRect X5) (View.readAt (Elt F) arg7.view (Rect.unit (s := S4x1x128) ![2, 0, 0] S1x1x128.size inb_S4x1x128_S1x1x128_2_0_0).toLoadRect X7) acc.2.2.1, nextS (View.readAt (Elt F) arg4.view (Rect.unit (s := S512x512) (k0_off4 k) S128x128.size (k0_off4_inb k)).toLoadRect X4) (View.readAt (Elt F) arg5.view (Rect.unit (s := S512x512) (k0_off4 k) S128x128.size (k0_off4_inb k)).toLoadRect X5) (View.readAt (Elt F) arg7.view (Rect.unit (s := S4x1x128) ![3, 0, 0] S1x1x128.size inb_S4x1x128_S1x1x128_3_0_0).toLoadRect X7) acc.2.2.2) := by
  unfold tripR_k0_t1 trip_k0_t1
  rfl

/-- A trip of the factored branch writes each head's output at its own window. -/
theorem tripL_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (v24 : Vec F S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (acc : FVec F S128x128 .f32 × FVec F S128x128 .f32 × FVec F S128x128 .f32 × FVec F S128x128 .f32) :
    tripL_k0_t1 (F := F) Variants.none c none i arg3 harg3 arg4 harg4 arg5 harg5 arg6 harg6 arg7 harg7 arg8 harg8 arg9 harg9 arg10 harg10 arg11 harg11 v24 X3 X4 X5 X6 X7 k acc
      = [⟨Rect.unit (k0_off4 k) S128x128.size (k0_off4_inb k), outA (View.readAt (Elt F) arg3.view (Rect.unit (s := S512x512) (k0_off4 k) S128x128.size (k0_off4_inb k)).toLoadRect X3) (View.readAt (Elt F) arg4.view (Rect.unit (s := S512x512) (k0_off4 k) S128x128.size (k0_off4_inb k)).toLoadRect X4) (View.readAt (Elt F) arg5.view (Rect.unit (s := S512x512) (k0_off4 k) S128x128.size (k0_off4_inb k)).toLoadRect X5) (View.readAt (Elt F) arg6.view (Rect.unit (s := S512x512) (k0_off4 k) S128x128.size (k0_off4_inb k)).toLoadRect X6) (View.readAt (Elt F) arg7.view (Rect.unit (s := S4x1x128) ![3, 0, 0] S1x1x128.size inb_S4x1x128_S1x1x128_3_0_0).toLoadRect X7) v24 acc.2.2.2⟩,
      ⟨Rect.unit (k0_off3 k) S128x128.size (k0_off3_inb k), outA (View.readAt (Elt F) arg3.view (Rect.unit (s := S512x512) (k0_off3 k) S128x128.size (k0_off3_inb k)).toLoadRect X3) (View.readAt (Elt F) arg4.view (Rect.unit (s := S512x512) (k0_off3 k) S128x128.size (k0_off3_inb k)).toLoadRect X4) (View.readAt (Elt F) arg5.view (Rect.unit (s := S512x512) (k0_off3 k) S128x128.size (k0_off3_inb k)).toLoadRect X5) (View.readAt (Elt F) arg6.view (Rect.unit (s := S512x512) (k0_off3 k) S128x128.size (k0_off3_inb k)).toLoadRect X6) (View.readAt (Elt F) arg7.view (Rect.unit (s := S4x1x128) ![2, 0, 0] S1x1x128.size inb_S4x1x128_S1x1x128_2_0_0).toLoadRect X7) v24 acc.2.2.1⟩,
      ⟨Rect.unit (k0_off2 k) S128x128.size (k0_off2_inb k), outA (View.readAt (Elt F) arg3.view (Rect.unit (s := S512x512) (k0_off2 k) S128x128.size (k0_off2_inb k)).toLoadRect X3) (View.readAt (Elt F) arg4.view (Rect.unit (s := S512x512) (k0_off2 k) S128x128.size (k0_off2_inb k)).toLoadRect X4) (View.readAt (Elt F) arg5.view (Rect.unit (s := S512x512) (k0_off2 k) S128x128.size (k0_off2_inb k)).toLoadRect X5) (View.readAt (Elt F) arg6.view (Rect.unit (s := S512x512) (k0_off2 k) S128x128.size (k0_off2_inb k)).toLoadRect X6) (View.readAt (Elt F) arg7.view (Rect.unit (s := S4x1x128) ![1, 0, 0] S1x1x128.size inb_S4x1x128_S1x1x128_1_0_0).toLoadRect X7) v24 acc.2.1⟩,
      ⟨Rect.unit (k0_off1 k) S128x128.size (k0_off1_inb k), outA (View.readAt (Elt F) arg3.view (Rect.unit (s := S512x512) (k0_off1 k) S128x128.size (k0_off1_inb k)).toLoadRect X3) (View.readAt (Elt F) arg4.view (Rect.unit (s := S512x512) (k0_off1 k) S128x128.size (k0_off1_inb k)).toLoadRect X4) (View.readAt (Elt F) arg5.view (Rect.unit (s := S512x512) (k0_off1 k) S128x128.size (k0_off1_inb k)).toLoadRect X5) (View.readAt (Elt F) arg6.view (Rect.unit (s := S512x512) (k0_off1 k) S128x128.size (k0_off1_inb k)).toLoadRect X6) (View.readAt (Elt F) arg7.view (Rect.unit (s := S4x1x128) ![0, 0, 0] S1x1x128.size inb_S4x1x128_S1x1x128_0_0_0).toLoadRect X7) v24 acc.1⟩] := by
  unfold tripL_k0_t1 trip_k0_t1
  rfl

/-- A trip of the other branch hands on each head's next state. -/
theorem tripR_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (v24 : Vec F S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t2_loop.trips) (acc : FVec F S128x128 .f32 × FVec F S128x128 .f32 × FVec F S128x128 .f32 × FVec F S128x128 .f32) (f9 : BufTy.Contents (Elt F) arg9.view.ty) (f11 : BufTy.Contents (Elt F) arg11.view.ty) :
    tripR_k0_t2 (F := F) Variants.none c none i arg3 harg3 arg4 harg4 arg5 harg5 arg6 harg6 arg7 harg7 arg8 harg8 arg9 harg9 arg10 harg10 arg11 harg11 v24 X3 X4 X5 X6 X7 k acc f9 f11
      = (nextS (View.readAt (Elt F) arg4.view (Rect.unit (s := S512x512) (k0_off5 k) S128x128.size (k0_off5_inb k)).toLoadRect X4) (View.readAt (Elt F) arg5.view (Rect.unit (s := S512x512) (k0_off5 k) S128x128.size (k0_off5_inb k)).toLoadRect X5) (View.readAt (Elt F) arg7.view (Rect.unit (s := S4x1x128) ![0, 0, 0] S1x1x128.size inb_S4x1x128_S1x1x128_0_0_0).toLoadRect X7) acc.1, nextS (View.readAt (Elt F) arg4.view (Rect.unit (s := S512x512) (k0_off6 k) S128x128.size (k0_off6_inb k)).toLoadRect X4) (View.readAt (Elt F) arg5.view (Rect.unit (s := S512x512) (k0_off6 k) S128x128.size (k0_off6_inb k)).toLoadRect X5) (View.readAt (Elt F) arg7.view (Rect.unit (s := S4x1x128) ![1, 0, 0] S1x1x128.size inb_S4x1x128_S1x1x128_1_0_0).toLoadRect X7) acc.2.1, nextS (View.readAt (Elt F) arg4.view (Rect.unit (s := S512x512) (k0_off7 k) S128x128.size (k0_off7_inb k)).toLoadRect X4) (View.readAt (Elt F) arg5.view (Rect.unit (s := S512x512) (k0_off7 k) S128x128.size (k0_off7_inb k)).toLoadRect X5) (View.readAt (Elt F) arg7.view (Rect.unit (s := S4x1x128) ![2, 0, 0] S1x1x128.size inb_S4x1x128_S1x1x128_2_0_0).toLoadRect X7) acc.2.2.1, nextS (View.readAt (Elt F) arg4.view (Rect.unit (s := S512x512) (k0_off8 k) S128x128.size (k0_off8_inb k)).toLoadRect X4) (View.readAt (Elt F) arg5.view (Rect.unit (s := S512x512) (k0_off8 k) S128x128.size (k0_off8_inb k)).toLoadRect X5) (View.readAt (Elt F) arg7.view (Rect.unit (s := S4x1x128) ![3, 0, 0] S1x1x128.size inb_S4x1x128_S1x1x128_3_0_0).toLoadRect X7) acc.2.2.2) := by
  unfold tripR_k0_t2 trip_k0_t2
  rfl

set_option maxHeartbeats 4000000 in
/-- A trip of the other branch stores each head's two matrices in the moving buffer. -/
theorem tripM_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (v24 : Vec F S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t2_loop.trips) (acc : FVec F S128x128 .f32 × FVec F S128x128 .f32 × FVec F S128x128 .f32 × FVec F S128x128 .f32) (f9 : BufTy.Contents (Elt F) arg9.view.ty) (f11 : BufTy.Contents (Elt F) arg11.view.ty) :
    (tripL_k0_t2 (F := F) Variants.none c none i arg3 harg3 arg4 harg4 arg5 harg5 arg6 harg6 arg7 harg7 arg8 harg8 arg9 harg9 arg10 harg10 arg11 harg11 v24 X3 X4 X5 X6 X7 k acc f9 f11).2
      = (store11 3 (View.readAt (Elt F) arg4.view (Rect.unit (s := S512x512) (k0_off8 k) S128x128.size (k0_off8_inb k)).toLoadRect X4) (View.readAt (Elt F) arg7.view (Rect.unit (s := S4x1x128) ![3, 0, 0] S1x1x128.size inb_S4x1x128_S1x1x128_3_0_0).toLoadRect X7) (store11 2 (View.readAt (Elt F) arg4.view (Rect.unit (s := S512x512) (k0_off7 k) S128x128.size (k0_off7_inb k)).toLoadRect X4) (View.readAt (Elt F) arg7.view (Rect.unit (s := S4x1x128) ![2, 0, 0] S1x1x128.size inb_S4x1x128_S1x1x128_2_0_0).toLoadRect X7) (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) [])))) := by
  unfold tripL_k0_t2 trip_k0_t2
  rfl

set_option maxHeartbeats 4000000 in
/-- A trip of the other branch writes each head's output at its own window. -/
theorem tripL_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (v24 : Vec F S1x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t2_loop.trips) (acc : FVec F S128x128 .f32 × FVec F S128x128 .f32 × FVec F S128x128 .f32 × FVec F S128x128 .f32) (f9 : BufTy.Contents (Elt F) arg9.view.ty) (f11 : BufTy.Contents (Elt F) arg11.view.ty) :
    (tripL_k0_t2 (F := F) Variants.none c none i arg3 harg3 arg4 harg4 arg5 harg5 arg6 harg6 arg7 harg7 arg8 harg8 arg9 harg9 arg10 harg10 arg11 harg11 v24 X3 X4 X5 X6 X7 k acc f9 f11).1
      = [⟨Rect.unit (k0_off8 k) S128x128.size (k0_off8_inb k), outL (ld11 arg11 (arg11.view.writes (Elt F) f11 (store11 3 (View.readAt (Elt F) arg4.view (Rect.unit (s := S512x512) (k0_off8 k) S128x128.size (k0_off8_inb k)).toLoadRect X4) (View.readAt (Elt F) arg7.view (Rect.unit (s := S4x1x128) ![3, 0, 0] S1x1x128.size inb_S4x1x128_S1x1x128_3_0_0).toLoadRect X7) (store11 2 (View.readAt (Elt F) arg4.view (Rect.unit (s := S512x512) (k0_off7 k) S128x128.size (k0_off7_inb k)).toLoadRect X4) (View.readAt (Elt F) arg7.view (Rect.unit (s := S4x1x128) ![2, 0, 0] S1x1x128.size inb_S4x1x128_S1x1x128_2_0_0).toLoadRect X7) (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) []))))) 3 0) (ld11 arg11 (arg11.view.writes (Elt F) f11 (store11 3 (View.readAt (Elt F) arg4.view (Rect.unit (s := S512x512) (k0_off8 k) S128x128.size (k0_off8_inb k)).toLoadRect X4) (View.readAt (Elt F) arg7.view (Rect.unit (s := S4x1x128) ![3, 0, 0] S1x1x128.size inb_S4x1x128_S1x1x128_3_0_0).toLoadRect X7) (store11 2 (View.readAt (Elt F) arg4.view (Rect.unit (s := S512x512) (k0_off7 k) S128x128.size (k0_off7_inb k)).toLoadRect X4) (View.readAt (Elt F) arg7.view (Rect.unit (s := S4x1x128) ![2, 0, 0] S1x1x128.size inb_S4x1x128_S1x1x128_2_0_0).toLoadRect X7) (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) []))))) 3 1) (View.readAt (Elt F) arg3.view (Rect.unit (s := S512x512) (k0_off8 k) S128x128.size (k0_off8_inb k)).toLoadRect X3) (View.readAt (Elt F) arg4.view (Rect.unit (s := S512x512) (k0_off8 k) S128x128.size (k0_off8_inb k)).toLoadRect X4) (View.readAt (Elt F) arg5.view (Rect.unit (s := S512x512) (k0_off8 k) S128x128.size (k0_off8_inb k)).toLoadRect X5) (View.readAt (Elt F) arg6.view (Rect.unit (s := S512x512) (k0_off8 k) S128x128.size (k0_off8_inb k)).toLoadRect X6) (View.readAt (Elt F) arg7.view (Rect.unit (s := S4x1x128) ![3, 0, 0] S1x1x128.size inb_S4x1x128_S1x1x128_3_0_0).toLoadRect X7) v24 acc.2.2.2⟩,
      ⟨Rect.unit (k0_off7 k) S128x128.size (k0_off7_inb k), outL (ld11 arg11 (arg11.view.writes (Elt F) f11 (store11 2 (View.readAt (Elt F) arg4.view (Rect.unit (s := S512x512) (k0_off7 k) S128x128.size (k0_off7_inb k)).toLoadRect X4) (View.readAt (Elt F) arg7.view (Rect.unit (s := S4x1x128) ![2, 0, 0] S1x1x128.size inb_S4x1x128_S1x1x128_2_0_0).toLoadRect X7) (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) [])))) 2 0) (ld11 arg11 (arg11.view.writes (Elt F) f11 (store11 2 (View.readAt (Elt F) arg4.view (Rect.unit (s := S512x512) (k0_off7 k) S128x128.size (k0_off7_inb k)).toLoadRect X4) (View.readAt (Elt F) arg7.view (Rect.unit (s := S4x1x128) ![2, 0, 0] S1x1x128.size inb_S4x1x128_S1x1x128_2_0_0).toLoadRect X7) (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) [])))) 2 1) (View.readAt (Elt F) arg3.view (Rect.unit (s := S512x512) (k0_off7 k) S128x128.size (k0_off7_inb k)).toLoadRect X3) (View.readAt (Elt F) arg4.view (Rect.unit (s := S512x512) (k0_off7 k) S128x128.size (k0_off7_inb k)).toLoadRect X4) (View.readAt (Elt F) arg5.view (Rect.unit (s := S512x512) (k0_off7 k) S128x128.size (k0_off7_inb k)).toLoadRect X5) (View.readAt (Elt F) arg6.view (Rect.unit (s := S512x512) (k0_off7 k) S128x128.size (k0_off7_inb k)).toLoadRect X6) (View.readAt (Elt F) arg7.view (Rect.unit (s := S4x1x128) ![2, 0, 0] S1x1x128.size inb_S4x1x128_S1x1x128_2_0_0).toLoadRect X7) v24 acc.2.2.1⟩,
      ⟨Rect.unit (k0_off6 k) S128x128.size (k0_off6_inb k), outL (ld11 arg11 (arg11.view.writes (Elt F) f11 (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) []))) 1 0) (ld11 arg11 (arg11.view.writes (Elt F) f11 (store11 1 (View.readAt (Elt F) arg4.view (Rect.unit (s := S512x512) (k0_off6 k) S128x128.size (k0_off6_inb k)).toLoadRect X4) (View.readAt (Elt F) arg7.view (Rect.unit (s := S4x1x128) ![1, 0, 0] S1x1x128.size inb_S4x1x128_S1x1x128_1_0_0).toLoadRect X7) (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) []))) 1 1) (View.readAt (Elt F) arg3.view (Rect.unit (s := S512x512) (k0_off6 k) S128x128.size (k0_off6_inb k)).toLoadRect X3) (View.readAt (Elt F) arg4.view (Rect.unit (s := S512x512) (k0_off6 k) S128x128.size (k0_off6_inb k)).toLoadRect X4) (View.readAt (Elt F) arg5.view (Rect.unit (s := S512x512) (k0_off6 k) S128x128.size (k0_off6_inb k)).toLoadRect X5) (View.readAt (Elt F) arg6.view (Rect.unit (s := S512x512) (k0_off6 k) S128x128.size (k0_off6_inb k)).toLoadRect X6) (View.readAt (Elt F) arg7.view (Rect.unit (s := S4x1x128) ![1, 0, 0] S1x1x128.size inb_S4x1x128_S1x1x128_1_0_0).toLoadRect X7) v24 acc.2.1⟩,
      ⟨Rect.unit (k0_off5 k) S128x128.size (k0_off5_inb k), outL (ld11 arg11 (arg11.view.writes (Elt F) f11 (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) [])) 0 0) (ld11 arg11 (arg11.view.writes (Elt F) f11 (store11 0 (View.readAt (Elt F) arg4.view (Rect.unit (s := S512x512) (k0_off5 k) S128x128.size (k0_off5_inb k)).toLoadRect X4) (View.readAt (Elt F) arg7.view (Rect.unit (s := S4x1x128) ![0, 0, 0] S1x1x128.size inb_S4x1x128_S1x1x128_0_0_0).toLoadRect X7) [])) 0 1) (View.readAt (Elt F) arg3.view (Rect.unit (s := S512x512) (k0_off5 k) S128x128.size (k0_off5_inb k)).toLoadRect X3) (View.readAt (Elt F) arg4.view (Rect.unit (s := S512x512) (k0_off5 k) S128x128.size (k0_off5_inb k)).toLoadRect X4) (View.readAt (Elt F) arg5.view (Rect.unit (s := S512x512) (k0_off5 k) S128x128.size (k0_off5_inb k)).toLoadRect X5) (View.readAt (Elt F) arg6.view (Rect.unit (s := S512x512) (k0_off5 k) S128x128.size (k0_off5_inb k)).toLoadRect X6) (View.readAt (Elt F) arg7.view (Rect.unit (s := S4x1x128) ![0, 0, 0] S1x1x128.size inb_S4x1x128_S1x1x128_0_0_0).toLoadRect X7) v24 acc.1⟩] := by
  unfold tripL_k0_t2 trip_k0_t2
  rfl

end Cert.KernelIdeal.Gen
end
-- ==== Proof.Blocks.lean ====
module

public import proofs.«01_k».proof.Proof.Moved
public import proofs.«01_k».proof.Proof.Trips

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one grid point computes, as a function of its blocks: the four chunks of each head in turn. -/

/-- The block of 128 by 128 at chunk `k` and head `h`. -/
def tile (x : Vec F S512x512 .f32) (k h : ℕ) : Vec F S128x128 .f32 := fun i =>
  x (ix2 ⟨(128 * k + (i 0).val) % 512, Nat.mod_lt _ (by decide)⟩ ⟨(128 * h + (i 1).val) % 512, Nat.mod_lt _ (by decide)⟩)
/-- The lower bounds of head `h`. -/
def rowOf (x : Vec F S4x1x128 .f32) (h : ℕ) : Vec F S1x1x128 .f32 := fun i => x (ix3 ⟨h % 4, Nat.mod_lt _ (by decide)⟩ 0 (i 2))
/-- The state of head `h`. -/
def headOf (x : Vec F S4x128x128 .f32) (h : ℕ) : FVec F S128x128 .f32 := fun i => x (ix3 ⟨h % 4, Nat.mod_lt _ (by decide)⟩ (i 0) (i 1))
/-- The state of head `h` before chunk `k`. -/
def SA (x1 x2 : Vec F S512x512 .f32) (x4 : Vec F S4x1x128 .f32) (h : ℕ) (S : FVec F S128x128 .f32) : ℕ → FVec F S128x128 .f32
  | 0 => S
  | k + 1 => nextS (tile x1 k h) (tile x2 k h) (rowOf x4 h) (SA x1 x2 x4 h S k)
/-- A block of 512 by 512 from its tiles. -/
def outG (O : ℕ → ℕ → FVec F S128x128 .f32) : Vec F S512x512 .f32 := fun y =>
  O ((y 0).val / 128) ((y 1).val / 128) (ix2 ⟨(y 0).val % 128, Nat.mod_lt _ (by decide)⟩ ⟨(y 1).val % 128, Nat.mod_lt _ (by decide)⟩)
/-- The tiles of the factored branch. -/
def tilesA (x0 x1 x2 x3 : Vec F S512x512 .f32) (x4 : Vec F S4x1x128 .f32) (x5 : Vec F S1x128 .f32) (s10 : Vec F S4x128x128 .f32) (k h : ℕ) : FVec F S128x128 .f32 :=
  outA (tile x0 k h) (tile x1 k h) (tile x2 k h) (tile x3 k h) (rowOf x4 h) x5 (SA x1 x2 x4 h (headOf s10 h) k)
/-- The tiles of the other branch. -/
def tilesB (x0 x1 x2 x3 : Vec F S512x512 .f32) (x4 : Vec F S4x1x128 .f32) (x5 : Vec F S1x128 .f32) (s10 : Vec F S4x128x128 .f32) (k h : ℕ) : FVec F S128x128 .f32 :=
  outB (tile x0 k h) (tile x1 k h) (tile x2 k h) (tile x3 k h) (rowOf x4 h) x5 (SA x1 x2 x4 h (headOf s10 h) k)
/-- The states after the point's four chunks. -/
def nextBlk (x1 x2 : Vec F S512x512 .f32) (x4 : Vec F S4x1x128 .f32) (s10 : Vec F S4x128x128 .f32) : Vec F S4x128x128 .f32 := fun y =>
  SA x1 x2 x4 (y 0).val (headOf s10 (y 0).val) 4 (ix2 (y 1) (y 2))

/-- A tile of a block read through its window is that tile. -/
theorem read_tile (arg : Memref sig .tc .vmem S512x512 .f32) (harg : arg.IsWhole) (x : Vec F S512x512 .f32) (off : Fin 2 → ℕ) (inb) (k h : ℕ) (hk : k < 4) (hh : h < 4) (e : off = ![128 * k, 128 * h]) :
    View.readAt (Elt F) arg.view (Rect.unit (s := S512x512) off S128x128.size inb).toLoadRect (harg.unread x) = tile x k h := by
  subst e
  rw [View.readAt_unit _ _ _ rfl inb, harg.read_unread]
  funext i
  refine congrArg x (funext fun a => Fin.ext ?_)
  have h0 : (i 0).val < 128 := (i 0).isLt
  have h1 : (i 1).val < 128 := (i 1).isLt
  match a with
  | ⟨0, _⟩ => show 128 * k + 1 * (i 0).val = (128 * k + (i 0).val) % 512; omega
  | ⟨1, _⟩ => show 128 * h + 1 * (i 1).val = (128 * h + (i 1).val) % 512; omega

/-- A head's row of the bounds, read through its window. -/
theorem read_row (arg : Memref sig .tc .vmem S4x1x128 .f32) (harg : arg.IsWhole) (x : Vec F S4x1x128 .f32) (h : ℕ) (inb) (hh : h < 4) :
    View.readAt (Elt F) arg.view (Rect.unit (s := S4x1x128) ![h, 0, 0] S1x1x128.size inb).toLoadRect (harg.unread x) = rowOf x h := by
  rw [View.readAt_unit _ _ _ rfl inb, harg.read_unread]
  funext i
  refine congrArg x (funext fun a => Fin.ext ?_)
  have h0 : (i 0).val < 1 := (i 0).isLt
  have h1 : (i 1).val < 1 := (i 1).isLt
  match a with
  | ⟨0, _⟩ => show h + 1 * (i 0).val = h % 4; omega
  | ⟨1, _⟩ => show 0 + 1 * (i 1).val = 0; omega
  | ⟨2, _⟩ => show 0 + 1 * (i 2).val = (i 2).val; omega

/-- The gain, read through its window. -/
theorem read_gain (arg : Memref sig .tc .vmem S1x128 .f32) (harg : arg.IsWhole) (x : Vec F S1x128 .f32) (inb) :
    View.readAt (Elt F) arg.view (Rect.unit (s := S1x128) ![0, 0] S1x128.size inb).toLoadRect (harg.unread x) = x := by
  rw [View.readAt_unit _ _ _ rfl inb, harg.read_unread]
  funext i
  refine congrArg x (funext fun a => Fin.ext ?_)
  match a with
  | ⟨0, _⟩ => show 0 + 1 * (i 0).val = (i 0).val; omega
  | ⟨1, _⟩ => show 0 + 1 * (i 1).val = (i 1).val; omega

/-- A head's state, read through its window. -/
theorem read_head (arg : Memref sig .tc .vmem S4x128x128 .f32) (harg : arg.IsWhole) (x : Vec F S4x128x128 .f32) (h : ℕ) (inb) (hh : h < 4) :
    sq (View.readAt (Elt F) arg.view (Rect.unit (s := S4x128x128) ![h, 0, 0] S1x128x128.size inb).toLoadRect (harg.unread x)) = headOf x h := by
  rw [View.readAt_unit _ _ _ rfl inb, harg.read_unread]
  funext i
  rw [sq_apply]
  refine congrArg x (funext fun a => Fin.ext ?_)
  match a with
  | ⟨0, _⟩ => show h + 1 * 0 = h % 4; omega
  | ⟨1, _⟩ => show 0 + 1 * (i 0).val = (i 0).val; omega
  | ⟨2, _⟩ => show 0 + 1 * (i 1).val = (i 1).val; omega

/-- Written pieces that agree with `G` and reach every row below `128 * n`. -/
def Good (G : Vec F S512x512 .f32) (n : ℕ) (L : List (View.Piece (Elt F) S512x512 .f32)) : Prop :=
  (∀ p ∈ L, ∀ z : p.1.shape.Idx, p.2 z = G (p.1.emb z)) ∧ ∀ y : S512x512.Idx, (y 0).val < 128 * n → ∃ p ∈ L, y ∈ p.1.set

/-- The outputs at an entry of a stored tile are the tile's. -/
theorem outG_emb (O : ℕ → ℕ → FVec F S128x128 .f32) (off : Fin 2 → ℕ) (inb) (k h : ℕ) (e : off = ![128 * k, 128 * h]) (z : S128x128.Idx) :
    O k h z = outG O ((Rect.unit (s := S512x512) off S128x128.size inb).emb z) := by
  subst e
  have h0 : (z 0).val < 128 := (z 0).isLt
  have h1 : (z 1).val < 128 := (z 1).isLt
  have e0 : (((Rect.unit (s := S512x512) ![128 * k, 128 * h] S128x128.size inb).emb z) 0).val = 128 * k + 1 * (z 0).val := rfl
  have e1 : (((Rect.unit (s := S512x512) ![128 * k, 128 * h] S128x128.size inb).emb z) 1).val = 128 * h + 1 * (z 1).val := rfl
  unfold outG
  have a0 : (128 * k + 1 * (z 0).val) / 128 = k := by omega
  have a1 : (128 * h + 1 * (z 1).val) / 128 = h := by omega
  simp only [e0, e1, a0, a1]
  refine congrArg (O k h) (funext fun a => Fin.ext ?_)
  match a with
  | ⟨0, _⟩ => show (z 0).val = (128 * k + 1 * (z 0).val) % 128; omega
  | ⟨1, _⟩ => show (z 1).val = (128 * h + 1 * (z 1).val) % 128; omega

/-- Storing a chunk's four tiles extends what the output block holds by that chunk. -/
theorem Good.step {O : ℕ → ℕ → FVec F S128x128 .f32} {k : ℕ} {L : List (View.Piece (Elt F) S512x512 .f32)} (H : Good (outG O) k L)
    {o0 o1 o2 o3 : Fin 2 → ℕ} {i0 i1 i2 i3} (e0 : o0 = ![128 * k, 128 * 0]) (e1 : o1 = ![128 * k, 128 * 1]) (e2 : o2 = ![128 * k, 128 * 2]) (e3 : o3 = ![128 * k, 128 * 3])
    {w0 w1 w2 w3 : FVec F S128x128 .f32} (h0 : w0 = O k 0) (h1 : w1 = O k 1) (h2 : w2 = O k 2) (h3 : w3 = O k 3) :
    Good (outG O) (k + 1) ([⟨Rect.unit (s := S512x512) o3 S128x128.size i3, w3⟩, ⟨Rect.unit (s := S512x512) o2 S128x128.size i2, w2⟩,
      ⟨Rect.unit (s := S512x512) o1 S128x128.size i1, w1⟩, ⟨Rect.unit (s := S512x512) o0 S128x128.size i0, w0⟩] ++ L) := by
  subst h0 h1 h2 h3
  have mem : ∀ (y : S512x512.Idx) (o : Fin 2 → ℕ) (i) (h : ℕ), o = ![128 * k, 128 * h] → ¬ (y 0).val < 128 * k → (y 0).val < 128 * (k + 1) → (y 1).val / 128 = h →
      y ∈ (Rect.unit (s := S512x512) o S128x128.size i).set := by
    rintro y o i h rfl ha hb hc
    rw [Rect.mem_set_unit]
    intro a
    match a with
    | ⟨0, _⟩ => show 128 * k ≤ (y 0).val ∧ (y 0).val < 128 * k + 128; omega
    | ⟨1, _⟩ => show 128 * h ≤ (y 1).val ∧ (y 1).val < 128 * h + 128; omega
  refine ⟨fun p hp z => ?_, fun y hy => ?_⟩
  · simp only [List.cons_append, List.nil_append, List.mem_cons] at hp
    rcases hp with rfl | rfl | rfl | rfl | hp
    · exact outG_emb O o3 i3 k 3 e3 z
    · exact outG_emb O o2 i2 k 2 e2 z
    · exact outG_emb O o1 i1 k 1 e1 z
    · exact outG_emb O o0 i0 k 0 e0 z
    · exact H.1 p hp z
  · by_cases hlt : (y 0).val < 128 * k
    · obtain ⟨p, hp, hm⟩ := H.2 y hlt
      exact ⟨p, List.mem_append_right _ hp, hm⟩
    · have hy1 : (y 1).val < 512 := (y 1).isLt
      have : (y 1).val / 128 = 0 ∨ (y 1).val / 128 = 1 ∨ (y 1).val / 128 = 2 ∨ (y 1).val / 128 = 3 := by omega
      rcases this with h | h | h | h
      · exact ⟨_, List.mem_append_left _ (List.mem_cons_of_mem _ (List.mem_cons_of_mem _ (List.mem_cons_of_mem _ List.mem_cons_self))), mem y o0 i0 0 e0 hlt hy h⟩
      · exact ⟨_, List.mem_append_left _ (List.mem_cons_of_mem _ (List.mem_cons_of_mem _ List.mem_cons_self)), mem y o1 i1 1 e1 hlt hy h⟩
      · exact ⟨_, List.mem_append_left _ (List.mem_cons_of_mem _ List.mem_cons_self), mem y o2 i2 2 e2 hlt hy h⟩
      · exact ⟨_, List.mem_append_left _ List.mem_cons_self, mem y o3 i3 3 e3 hlt hy h⟩

/-- After four chunks the output block holds every chunk's outputs. -/
theorem Good.read {arg : Memref sig .tc .vmem S512x512 .f32} {G : Vec F S512x512 .f32} {L : List (View.Piece (Elt F) S512x512 .f32)} (H : Good G 4 L) (f : BufTy.Contents (Elt F) arg.view.ty) :
    arg.view.read (Elt F) (arg.view.writes (Elt F) f L) = G :=
  funext fun y => View.read_writes_apply_of_pieces arg.view f G L H.1 y (H.2 y (by have h : (y 0).val < 512 := (y 0).isLt; omega))

/-- Four matrices written back, one per head. -/
theorem read_back (arg : Memref sig .tc .vmem S4x128x128 .f32) (f : BufTy.Contents (Elt F) arg.view.ty) (S : ℕ → FVec F S128x128 .f32) (w0 w1 w2 w3 : FVec F S128x128 .f32)
    (h0 : w0 = S 0) (h1 : w1 = S 1) (h2 : w2 = S 2) (h3 : w3 = S 3) :
    arg.view.read (Elt F) (arg.view.writes (Elt F) f [⟨Rect.unit (s := S4x128x128) ![3, 0, 0] S1x128x128.size inb_S4x128x128_S1x128x128_3_0_0, unsq w3⟩,
      ⟨Rect.unit (s := S4x128x128) ![2, 0, 0] S1x128x128.size inb_S4x128x128_S1x128x128_2_0_0, unsq w2⟩, ⟨Rect.unit (s := S4x128x128) ![1, 0, 0] S1x128x128.size inb_S4x128x128_S1x128x128_1_0_0, unsq w1⟩,
      ⟨Rect.unit (s := S4x128x128) ![0, 0, 0] S1x128x128.size inb_S4x128x128_S1x128x128_0_0_0, unsq w0⟩])
      = fun y : S4x128x128.Idx => S (y 0).val (ix2 (y 1) (y 2)) := by
  subst h0 h1 h2 h3
  have piece : ∀ (h : ℕ) (inb) (z : S1x128x128.Idx), unsq (S h) z
      = (fun y : S4x128x128.Idx => S (y 0).val (ix2 (y 1) (y 2))) ((Rect.unit (s := S4x128x128) ![h, 0, 0] S1x128x128.size inb).emb z) := by
    intro h inb z
    have hz0 : (z 0).val < 1 := (z 0).isLt
    have hz : z = Fin.cons ⟨0, Nat.one_pos⟩ (ix2 (n0 := 128) (n1 := 128) (z 1) (z 2)) := by
      funext a
      match a with
      | ⟨0, _⟩ => exact Fin.ext (show (z 0).val = 0 by omega)
      | ⟨1, _⟩ => rfl
      | ⟨2, _⟩ => rfl
    conv_lhs => rw [hz, unsq_apply]
    have e0 : (((Rect.unit (s := S4x128x128) ![h, 0, 0] S1x128x128.size inb).emb z) 0).val = h := by show h + 1 * (z 0).val = h; omega
    show S h _ = S _ _
    rw [e0]
    refine congrArg (S h) (funext fun a => Fin.ext ?_)
    match a with
    | ⟨0, _⟩ => show (z 1).val = 0 + 1 * (z 1).val; omega
    | ⟨1, _⟩ => show (z 2).val = 0 + 1 * (z 2).val; omega
  funext y
  refine View.read_writes_apply_of_pieces arg.view f (fun y : S4x128x128.Idx => S (y 0).val (ix2 (y 1) (y 2))) _ ?_ y ?_
  · intro p hp z
    simp only [List.mem_cons, List.not_mem_nil, or_false] at hp
    rcases hp with rfl | rfl | rfl | rfl
    · exact piece 3 inb_S4x128x128_S1x128x128_3_0_0 z
    · exact piece 2 inb_S4x128x128_S1x128x128_2_0_0 z
    · exact piece 1 inb_S4x128x128_S1x128x128_1_0_0 z
    · exact piece 0 inb_S4x128x128_S1x128x128_0_0_0 z
  · have mem : ∀ (h : ℕ) (inb), (y 0).val = h → y ∈ (Rect.unit (s := S4x128x128) ![h, 0, 0] S1x128x128.size inb).set := by
      intro h inb hh
      rw [Rect.mem_set_unit]
      intro a
      have h1 : (y 1).val < 128 := (y 1).isLt
      have h2 : (y 2).val < 128 := (y 2).isLt
      match a with
      | ⟨0, _⟩ => show h ≤ (y 0).val ∧ (y 0).val < h + 1; omega
      | ⟨1, _⟩ => show 0 ≤ (y 1).val ∧ (y 1).val < 0 + 128; omega
      | ⟨2, _⟩ => show 0 ≤ (y 2).val ∧ (y 2).val < 0 + 128; omega
    have h0 : (y 0).val < 4 := (y 0).isLt
    have : (y 0).val = 0 ∨ (y 0).val = 1 ∨ (y 0).val = 2 ∨ (y 0).val = 3 := by omega
    rcases this with h | h | h | h
    · exact ⟨_, List.mem_cons_of_mem _ (List.mem_cons_of_mem _ (List.mem_cons_of_mem _ List.mem_cons_self)), mem 0 inb_S4x128x128_S1x128x128_0_0_0 h⟩
    · exact ⟨_, List.mem_cons_of_mem _ (List.mem_cons_of_mem _ List.mem_cons_self), mem 1 inb_S4x128x128_S1x128x128_1_0_0 h⟩
    · exact ⟨_, List.mem_cons_of_mem _ List.mem_cons_self, mem 2 inb_S4x128x128_S1x128x128_2_0_0 h⟩
    · exact ⟨_, List.mem_cons_self, mem 3 inb_S4x128x128_S1x128x128_3_0_0 h⟩

/-- The first loop makes four trips. -/
theorem four_t1 (k : Fin k0_t1_loop.trips) : k.val < 4 := by
  have h := k.isLt
  have h2 : k0_t1_loop.trips = 4 := by decide +kernel
  omega
/-- The second loop makes four trips. -/
theorem four_t2 (k : Fin k0_t2_loop.trips) : k.val < 4 := by
  have h := k.isLt
  have h2 : k0_t2_loop.trips = 4 := by decide +kernel
  omega

/-- The factored branch's loop after `n` trips: each head's state, and the tiles written so far. -/
theorem loopA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (n : ℕ) (hn : n ≤ k0_t1_loop.trips) :
    (st_k0_t1 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) (headOf s10 0, headOf s10 1, headOf s10 2, headOf s10 3) n).1 = (SA x1 x2 x4 0 (headOf s10 0) n, SA x1 x2 x4 1 (headOf s10 1) n, SA x1 x2 x4 2 (headOf s10 2) n, SA x1 x2 x4 3 (headOf s10 3) n)
    ∧ Good (outG (tilesA x0 x1 x2 x3 x4 x5 s10)) n (st_k0_t1 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) (headOf s10 0, headOf s10 1, headOf s10 2, headOf s10 3) n).2 := by
  induction n with
  | zero => exact ⟨rfl, by intro p hp; exact absurd hp List.not_mem_nil, fun y hy => absurd hy (Nat.not_lt_zero _)⟩
  | succ n ih =>
    obtain ⟨ih1, ih2⟩ := ih (by omega)
    obtain ⟨k, rfl⟩ : ∃ k : Fin k0_t1_loop.trips, k.val = n := ⟨⟨n, hn⟩, rfl⟩
    have hk := four_t1 k
    rw [st_k0_t1_succ]
    generalize st_k0_t1 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) (headOf s10 0, headOf s10 1, headOf s10 2, headOf s10 3) k.val = s at ih1 ih2 ⊢
    obtain ⟨a, L⟩ := s
    dsimp only at ih1 ih2 ⊢
    subst ih1
    constructor
    · rw [tripR_A]; dsimp only; rw [read_tile arg4 harg4 x1 _ (k0_off1_inb k) k.val 0 hk (by decide) (k0_off1_eq k), read_tile arg4 harg4 x1 _ (k0_off2_inb k) k.val 1 hk (by decide) (k0_off2_eq k), read_tile arg4 harg4 x1 _ (k0_off3_inb k) k.val 2 hk (by decide) (k0_off3_eq k), read_tile arg4 harg4 x1 _ (k0_off4_inb k) k.val 3 hk (by decide) (k0_off4_eq k), read_tile arg5 harg5 x2 _ (k0_off1_inb k) k.val 0 hk (by decide) (k0_off1_eq k), read_tile arg5 harg5 x2 _ (k0_off2_inb k) k.val 1 hk (by decide) (k0_off2_eq k), read_tile arg5 harg5 x2 _ (k0_off3_inb k) k.val 2 hk (by decide) (k0_off3_eq k), read_tile arg5 harg5 x2 _ (k0_off4_inb k) k.val 3 hk (by decide) (k0_off4_eq k), read_row arg7 harg7 x4 0 _ (by decide), read_row arg7 harg7 x4 1 _ (by decide), read_row arg7 harg7 x4 2 _ (by decide), read_row arg7 harg7 x4 3 _ (by decide)]; rfl
    · rw [tripL_A]; dsimp only
      exact ih2.step (k0_off1_eq k) (k0_off2_eq k) (k0_off3_eq k) (k0_off4_eq k)
        (by rw [read_tile arg3 harg3 x0 _ (k0_off1_inb k) k.val 0 hk (by decide) (k0_off1_eq k), read_tile arg4 harg4 x1 _ (k0_off1_inb k) k.val 0 hk (by decide) (k0_off1_eq k), read_tile arg5 harg5 x2 _ (k0_off1_inb k) k.val 0 hk (by decide) (k0_off1_eq k), read_tile arg6 harg6 x3 _ (k0_off1_inb k) k.val 0 hk (by decide) (k0_off1_eq k), read_row arg7 harg7 x4 0 _ (by decide)]; rfl) (by rw [read_tile arg3 harg3 x0 _ (k0_off2_inb k) k.val 1 hk (by decide) (k0_off2_eq k), read_tile arg4 harg4 x1 _ (k0_off2_inb k) k.val 1 hk (by decide) (k0_off2_eq k), read_tile arg5 harg5 x2 _ (k0_off2_inb k) k.val 1 hk (by decide) (k0_off2_eq k), read_tile arg6 harg6 x3 _ (k0_off2_inb k) k.val 1 hk (by decide) (k0_off2_eq k), read_row arg7 harg7 x4 1 _ (by decide)]; rfl) (by rw [read_tile arg3 harg3 x0 _ (k0_off3_inb k) k.val 2 hk (by decide) (k0_off3_eq k), read_tile arg4 harg4 x1 _ (k0_off3_inb k) k.val 2 hk (by decide) (k0_off3_eq k), read_tile arg5 harg5 x2 _ (k0_off3_inb k) k.val 2 hk (by decide) (k0_off3_eq k), read_tile arg6 harg6 x3 _ (k0_off3_inb k) k.val 2 hk (by decide) (k0_off3_eq k), read_row arg7 harg7 x4 2 _ (by decide)]; rfl) (by rw [read_tile arg3 harg3 x0 _ (k0_off4_inb k) k.val 3 hk (by decide) (k0_off4_eq k), read_tile arg4 harg4 x1 _ (k0_off4_inb k) k.val 3 hk (by decide) (k0_off4_eq k), read_tile arg5 harg5 x2 _ (k0_off4_inb k) k.val 3 hk (by decide) (k0_off4_eq k), read_tile arg6 harg6 x3 _ (k0_off4_inb k) k.val 3 hk (by decide) (k0_off4_eq k), read_row arg7 harg7 x4 3 _ (by decide)]; rfl)

/-- The other branch's loop after `n` trips: each head's state, the tiles written so far, and the zero rows of the moving buffer. -/
theorem loopB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (f9 : BufTy.Contents (Elt F) arg9.view.ty) (s11 : Vec F S4x2x144x128 .f32) (h11 : Top0 s11) (n : ℕ) (hn : n ≤ k0_t2_loop.trips) :
    (st_k0_t2 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) f9 (harg11.unread s11) (headOf s10 0, headOf s10 1, headOf s10 2, headOf s10 3) n).1 = (SA x1 x2 x4 0 (headOf s10 0) n, SA x1 x2 x4 1 (headOf s10 1) n, SA x1 x2 x4 2 (headOf s10 2) n, SA x1 x2 x4 3 (headOf s10 3) n)
    ∧ Good (outG (tilesB x0 x1 x2 x3 x4 x5 s10)) n (st_k0_t2 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) f9 (harg11.unread s11) (headOf s10 0, headOf s10 1, headOf s10 2, headOf s10 3) n).2.1
    ∧ Top0 (arg11.view.read (Elt F) (arg11.view.writes (Elt F) (harg11.unread s11) (st_k0_t2 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) f9 (harg11.unread s11) (headOf s10 0, headOf s10 1, headOf s10 2, headOf s10 3) n).2.2)) := by
  induction n with
  | zero => exact ⟨rfl, ⟨by intro p hp; exact absurd hp List.not_mem_nil, fun y hy => absurd hy (Nat.not_lt_zero _)⟩, by
      show Top0 (arg11.view.read (Elt F) (harg11.unread s11))
      rw [harg11.read_unread]; exact h11⟩
  | succ n ih =>
    obtain ⟨ih1, ih2, ih3⟩ := ih (by omega)
    obtain ⟨k, rfl⟩ : ∃ k : Fin k0_t2_loop.trips, k.val = n := ⟨⟨n, hn⟩, rfl⟩
    have hk := four_t2 k
    rw [st_k0_t2_succ]
    generalize st_k0_t2 (F := F) Variants.none c none i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) f9 (harg11.unread s11) (headOf s10 0, headOf s10 1, headOf s10 2, headOf s10 3) k.val = s at ih1 ih2 ih3 ⊢
    obtain ⟨a, L, M⟩ := s
    dsimp only at ih1 ih2 ih3 ⊢
    subst ih1
    have t0 : Top0 (arg11.view.read (Elt F) (arg11.view.writes (Elt F) (arg11.view.writes (Elt F) (harg11.unread s11) M) [])) := ih3
    refine ⟨?_, ?_, ?_⟩
    · rw [tripR_B]; dsimp only; rw [read_tile arg4 harg4 x1 _ (k0_off5_inb k) k.val 0 hk (by decide) (k0_off5_eq k), read_tile arg4 harg4 x1 _ (k0_off6_inb k) k.val 1 hk (by decide) (k0_off6_eq k), read_tile arg4 harg4 x1 _ (k0_off7_inb k) k.val 2 hk (by decide) (k0_off7_eq k), read_tile arg4 harg4 x1 _ (k0_off8_inb k) k.val 3 hk (by decide) (k0_off8_eq k), read_tile arg5 harg5 x2 _ (k0_off5_inb k) k.val 0 hk (by decide) (k0_off5_eq k), read_tile arg5 harg5 x2 _ (k0_off6_inb k) k.val 1 hk (by decide) (k0_off6_eq k), read_tile arg5 harg5 x2 _ (k0_off7_inb k) k.val 2 hk (by decide) (k0_off7_eq k), read_tile arg5 harg5 x2 _ (k0_off8_inb k) k.val 3 hk (by decide) (k0_off8_eq k), read_row arg7 harg7 x4 0 _ (by decide), read_row arg7 harg7 x4 1 _ (by decide), read_row arg7 harg7 x4 2 _ (by decide), read_row arg7 harg7 x4 3 _ (by decide)]; rfl
    · have e := tripL_B c i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) k (SA x1 x2 x4 0 (headOf s10 0) k.val, SA x1 x2 x4 1 (headOf s10 1) k.val, SA x1 x2 x4 2 (headOf s10 2) k.val, SA x1 x2 x4 3 (headOf s10 3) k.val) (arg9.view.writes (Elt F) f9 L) (arg11.view.writes (Elt F) (harg11.unread s11) M)
      unfold tripL_k0_t2 at e
      dsimp only at e
      rw [e]
      exact ih2.step (k0_off5_eq k) (k0_off6_eq k) (k0_off7_eq k) (k0_off8_eq k)
        (by rw [outL_eq arg11 _ _ t0, read_tile arg3 harg3 x0 _ (k0_off5_inb k) k.val 0 hk (by decide) (k0_off5_eq k), read_tile arg4 harg4 x1 _ (k0_off5_inb k) k.val 0 hk (by decide) (k0_off5_eq k), read_tile arg5 harg5 x2 _ (k0_off5_inb k) k.val 0 hk (by decide) (k0_off5_eq k), read_tile arg6 harg6 x3 _ (k0_off5_inb k) k.val 0 hk (by decide) (k0_off5_eq k), read_row arg7 harg7 x4 0 _ (by decide)]; rfl) (by rw [outL_eq arg11 _ _ (t0.store 0 _ _), read_tile arg3 harg3 x0 _ (k0_off6_inb k) k.val 1 hk (by decide) (k0_off6_eq k), read_tile arg4 harg4 x1 _ (k0_off6_inb k) k.val 1 hk (by decide) (k0_off6_eq k), read_tile arg5 harg5 x2 _ (k0_off6_inb k) k.val 1 hk (by decide) (k0_off6_eq k), read_tile arg6 harg6 x3 _ (k0_off6_inb k) k.val 1 hk (by decide) (k0_off6_eq k), read_row arg7 harg7 x4 1 _ (by decide)]; rfl) (by rw [outL_eq arg11 _ _ ((t0.store 0 _ _).store 1 _ _), read_tile arg3 harg3 x0 _ (k0_off7_inb k) k.val 2 hk (by decide) (k0_off7_eq k), read_tile arg4 harg4 x1 _ (k0_off7_inb k) k.val 2 hk (by decide) (k0_off7_eq k), read_tile arg5 harg5 x2 _ (k0_off7_inb k) k.val 2 hk (by decide) (k0_off7_eq k), read_tile arg6 harg6 x3 _ (k0_off7_inb k) k.val 2 hk (by decide) (k0_off7_eq k), read_row arg7 harg7 x4 2 _ (by decide)]; rfl) (by rw [outL_eq arg11 _ _ (((t0.store 0 _ _).store 1 _ _).store 2 _ _), read_tile arg3 harg3 x0 _ (k0_off8_inb k) k.val 3 hk (by decide) (k0_off8_eq k), read_tile arg4 harg4 x1 _ (k0_off8_inb k) k.val 3 hk (by decide) (k0_off8_eq k), read_tile arg5 harg5 x2 _ (k0_off8_inb k) k.val 3 hk (by decide) (k0_off8_eq k), read_tile arg6 harg6 x3 _ (k0_off8_inb k) k.val 3 hk (by decide) (k0_off8_eq k), read_row arg7 harg7 x4 3 _ (by decide)]; rfl)
    · have e := tripM_B c i arg3 harg3 arg4 harg4 arg5 harg5 arg6 harg6 arg7 harg7 arg8 harg8 arg9 harg9 arg10 harg10 arg11 harg11 x5 (harg3.unread x0) (harg4.unread x1) (harg5.unread x2) (harg6.unread x3) (harg7.unread x4) k (SA x1 x2 x4 0 (headOf s10 0) k.val, SA x1 x2 x4 1 (headOf s10 1) k.val, SA x1 x2 x4 2 (headOf s10 2) k.val, SA x1 x2 x4 3 (headOf s10 3) k.val) (arg9.view.writes (Elt F) f9 L) (arg11.view.writes (Elt F) (harg11.unread s11) M)
      unfold tripL_k0_t2 at e
      dsimp only at e
      rw [e, View.writes_append]
      exact (((t0.store 0 _ _).store 1 _ _).store 2 _ _).store 3 _ _

/-- The end of the factored branch's loop. -/
theorem endA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) :
    (stT c i arg3 harg3 arg4 harg4 arg5 harg5 arg6 harg6 arg7 harg7 arg8 harg8 arg9 harg9 arg10 harg10 arg11 harg11 x0 x1 x2 x3 x4 x5 s10).1 = (SA x1 x2 x4 0 (headOf s10 0) 4, SA x1 x2 x4 1 (headOf s10 1) 4, SA x1 x2 x4 2 (headOf s10 2) 4, SA x1 x2 x4 3 (headOf s10 3) 4) ∧ Good (outG (tilesA x0 x1 x2 x3 x4 x5 s10)) 4 (stT c i arg3 harg3 arg4 harg4 arg5 harg5 arg6 harg6 arg7 harg7 arg8 harg8 arg9 harg9 arg10 harg10 arg11 harg11 x0 x1 x2 x3 x4 x5 s10).2 := by
  unfold stT
  rw [show k0_pay11 (View.readAt (Elt F) arg10.view (Rect.unit (s := S4x128x128) ![0, 0, 0] S1x128x128.size inb_S4x128x128_S1x128x128_0_0_0).toLoadRect (harg10.unread s10)) = headOf s10 0 from read_head arg10 harg10 s10 0 _ (by decide), show k0_pay12 (View.readAt (Elt F) arg10.view (Rect.unit (s := S4x128x128) ![1, 0, 0] S1x128x128.size inb_S4x128x128_S1x128x128_1_0_0).toLoadRect (harg10.unread s10)) = headOf s10 1 from read_head arg10 harg10 s10 1 _ (by decide), show k0_pay13 (View.readAt (Elt F) arg10.view (Rect.unit (s := S4x128x128) ![2, 0, 0] S1x128x128.size inb_S4x128x128_S1x128x128_2_0_0).toLoadRect (harg10.unread s10)) = headOf s10 2 from read_head arg10 harg10 s10 2 _ (by decide), show k0_pay14 (View.readAt (Elt F) arg10.view (Rect.unit (s := S4x128x128) ![3, 0, 0] S1x128x128.size inb_S4x128x128_S1x128x128_3_0_0).toLoadRect (harg10.unread s10)) = headOf s10 3 from read_head arg10 harg10 s10 3 _ (by decide), read_gain arg8 harg8 x5 _]
  have h4 : Scf.trips k0_t1_loop.lb k0_t1_loop.ub k0_t1_loop.st = 4 := by decide +kernel
  rw [h4]
  exact loopA c i arg3 harg3 arg4 harg4 arg5 harg5 arg6 harg6 arg7 harg7 arg8 harg8 arg9 harg9 arg10 harg10 arg11 harg11 x0 x1 x2 x3 x4 x5 s10 4 (by decide +kernel)

/-- The end of the other branch's loop. -/
theorem endB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (d9 : Vec F S512x512 .f32) (s11 : Vec F S4x2x144x128 .f32) (h11 : Top0 s11) :
    (stF c i arg3 harg3 arg4 harg4 arg5 harg5 arg6 harg6 arg7 harg7 arg8 harg8 arg9 harg9 arg10 harg10 arg11 harg11 x0 x1 x2 x3 x4 x5 s10 d9 s11).1 = (SA x1 x2 x4 0 (headOf s10 0) 4, SA x1 x2 x4 1 (headOf s10 1) 4, SA x1 x2 x4 2 (headOf s10 2) 4, SA x1 x2 x4 3 (headOf s10 3) 4) ∧ Good (outG (tilesB x0 x1 x2 x3 x4 x5 s10)) 4 (stF c i arg3 harg3 arg4 harg4 arg5 harg5 arg6 harg6 arg7 harg7 arg8 harg8 arg9 harg9 arg10 harg10 arg11 harg11 x0 x1 x2 x3 x4 x5 s10 d9 s11).2.1
    ∧ Top0 (arg11.view.read (Elt F) (arg11.view.writes (Elt F) (harg11.unread s11) (stF c i arg3 harg3 arg4 harg4 arg5 harg5 arg6 harg6 arg7 harg7 arg8 harg8 arg9 harg9 arg10 harg10 arg11 harg11 x0 x1 x2 x3 x4 x5 s10 d9 s11).2.2)) := by
  unfold stF
  rw [show k0_pay19 (View.readAt (Elt F) arg10.view (Rect.unit (s := S4x128x128) ![0, 0, 0] S1x128x128.size inb_S4x128x128_S1x128x128_0_0_0).toLoadRect (harg10.unread s10)) = headOf s10 0 from read_head arg10 harg10 s10 0 _ (by decide), show k0_pay20 (View.readAt (Elt F) arg10.view (Rect.unit (s := S4x128x128) ![1, 0, 0] S1x128x128.size inb_S4x128x128_S1x128x128_1_0_0).toLoadRect (harg10.unread s10)) = headOf s10 1 from read_head arg10 harg10 s10 1 _ (by decide), show k0_pay21 (View.readAt (Elt F) arg10.view (Rect.unit (s := S4x128x128) ![2, 0, 0] S1x128x128.size inb_S4x128x128_S1x128x128_2_0_0).toLoadRect (harg10.unread s10)) = headOf s10 2 from read_head arg10 harg10 s10 2 _ (by decide), show k0_pay22 (View.readAt (Elt F) arg10.view (Rect.unit (s := S4x128x128) ![3, 0, 0] S1x128x128.size inb_S4x128x128_S1x128x128_3_0_0).toLoadRect (harg10.unread s10)) = headOf s10 3 from read_head arg10 harg10 s10 3 _ (by decide), read_gain arg8 harg8 x5 _]
  have h4 : Scf.trips k0_t2_loop.lb k0_t2_loop.ub k0_t2_loop.st = 4 := by decide +kernel
  rw [h4]
  exact loopB c i arg3 harg3 arg4 harg4 arg5 harg5 arg6 harg6 arg7 harg7 arg8 harg8 arg9 harg9 arg10 harg10 arg11 harg11 x0 x1 x2 x3 x4 x5 s10 _ s11 h11 4 (by decide +kernel)

/-- The states the factored branch writes back. -/
theorem backA (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) :
    arg10.view.read (Elt F) (arg10.view.writes (Elt F) (harg10.unread s10) (backT (stT c i arg3 harg3 arg4 harg4 arg5 harg5 arg6 harg6 arg7 harg7 arg8 harg8 arg9 harg9 arg10 harg10 arg11 harg11 x0 x1 x2 x3 x4 x5 s10).1)) = nextBlk x1 x2 x4 s10 := by
  rw [(endA c i arg3 harg3 arg4 harg4 arg5 harg5 arg6 harg6 arg7 harg7 arg8 harg8 arg9 harg9 arg10 harg10 arg11 harg11 x0 x1 x2 x3 x4 x5 s10).1]
  exact read_back arg10 _ (fun h => SA x1 x2 x4 h (headOf s10 h) 4) _ _ _ _ rfl rfl rfl rfl

/-- The states the other branch writes back. -/
theorem backB (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (d9 : Vec F S512x512 .f32) (s11 : Vec F S4x2x144x128 .f32) (h11 : Top0 s11) :
    arg10.view.read (Elt F) (arg10.view.writes (Elt F) (harg10.unread s10) (backF (stF c i arg3 harg3 arg4 harg4 arg5 harg5 arg6 harg6 arg7 harg7 arg8 harg8 arg9 harg9 arg10 harg10 arg11 harg11 x0 x1 x2 x3 x4 x5 s10 d9 s11).1)) = nextBlk x1 x2 x4 s10 := by
  rw [(endB c i arg3 harg3 arg4 harg4 arg5 harg5 arg6 harg6 arg7 harg7 arg8 harg8 arg9 harg9 arg10 harg10 arg11 harg11 x0 x1 x2 x3 x4 x5 s10 d9 s11 h11).1]
  exact read_back arg10 _ (fun h => SA x1 x2 x4 h (headOf s10 h) 4) _ _ _ _ rfl rfl rfl rfl

end Cert.KernelIdeal.Gen
end
-- ==== Proof.Body.lean ====
module

public import proofs.«01_k».proof.Proof.Blocks
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a grid point leaves in its output block. -/
noncomputable def outBlk (x0 x1 x2 x3 : Vec F S512x512 .f32) (x4 : Vec F S4x1x128 .f32) (x5 : Vec F S1x128 .f32) (s10 : Vec F S4x128x128 .f32) : Vec F S512x512 .f32 :=
  open Classical in if cond0_1 x4 then outG (tilesA x0 x1 x2 x3 x4 x5 s10) else outG (tilesB x0 x1 x2 x3 x4 x5 s10)

/-- Reading back the cleared state. -/
theorem pay1_read (arg : Memref sig .tc .vmem S4x128x128 .f32) (f : BufTy.Contents (Elt F) arg.view.ty) (inb) :
    arg.view.read (Elt F) (arg.view.writes (Elt F) f [⟨Rect.unit (s := S4x128x128) ![0, 0, 0] S4x128x128.size inb, k0_pay1 (F := F)⟩]) = k0_pay1 (F := F) := by
  funext y
  refine View.read_writes_apply_of_pieces arg.view f (k0_pay1 (F := F)) _ (fun p hp z => ?_) y ⟨_, List.mem_cons_self, ?_⟩
  · simp only [List.mem_cons, List.not_mem_nil, or_false] at hp
    subst hp
    rfl
  · rw [Rect.mem_set_unit]
    intro a
    have h0 : (y 0).val < 4 := (y 0).isLt
    have h1 : (y 1).val < 128 := (y 1).isLt
    have h2 : (y 2).val < 128 := (y 2).isLt
    match a with
    | ⟨0, _⟩ => show 0 ≤ (y 0).val ∧ (y 0).val < 0 + 4; omega
    | ⟨1, _⟩ => show 0 ≤ (y 1).val ∧ (y 1).val < 0 + 128; omega
    | ⟨2, _⟩ => show 0 ≤ (y 2).val ∧ (y 2).val < 0 + 128; omega

/-- Reading back the cleared key buffer. -/
theorem pay2_read (arg : Memref sig .tc .vmem S4x2x144x128 .f32) (f : BufTy.Contents (Elt F) arg.view.ty) (inb) :
    arg.view.read (Elt F) (arg.view.writes (Elt F) f [⟨Rect.unit (s := S4x2x144x128) ![0, 0, 0, 0] S4x2x144x128.size inb, k0_pay2 (F := F)⟩]) = k0_pay2 (F := F) := by
  funext y
  refine View.read_writes_apply_of_pieces arg.view f (k0_pay2 (F := F)) _ (fun p hp z => ?_) y ⟨_, List.mem_cons_self, ?_⟩
  · simp only [List.mem_cons, List.not_mem_nil, or_false] at hp
    subst hp
    rfl
  · rw [Rect.mem_set_unit]
    intro a
    have h0 : (y 0).val < 4 := (y 0).isLt
    have h1 : (y 1).val < 2 := (y 1).isLt
    have h2 : (y 2).val < 144 := (y 2).isLt
    have h3 : (y 3).val < 128 := (y 3).isLt
    match a with
    | ⟨0, _⟩ => show 0 ≤ (y 0).val ∧ (y 0).val < 0 + 4; omega
    | ⟨1, _⟩ => show 0 ≤ (y 1).val ∧ (y 1).val < 0 + 2; omega
    | ⟨2, _⟩ => show 0 ≤ (y 2).val ∧ (y 2).val < 0 + 144; omega
    | ⟨3, _⟩ => show 0 ≤ (y 3).val ∧ (y 3).val < 0 + 128; omega

/-- The cleared key buffer is zero in its top rows. -/
theorem pay2_top : Top0 (k0_pay2 (F := F)) := fun h j r l hr => rfl

/-- The body after its opening conditional: from the carried states to the output block and the next states. -/
theorem runRest (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (s11 : Vec F S4x2x144x128 .f32) (h11 : Top0 s11) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 s10) ∗ owns (c : Thread nD τ) arg10 fullShare (nextBlk x1 x2 x4 s10) ∗ (∃ s, owns (c : Thread nD τ) arg11 fullShare s ∗ ⌜Top0 s⌝)) -∗ K ⟨⟩))
    ⊢ wp frame (wpE (defs₀ (F := F)) Variants.none c none) E (bodyRest (F := F) i arg3 harg3 arg4 harg4 arg5 harg5 arg6 harg6 arg7 harg7 arg8 harg8 arg9 harg9 arg10 harg10 arg11 harg11).1 K := by
  by_cases hc1 : cond0_1 x4
  · rw [show outBlk x0 x1 x2 x3 x4 x5 s10 = outG (tilesA x0 x1 x2 x3 x4 x5 s10) from if_pos hc1]
    iintro ⟨H0, H1, H2, H3, H4, H5, H6, H7, H8, Hk⟩
    iapply (runT c i arg3 harg3 arg4 harg4 arg5 harg5 arg6 harg6 arg7 harg7 arg8 harg8 arg9 harg9 arg10 harg10 arg11 harg11 x0 x1 x2 x3 x4 x5 hc1 s10 s11 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%f9, H6⟩, H7, H8⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (endA c i arg3 harg3 arg4 harg4 arg5 harg5 arg6 harg6 arg7 harg7 arg8 harg8 arg9 harg9 arg10 harg10 arg11 harg11 x0 x1 x2 x3 x4 x5 s10).2.read f9
    isplitl [H7]
    · unfold owns; iexists _; isplitr
      swap; · iexact H7
      ipureintro; exact backA c i arg3 harg3 arg4 harg4 arg5 harg5 arg6 harg6 arg7 harg7 arg8 harg8 arg9 harg9 arg10 harg10 arg11 harg11 x0 x1 x2 x3 x4 x5 s10
    iexists s11
    isplitl [H8]; · iexact H8
    ipureintro; exact h11
  · rw [show outBlk x0 x1 x2 x3 x4 x5 s10 = outG (tilesB x0 x1 x2 x3 x4 x5 s10) from if_neg hc1]
    iintro ⟨H0, H1, H2, H3, H4, H5, ⟨%d9, H6⟩, H7, H8, Hk⟩
    iapply (runF c i arg3 harg3 arg4 harg4 arg5 harg5 arg6 harg6 arg7 harg7 arg8 harg8 arg9 harg9 arg10 harg10 arg11 harg11 x0 x1 x2 x3 x4 x5 hc1 s10 s11 d9 E K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%f9, H6⟩, H7, H8⟩
    iapply Hk
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact (endB c i arg3 harg3 arg4 harg4 arg5 harg5 arg6 harg6 arg7 harg7 arg8 harg8 arg9 harg9 arg10 harg10 arg11 harg11 x0 x1 x2 x3 x4 x5 s10 d9 s11 h11).2.1.read f9
    isplitl [H7]
    · unfold owns; iexists _; isplitr
      swap; · iexact H7
      ipureintro; exact backB c i arg3 harg3 arg4 harg4 arg5 harg5 arg6 harg6 arg7 harg7 arg8 harg8 arg9 harg9 arg10 harg10 arg11 harg11 x0 x1 x2 x3 x4 x5 s10 d9 s11 h11
    iexists _
    isplitl [H8]
    · unfold owns; iexists _; isplitr
      swap; · iexact H8
      ipureintro; rfl
    ipureintro; exact (endB c i arg3 harg3 arg4 harg4 arg5 harg5 arg6 harg6 arg7 harg7 arg8 harg8 arg9 harg9 arg10 harg10 arg11 harg11 x0 x1 x2 x3 x4 x5 s10 d9 s11 h11).2.2

/-- At a sequence's first point the opening conditional fills both carried buffers with zeros. -/
theorem headFirst (c : Dev nD) (i : grid0.Coords) (hc : cond0_0 i) (arg10 : Memref sig .tc .vmem S4x128x128 .f32) (harg10 : arg10.IsWhole) (arg11 : Memref sig .tc .vmem S4x2x144x128 .f32) (harg11 : arg11.IsWhole)
    (p : Prog (TpuEff nD τ sig (Elt F) Λ₀ .tc) PUnit) (E : Set ℕ) (K : PUnit → sProp 𝕄) :
    iprop((∃ d, owns (c : Thread nD τ) arg10 fullShare d) ∗ (∃ d, owns (c : Thread nD τ) arg11 fullShare d) ∗ (iprop(owns (c : Thread nD τ) arg10 fullShare (k0_pay1 (F := F)) ∗ owns (c : Thread nD τ) arg11 fullShare (k0_pay2 (F := F))) -∗ wp frame (wpE (defs₀ (F := F)) Variants.none c none) E p K))
    ⊢ wp frame (wpE (defs₀ (F := F)) Variants.none c none) E (bodyHead (F := F) i arg10 arg11 p) K := by
  unfold bodyHead
  rw [dif_pos hc]
  unfold owns
  iintro ⟨⟨%d7, %f7, %hf7, H7⟩, ⟨%d8, %f8, %hf8, H8⟩, Hk⟩
  sl_exec
  iapply Hk
  isplitl [H7]
  · iexists _; isplitr
    swap; · iexact H7
    ipureintro; exact pay1_read arg10 _ _
  · iexists _; isplitr
    swap; · iexact H8
    ipureintro; exact pay2_read arg11 _ _

/-- At a sequence's first point the body starts from zero states. -/
theorem bodyFirst (c : Dev nD) (i : grid0.Coords) (hc : cond0_0 i) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 (k0_pay1 (F := F))) ∗ owns (c : Thread nD τ) arg10 fullShare (nextBlk x1 x2 x4 (k0_pay1 (F := F))) ∗ (∃ s, owns (c : Thread nD τ) arg11 fullShare s ∗ ⌜Top0 s⌝)) -∗ K ⟨⟩))
    ⊢ wp frame (wpE (defs₀ (F := F)) Variants.none c none) E (cc0_hgrn (F := F) i arg3 harg3 arg4 harg4 arg5 harg5 arg6 harg6 arg7 harg7 arg8 harg8 arg9 harg9 arg10 harg10 arg11 harg11) K := by
  rw [cc0_hgrn_eq_skeleton, (bodyRest (F := F) i arg3 harg3 arg4 harg4 arg5 harg5 arg6 harg6 arg7 harg7 arg8 harg8 arg9 harg9 arg10 harg10 arg11 harg11).2]
  iintro ⟨H0, H1, H2, H3, H4, H5, H6, H7, H8, Hk⟩
  iapply (headFirst c i hc arg10 harg10 arg11 harg11 _ E K)
  isplitl [H7]; · iexact H7
  isplitl [H8]; · iexact H8
  iintro ⟨H7, H8⟩
  iapply (runRest c i arg3 harg3 arg4 harg4 arg5 harg5 arg6 harg6 arg7 harg7 arg8 harg8 arg9 harg9 arg10 harg10 arg11 harg11 x0 x1 x2 x3 x4 x5 (k0_pay1 (F := F)) (k0_pay2 (F := F)) pay2_top E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hk

/-- At every other point the body starts from the states the point before left. -/
theorem bodyLater (c : Dev nD) (i : grid0.Coords) (hc : ¬ cond0_0 i) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x128 .f32) (harg7 : arg7.IsWhole) (arg8 : Memref sig .tc .vmem S1x128 .f32) (harg8 : arg8.IsWhole) (arg9 : Memref sig .tc .vmem S512x512 .f32) (harg9 : arg9.IsWhole) (arg10 : Memref sig .tc .vmem S4x128x128 .f32) (harg10 : arg10.IsWhole) (arg11 : Memref sig .tc .vmem S4x2x144x128 .f32) (harg11 : arg11.IsWhole) (x0 x1 x2 x3 : Vec F S512x512 .f32) (x4 : Vec F S4x1x128 .f32) (x5 : Vec F S1x128 .f32) (s10 : Vec F S4x128x128 .f32) (s11 : Vec F S4x2x144x128 .f32) (h11 : Top0 s11) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare s10 ∗ owns (c : Thread nD τ) arg11 fullShare s11
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 s10) ∗ owns (c : Thread nD τ) arg10 fullShare (nextBlk x1 x2 x4 s10) ∗ (∃ s, owns (c : Thread nD τ) arg11 fullShare s ∗ ⌜Top0 s⌝)) -∗ K ⟨⟩))
    ⊢ wp frame (wpE (defs₀ (F := F)) Variants.none c none) E (cc0_hgrn (F := F) i arg3 harg3 arg4 harg4 arg5 harg5 arg6 harg6 arg7 harg7 arg8 harg8 arg9 harg9 arg10 harg10 arg11 harg11) K := by
  rw [cc0_hgrn_eq_skeleton, (bodyRest (F := F) i arg3 harg3 arg4 harg4 arg5 harg5 arg6 harg6 arg7 harg7 arg8 harg8 arg9 harg9 arg10 harg10 arg11 harg11).2]
  unfold bodyHead
  rw [dif_neg hc]
  exact runRest c i arg3 harg3 arg4 harg4 arg5 harg5 arg6 harg6 arg7 harg7 arg8 harg8 arg9 harg9 arg10 harg10 arg11 harg11 x0 x1 x2 x3 x4 x5 s10 s11 h11 E K

end Cert.KernelIdeal.Gen
end
-- ==== Proof.Launch.lean ====
module

public import proofs.«01_k».proof.Proof.Body
public import proofs.«01_k».proof.Proof.Gen.KernelIdeal.Points
public import proofs.«01_k».proof.Proof.Gen.KernelIdeal.Launch
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0's staging buffer. -/
abbrev ms0_0 (t : Fin cfg0.N) : Memref sig .tc .vmem S512x512 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer. -/
abbrev ms0_1 (t : Fin cfg0.N) : Memref sig .tc .vmem S512x512 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer. -/
abbrev ms0_2 (t : Fin cfg0.N) : Memref sig .tc .vmem S512x512 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer. -/
abbrev ms0_3 (t : Fin cfg0.N) : Memref sig .tc .vmem S512x512 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer. -/
abbrev ms0_4 (t : Fin cfg0.N) : Memref sig .tc .vmem S4x1x128 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer. -/
abbrev ms0_5 (t : Fin cfg0.N) : Memref sig .tc .vmem S1x128 .f32 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer. -/
abbrev ms0_6 (t : Fin cfg0.N) : Memref sig .tc .vmem S512x512 .f32 := win0_6.stage (cfg0.slots t 6)
/-- Window 6's staging buffer is whole. -/
abbrev hs0_6 (t : Fin cfg0.N) : (ms0_6 t).IsWhole := hstage0_6 ((cfg0.slots t 6).cast nbuf0_6)
/-- The carried states' buffer and the moving buffer. -/
abbrev scM0_0 : Memref sig .tc .vmem S4x128x128 .f32 := Memref.whole cc0_scratch0
/-- The key buffer. -/
abbrev scM0_1 : Memref sig .tc .vmem S4x2x144x128 .f32 := Memref.whole cc0_scratch1

/-- A sequence's first point: every thirty-second. -/
theorem first_iff (t : Fin cfg0.N) : cond0_0 (grid0.coords t) ↔ t.val % 32 = 0 := by
  have ht : t.val < 64 := Nat.lt_of_lt_of_eq t.isLt N_0
  have e2 : (grid0.coords t 2).val = t.val / 1 % 32 := Pipeline.Grid.coords_val t 2 (by decide) rfl
  simp only [cond0_0, e2]
  word_cmp

/-- What the region does not own is what it found. -/
theorem rest_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The states before point `n`: zero at a sequence's first point, else what the point before left. -/
noncomputable def stAt (c : Dev nD) : (n : ℕ) → n < cfg0.N → Vec F S4x128x128 .f32
  | 0, _ => k0_pay1 (F := F)
  | n + 1, h => if (n + 1) % 32 = 0 then k0_pay1 (F := F)
      else nextBlk (X0_1 m c ⟨n, by omega⟩) (X0_2 m c ⟨n, by omega⟩) (iblk m c 4 ⟨n, by omega⟩) (stAt c n (by omega))
/-- The states after point `n`. -/
noncomputable def aftAt (c : Dev nD) (n : ℕ) (h : n < cfg0.N) : Vec F S4x128x128 .f32 :=
  nextBlk (X0_1 m c ⟨n, h⟩) (X0_2 m c ⟨n, h⟩) (iblk m c 4 ⟨n, h⟩) (stAt m c n h)

/-- A batch's first point starts from the cleared state. -/
theorem stAt_first (c : Dev nD) (n : ℕ) (h : n < cfg0.N) (h0 : n % 32 = 0) : stAt m c n h = k0_pay1 (F := F) := by
  cases n with
  | zero => rfl
  | succ n => exact if_pos h0
/-- A later point starts from what the point before it left. -/
theorem stAt_later (c : Dev nD) (n : ℕ) (h : n < cfg0.N) (h0 : ¬ n % 32 = 0) : stAt m c n h = aftAt m c (n - 1) (by omega) := by
  cases n with
  | zero => exact absurd rfl h0
  | succ n => exact if_neg h0

/-- What the launch holds beside the windows before point `n`. -/
noncomputable def PhiS (c : Dev nD) : (n : ℕ) → n ≤ cfg0.N → sProp 𝕄
  | 0, _ => Pipeline.ΦA spec0 c
  | n + 1, hn => iprop(iprop(owns (c : Thread nD τ) scM0_0 fullShare (aftAt m c n hn) ∗ (∃ d, owns (c : Thread nD τ) scM0_1 fullShare d ∗ ⌜Top0 d⌝)) ∗ (∃ r, prngReg c r))
/-- Before the first point the scratch is as allocated. -/
theorem PhiS_zero (c : Dev nD) (n : ℕ) (h : n ≤ cfg0.N) (hz : n = 0) : PhiS m c n h = Pipeline.ΦA spec0 c := by subst hz; rfl
/-- After a point the scratch holds that point's state. -/
theorem PhiS_succ (c : Dev nD) (n : ℕ) (hn : n < cfg0.N) :
    PhiS m c (n + 1) hn = iprop(iprop(owns (c : Thread nD τ) scM0_0 fullShare (aftAt m c n hn) ∗ (∃ d, owns (c : Thread nD τ) scM0_1 fullShare d ∗ ⌜Top0 d⌝)) ∗ (∃ r, prngReg c r)) := rfl
/-- Before a later point likewise. -/
theorem PhiS_pos (c : Dev nD) (n : ℕ) (h : n ≤ cfg0.N) (hz : n ≠ 0) :
    PhiS m c n h = iprop(iprop(owns (c : Thread nD τ) scM0_0 fullShare (aftAt m c (n - 1) (by omega)) ∗ (∃ d, owns (c : Thread nD τ) scM0_1 fullShare d ∗ ⌜Top0 d⌝)) ∗ (∃ r, prngReg c r)) := by
  cases n with
  | zero => exact absurd rfl hz
  | succ n => rfl

/-- The proof data of the launch: each input's block stays, and the output block is `outBlk` of the inputs and the states. -/
noncomputable def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => outBlk (X0_0 m c t) (X0_1 m c t) (X0_2 m c t) (X0_3 m c t) (iblk m c 4 t) (iblk m c 5 t) (stAt m c t.val t.isLt)
  Φ t := PhiS m c t.val (Nat.le_of_lt_succ t.isLt)
  q w := Pipeline.shareOf spec0 w
  owed _ := 0

/-- Each window's array is what the host left there. -/
theorem A_eq (c : Dev nD) (w : Fin cfg0.W) : (dats m 0 c).A w = V m c (Pipeline.arrRef spec0 w) := by dsimp only [dats]
/-- The scratch before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- Window 0's block after a point. -/
theorem after0_0 (c : Dev nD) (t : Fin cfg0.N) : (dats m 0 c).after 0 t = X0_0 m c t := by dsimp only [dats]
/-- Window 0's block before a point. -/
theorem before0_0 (c : Dev nD) (t : Fin cfg0.N) (d) : (dats m 0 c).before 0 t d = X0_0 m c t := before0_0_of m (dats m 0 c) (A_eq m c 0) (after0_0 m c) t d
/-- Window 1's block after a point. -/
theorem after0_1 (c : Dev nD) (t : Fin cfg0.N) : (dats m 0 c).after 1 t = X0_1 m c t := by dsimp only [dats]
/-- Window 1's block before a point. -/
theorem before0_1 (c : Dev nD) (t : Fin cfg0.N) (d) : (dats m 0 c).before 1 t d = X0_1 m c t := before0_1_of m (dats m 0 c) (A_eq m c 1) (after0_1 m c) t d
/-- Window 2's block after a point. -/
theorem after0_2 (c : Dev nD) (t : Fin cfg0.N) : (dats m 0 c).after 2 t = X0_2 m c t := by dsimp only [dats]
/-- Window 2's block before a point. -/
theorem before0_2 (c : Dev nD) (t : Fin cfg0.N) (d) : (dats m 0 c).before 2 t d = X0_2 m c t := before0_2_of m (dats m 0 c) (A_eq m c 2) (after0_2 m c) t d
/-- Window 3's block after a point. -/
theorem after0_3 (c : Dev nD) (t : Fin cfg0.N) : (dats m 0 c).after 3 t = X0_3 m c t := by dsimp only [dats]
/-- Window 3's block before a point. -/
theorem before0_3 (c : Dev nD) (t : Fin cfg0.N) (d) : (dats m 0 c).before 3 t d = X0_3 m c t := before0_3_of m (dats m 0 c) (A_eq m c 3) (after0_3 m c) t d
/-- Window 4's block after a point. -/
theorem after0_4 (c : Dev nD) (t : Fin cfg0.N) : (dats m 0 c).after 4 t = iblk m c 4 t := by dsimp only [dats]
/-- Window 4's block before a point. -/
theorem before0_4 (c : Dev nD) (t : Fin cfg0.N) (d) : (dats m 0 c).before 4 t d = iblk m c 4 t := before0_4_of m (dats m 0 c) (A_eq m c 4) (after0_4 m c) t d
/-- Window 5's block after a point. -/
theorem after0_5 (c : Dev nD) (t : Fin cfg0.N) : (dats m 0 c).after 5 t = iblk m c 5 t := by dsimp only [dats]
/-- Window 5's block before a point. -/
theorem before0_5 (c : Dev nD) (t : Fin cfg0.N) (d) : (dats m 0 c).before 5 t d = iblk m c 5 t := before0_5_of m (dats m 0 c) (A_eq m c 5) (after0_5 m c) t d
/-- Window 6's block after a point. -/
theorem after0_6 (c : Dev nD) (t : Fin cfg0.N) : (dats m 0 c).after 6 t = outBlk (X0_0 m c t) (X0_1 m c t) (X0_2 m c t) (X0_3 m c t) (iblk m c 4 t) (iblk m c 5 t) (stAt m c t.val t.isLt) := by dsimp only [dats]

/-- What the body is called with at point `t`, and what it returns. -/
noncomputable def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
noncomputable def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, after0_0, after0_1, after0_2, after0_3, after0_4, after0_5, after0_6]
  rw [show (dats m 0 c).Φ t.succ = PhiS m c (t.val + 1) t.isLt from rfl, PhiS_succ]
  unfold aftAt
  by_cases h0 : t.val % 32 = 0
  · rw [stAt_first m c t.val t.isLt h0]
    by_cases hz : t.val = 0
    · rw [PhiS_castSucc m c t, PhiS_zero m c _ _ hz, rest_eq]

      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (bodyFirst c (grid0.coords t) ((first_iff t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (X0_3 m c t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]

      iintro ⟨⟨⟨HS0, ⟨%s1, HS1, %h1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (bodyFirst c (grid0.coords t) ((first_iff t).mpr h0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (X0_3 m c t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [stAt_later m c t.val t.isLt h0]
    · rw [PhiS_castSucc m c t, PhiS_pos m c _ _ hz]

      iintro ⟨⟨⟨HS0, ⟨%s1, HS1, %h1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (bodyLater c (grid0.coords t) (fun h => h0 ((first_iff t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (X0_3 m c t) (iblk m c 4 t) (iblk m c 5 t) _ s1 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The row of the table of procedures at a point. -/
theorem defs₀_row (t : Fin cfg0.N) : defs₀ (F := F) .tc cfg0.body (cfg0.bodyArgs t (cfg0.slots t)) = bodyAt0 t := by
  unfold defs₀; rw [Defs.onTc_tc]

/-- Every point meets its obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch starts with the scratch as allocated. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- It ends with the scratch owned. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest_eq]
  iintro ⟨⟨HS0, ⟨%d, HS1, -⟩⟩, Hg⟩
  isplitl [HS0 HS1]
  · isplitl [HS0]
    · iexists _; iexact HS0
    iexists d; iexact HS1
  iexact Hg

set_option backward.isDefEq.respectTransparency.types false in
/-- The launch: every execution ends, the arrays are as the proof data says, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch: the arrays end as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The run ends, leaves the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen
end
-- ==== Proof.RefFrame.lean ====
module

public import proofs.«01_k».proof.Proof.Gen.ReferenceIdeal.Run
public import Idealize.ShloMosaic.Lib.Claim

/-! # The reference's counters

The generated run of the reference says what its buffers hold at the end. Here the same program is shown to leave every semaphore
counter at zero: it has no semaphore outside a kernel's scope, and scoped counters rest at zero whenever no kernel runs. -/

@[expose] public section

set_option maxRecDepth 100000

noncomputable section

namespace Cert.ReferenceIdeal.Value

open Idealize.ShloMosaic Idealize.ShloMosaic.StableHlo Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Cert.ReferenceIdeal.Gen

variable {F : FTy → Type} [FloatOps F]

local notation "𝕄" => MT nD τ sig Unit (Elt F) ℕ (Option PUnit) ℕ

/-- No pipeline is launched, so no admission is asked. -/
abbrev noAdm : (p : Fin 0) → (pcfgs (F := F) p).Adm := fun p => p.elim0

/-- No ticket is handed out. -/
abbrev noTk : Fin 0 → Ticket (Ix := Unit) (Name := ℕ) (U := Option PUnit) (Lvl := ℕ) (nD := nD) (τ := τ) (pcfgs (F := F)) noAdm := fun j => j.elim0

/-- No counter is signalled. -/
abbrev noL : GSem nD τ sig → Finset Unit := fun _ => ∅

/-- Every level is zero. -/
abbrev noLv : GSem nD τ sig → Unit → ℕ := fun _ _ => 0

/-- What rides beside the buffers: the core owes nothing. -/
abbrev rides (c : Dev nD) : sProp 𝕄 := iprop(∃ W, owes (c : Thread nD τ) (0 : CellTallies nD τ sig Unit) W)

variable (m : (ℓ : Loc nD τ sig) → Buf (Elt F) ℓ) (ρ : Dev nD → PrngReg)

/-- The loop's condition returns one exactly while trips are left, with the core's debt carried through. -/
theorem cond_rides : LoopCond (pcfgs (F := F)) defs₀ Variants.none loops rides main_while0_cond condOps bodyI (entryContents preI m) 16384 := by
  intro k hk c bd
  have hc := cond_spec m k hk c bd
  refine BIBase.Entails.trans ?_ (((sep_mono_left hc).trans (wp_frame_r (R := rides c) _ _ _)).trans (wp_mono _ _ _ fun v => ?_))
  · iintro ⟨Hb, Hh, HR⟩
    isplitl [Hb Hh]
    · isplitl [Hb] <;> iassumption
    · iexact HR
  · iintro ⟨⟨%hv, Hb, Hh⟩, HR⟩
    isplitr
    · ipureintro; exact hv
    isplitl [Hb]
    · iexact Hb
    isplitl [Hh] <;> iassumption

/-- The stretches before the loop, the loop, and the stretches after it. -/
def pieces : List (CSeg (pcfgs (F := F)) noAdm defs₀ Variants.none noL noLv loops noTk) :=
  segsOf _ _ _ _ _ _ _ _ rides preI hpre (launchContents m)
    ++ loopSeg _ _ _ _ _ _ _ _ 0 main_while0_cond main_while0_body rfl condOps bodyI hbodyI
        (by rw [while0_body_chain]; rfl) 16384 (entryContents preI m) rides (cond_rides m)
      :: segsOf _ _ _ _ _ _ _ _ rides postI hpost (fun c => after condOps (atTrip condOps bodyI (entryContents preI m) 16384 c))

/-- The pieces' programs in order. -/
theorem pieces_prog : (pieces m).map CSeg.prog
    = (preI.map fun ops => (seq ops : Prog _ PUnit)) ++ HostLoop.enter 0 :: postI.map fun ops => (seq ops : Prog _ PUnit) := by
  unfold pieces
  rw [List.map_append, List.map_cons, segsOf_prog, segsOf_prog]
  rfl

/-- Every weakly fair execution of the reference terminates with every semaphore counter at zero. -/
theorem run_counters : θ_run (defs (F := F)) (onTc (τ := τ) (main (F := F))) ⟨m, fun _ => 0, ρ⟩ (fun r => r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (pieces m)
    (fun c Q => by
      rw [main_chain c]
      show wp _ _ _ (Pipeline.chain ((pieces m).map CSeg.prog)) Q ⊢ _
      rw [pieces_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rides c))
    (Tₙ := fun c => iprop(held (c : Thread nD τ) (ucRefs τ sig) (finalContents condOps preI bodyI postI 16384 m c)))
    (hch := by
      unfold pieces
      exact CSeg.Chains.append (segsOf_chains _ _ _ _ _ _ _ _ rides preI hpre _)
        ⟨fun _ => .rfl, segsOf_chains _ _ _ _ _ _ _ _ rides postI hpost _⟩)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun _ _ => True)
    (hfin := fun c s' => by
      iintro ⟨-, HSI⟩
      imodintro
      isplitr
      · ipureintro; trivial
      iexact HSI)
    (hQ := fun s _ h => by
      funext g
      refine h g ?_
      by_cases hg : g.1.2 = .tc
      · exact Or.inr ((by decide +kernel : ∀ s : SemLoc sig, s.isScoped .tc = true) g.2)
      · exact Or.inl hg)

/-- The reference's frame: every execution terminates with its arguments unchanged and every counter at zero. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => (h.1 c).2, h.2⟩) (θ_run_and (run m ρ) (run_counters m ρ))

end Cert.ReferenceIdeal.Value

end
-- ==== Proof.Masks.lean ====
module

public import proofs.«01_k».proof.Proof.Head
public import Idealize.ShloMosaic.Lib.Pointwise
public import Idealize.ShloMosaic.Lib.WordCmp

/-! # The kernel's index masks, read at a row and a column -/

@[expose] public section

set_option maxRecDepth 16384

noncomputable section

namespace Cert.KernelIdeal.Gen

open Idealize.ShloMosaic Idealize.ShloMosaic.TcCoe

/-- Comparing a column with a row. -/
theorem sle_word : ∀ t s : Fin 128, IntOp.cmpi .sle (BitVec.ofNat 32 s.val) (BitVec.ofNat 32 t.val) = if s.val ≤ t.val then 1#1 else 0#1 := by
  decide +kernel

/-- Comparing a column's block of sixteen with a row's. -/
theorem slt_word : ∀ t s : Fin 128, IntOp.cmpi .slt (IntOp.shrui ArithUnit.vector (BitVec.ofNat 32 s.val) 4#32) (IntOp.shrui ArithUnit.vector (BitVec.ofNat 32 t.val) 4#32)
    = if s.val / 16 < t.val / 16 then 1#1 else 0#1 := by
  decide +kernel

/-- A distance inside a block is at least zero exactly for a pair in order. -/
theorem sge_word : ∀ t s : Fin 128, IntOp.cmpi .sge (Scalar.select
      (IntOp.cmpi CmpIPredicate.eq (IntOp.shrui ArithUnit.vector (BitVec.ofNat 32 t.val) 4#32)
        (IntOp.shrui ArithUnit.vector (BitVec.ofNat 32 s.val) 4#32))
      (IntOp.subi (BitVec.ofNat 32 t.val) (BitVec.ofNat 32 s.val)) 4294967295#32) 0#32
    = if s.val / 16 = t.val / 16 ∧ s.val ≤ t.val then 1#1 else 0#1 := by
  decide +kernel

/-- The distance inside a block, or minus one. -/
theorem dist_word : ∀ t s : Fin 128, Scalar.select
      (IntOp.cmpi CmpIPredicate.eq (IntOp.shrui ArithUnit.vector (BitVec.ofNat 32 t.val) 4#32)
        (IntOp.shrui ArithUnit.vector (BitVec.ofNat 32 s.val) 4#32))
      (IntOp.subi (BitVec.ofNat 32 t.val) (BitVec.ofNat 32 s.val)) 4294967295#32
    = if s.val / 16 = t.val / 16 then BitVec.ofNat 32 t.val - BitVec.ofNat 32 s.val else 4294967295#32 := by
  decide +kernel

/-- A distance inside a block is `d` exactly for a pair `d` apart. -/
theorem eq_word (d : Fin 16) (t s : Fin 128) : IntOp.cmpi .eq (Scalar.select
      (IntOp.cmpi CmpIPredicate.eq (IntOp.shrui ArithUnit.vector (BitVec.ofNat 32 t.val) 4#32)
        (IntOp.shrui ArithUnit.vector (BitVec.ofNat 32 s.val) 4#32))
      (IntOp.subi (BitVec.ofNat 32 t.val) (BitVec.ofNat 32 s.val)) 4294967295#32) (BitVec.ofNat 32 d.val)
    = if s.val / 16 = t.val / 16 ∧ s.val + d.val = t.val then 1#1 else 0#1 := by
  rw [dist_word]
  have hd := d.isLt
  have ht := t.isLt
  have hs := s.isLt
  have key : (if s.val / 16 = t.val / 16 then BitVec.ofNat 32 t.val - BitVec.ofNat 32 s.val else 4294967295#32) = BitVec.ofNat 32 d.val
      ↔ s.val / 16 = t.val / 16 ∧ s.val + d.val = t.val := by
    by_cases h : s.val / 16 = t.val / 16
    · rw [if_pos h]
      constructor
      · intro e; exact ⟨h, by bv_omega⟩
      · intro e; have := e.2; bv_omega
    · rw [if_neg h]
      constructor
      · intro e; bv_omega
      · intro e; exact absurd e.1 h
  by_cases h : s.val / 16 = t.val / 16 ∧ s.val + d.val = t.val
  · rw [if_pos h, key.2 h]; simp [IntOp.cmpi]
  · rw [if_neg h]
    have := mt key.1 h
    show BitVec.ofBool (_ == _) = 0#1
    rw [beq_eq_false_iff_ne.mpr this]
    rfl

/-- Choosing by a decided bit. -/
theorem select_bit {α : Type} (p : Prop) [Decidable p] (a b : α) : Scalar.select (if p then 1#1 else 0#1) a b = if p then a else b := by
  by_cases h : p <;> simp [h, Scalar.select]

/-- The lower-triangular mask as a matrix of ones and zeros. -/
theorem lower_at (t s : Fin 128) : k0_pay5 (F := Ideal) (ix2 t s) = if s.val ≤ t.val then (1 : EReal) else 0 := by
  pointwise [k0_pay5]
  rw [sle_word, select_bit]

/-- The mask of the earlier blocks as a matrix of ones and zeros. -/
theorem gstart_at (t s : Fin 128) : k0_pay6 (F := Ideal) (ix2 t s) = if s.val / 16 < t.val / 16 then (1 : EReal) else 0 := by
  pointwise [k0_pay6, k0_pay4, k0_pay3]
  rw [slt_word, select_bit]

/-- The mask of the earlier blocks. -/
theorem off_at (t s : Fin 128) : k0_pay8 (ix2 t s) = if s.val / 16 < t.val / 16 then 1#1 else 0#1 := by
  pointwise [k0_pay8, k0_pay4, k0_pay3]
  rw [slt_word]

/-- The mask of the pairs in order inside a block. -/
theorem diag_at (t s : Fin 128) : IntOp.cmpi .sge (k0_pay7 (ix2 t s)) 0#32 = if s.val / 16 = t.val / 16 ∧ s.val ≤ t.val then 1#1 else 0#1 := by
  pointwise [k0_pay7, k0_pay4, k0_pay3]
  rw [sge_word]

/-- The mask of the pairs `d` apart inside a block. -/
theorem band_at (d : Fin 16) (t s : Fin 128) : IntOp.cmpi .eq (k0_pay7 (ix2 t s)) (BitVec.ofNat 32 d.val) = if s.val / 16 = t.val / 16 ∧ s.val + d.val = t.val then 1#1 else 0#1 := by
  pointwise [k0_pay7, k0_pay4, k0_pay3]
  rw [eq_word]

end Cert.KernelIdeal.Gen

end
-- ==== Proof.RealChunk.lean ====
module

public import Idealize.ShloMosaic.Lib.Pointwise

/-! # The recurrence in real numbers

A state `st n k v` is decayed by `F n k` and receives `K n k * V n v` at every position; the readout of a position is the query
against the state after it. A chunk of 128 positions computes the same with running sums `bt` of the log decays: the carried
state enters with the decay from the chunk's start, and a position's own pairs enter through scores. -/

@[expose] public section

noncomputable section

namespace Cert.Recur

open Finset

/-- Running sum of the log decays of a chunk, through position `t`. -/
def bt (A : Fin 128 → Fin 128 → ℝ) (t k : Fin 128) : ℝ := ∑ s : Fin 128, (if s.val ≤ t.val then 1 else 0) * A s k

/-- Running sum of the log decays over the blocks of sixteen before the one of `t`. -/
def bs (A : Fin 128 → Fin 128 → ℝ) (t k : Fin 128) : ℝ := ∑ s : Fin 128, (if s.val / 16 < t.val / 16 then 1 else 0) * A s k

/-- The running sum up to a block's start depends only on the block. -/
theorem bs_block (A : Fin 128 → Fin 128 → ℝ) (s t k : Fin 128) (h : s.val / 16 = t.val / 16) : bs A s k = bs A t k := by
  unfold bs; rw [h]

/-- Later sums are smaller, the log decays being at most zero. -/
theorem bs_le_bt (A : Fin 128 → Fin 128 → ℝ) (hA : ∀ s k, A s k ≤ 0) (s t k : Fin 128) (h : s.val / 16 < t.val / 16) : bs A t k ≤ bt A s k := by
  unfold bs bt
  refine Finset.sum_le_sum fun u _ => ?_
  by_cases h1 : u.val ≤ s.val
  · have : u.val / 16 < t.val / 16 := lt_of_le_of_lt (Nat.div_le_div_right h1) h
    simp [h1, this]
  · by_cases h2 : u.val / 16 < t.val / 16
    · simp [h1, h2, hA u k]
    · simp [h1, h2]

/-- The running sum at the first position. -/
theorem bt_zero (A : Fin 128 → Fin 128 → ℝ) (k : Fin 128) : bt A 0 k = A 0 k := by
  unfold bt
  rw [Finset.sum_eq_single (0 : Fin 128)]
  · simp
  · intro b _ hb
    have : ¬ b.val ≤ (0 : Fin 128).val := by
      intro h; apply hb; exact Fin.ext (by simpa using h)
    simp only [this, if_false, zero_mul]
  · simp

/-- The running sum takes up one position at a time. -/
theorem bt_succ (A : Fin 128 → Fin 128 → ℝ) (t : ℕ) (h : t + 1 < 128) (k : Fin 128) :
    bt A ⟨t + 1, h⟩ k = bt A ⟨t, by omega⟩ k + A ⟨t + 1, h⟩ k := by
  unfold bt
  have e : ∀ s : Fin 128, (if s.val ≤ t + 1 then (1 : ℝ) else 0) * A s k
      = (if s.val ≤ t then (1 : ℝ) else 0) * A s k + (if s = ⟨t + 1, h⟩ then A s k else 0) := by
    intro s
    by_cases h1 : s.val ≤ t
    · have h2 : s.val ≤ t + 1 := by omega
      have h3 : s ≠ ⟨t + 1, h⟩ := by intro e; rw [e] at h1; simp at h1
      simp [h1, h2, h3]
    · by_cases h2 : s = ⟨t + 1, h⟩
      · subst h2; simp
      · have h3 : ¬ s.val ≤ t + 1 := by
          intro h3; apply h2; exact Fin.ext (by simp only; omega)
        simp [h1, h2, h3]
  simp only [e]
  rw [Finset.sum_add_distrib, Finset.sum_ite_eq' Finset.univ]
  simp

variable (F K V Q : ℕ → Fin 128 → ℝ)

/-- The state before position `n`. -/
def st : ℕ → Fin 128 → Fin 128 → ℝ
  | 0 => fun _ _ => 0
  | n + 1 => fun k v => F n k * st n k v + K n k * V n v

/-- The readout of position `n`. -/
def out (n : ℕ) (v : Fin 128) : ℝ := ∑ k : Fin 128, Q n k * st F K V (n + 1) k v

/-- The log decays of the chunk that starts at `n₀`. -/
def logs (n₀ : ℕ) (s k : Fin 128) : ℝ := Real.log (F (n₀ + s.val) k)

/-- A chunk's scores: position `t`'s query against position `s`'s key, decayed in between. -/
def att (n₀ : ℕ) (t s : Fin 128) : ℝ :=
  if s.val ≤ t.val then ∑ k : Fin 128, Q (n₀ + t.val) k * Real.exp (bt (logs F n₀) t k - bt (logs F n₀) s k) * K (n₀ + s.val) k else 0

/-- The state after position `t` of a chunk, from the state at the chunk's start. -/
theorem st_chunk (hF : ∀ n k, 0 < F n k) (n₀ : ℕ) (k v : Fin 128) : ∀ (t : ℕ) (h : t < 128),
    st F K V (n₀ + t + 1) k v = Real.exp (bt (logs F n₀) ⟨t, h⟩ k) * st F K V n₀ k v
      + ∑ s : Fin 128, if s.val ≤ t then Real.exp (bt (logs F n₀) ⟨t, h⟩ k - bt (logs F n₀) s k) * K (n₀ + s.val) k * V (n₀ + s.val) v else 0
  | 0, h => by
    have e : bt (logs F n₀) ⟨0, h⟩ k = Real.log (F n₀ k) := bt_zero _ k
    rw [e, Real.exp_log (hF _ _), Finset.sum_eq_single (0 : Fin 128)]
    · have e' : bt (logs F n₀) 0 k = Real.log (F n₀ k) := bt_zero _ k
      simp [st, e']
    · intro b _ hb
      have : ¬ b.val ≤ 0 := by
        intro h; apply hb; exact Fin.ext (by simpa using h)
      simp only [this, if_false]
    · simp
  | t + 1, h => by
    have ih := st_chunk hF n₀ k v t (by omega)
    have hs := bt_succ (logs F n₀) t h k
    have hl : Real.exp (logs F n₀ ⟨t + 1, h⟩ k) = F (n₀ + (t + 1)) k := Real.exp_log (hF _ _)
    have step : st F K V (n₀ + (t + 1) + 1) k v = F (n₀ + (t + 1)) k * st F K V (n₀ + t + 1) k v + K (n₀ + (t + 1)) k * V (n₀ + (t + 1)) v := rfl
    rw [step, ih, hs, Real.exp_add, hl, mul_add, Finset.mul_sum]
    have split : ∀ s : Fin 128,
        (if s.val ≤ t + 1 then Real.exp (bt (logs F n₀) ⟨t, by omega⟩ k + logs F n₀ ⟨t + 1, h⟩ k - bt (logs F n₀) s k) * K (n₀ + s.val) k * V (n₀ + s.val) v else 0)
        = F (n₀ + (t + 1)) k * (if s.val ≤ t then Real.exp (bt (logs F n₀) ⟨t, by omega⟩ k - bt (logs F n₀) s k) * K (n₀ + s.val) k * V (n₀ + s.val) v else 0)
          + (if s = ⟨t + 1, h⟩ then K (n₀ + s.val) k * V (n₀ + s.val) v else 0) := by
      intro s
      by_cases h1 : s.val ≤ t
      · have h2 : s.val ≤ t + 1 := by omega
        have h3 : s ≠ ⟨t + 1, h⟩ := by intro e; rw [e] at h1; simp at h1
        rw [if_pos h1, if_pos h2, if_neg h3, add_zero, ← hl]
        rw [show bt (logs F n₀) ⟨t, by omega⟩ k + logs F n₀ ⟨t + 1, h⟩ k - bt (logs F n₀) s k
          = logs F n₀ ⟨t + 1, h⟩ k + (bt (logs F n₀) ⟨t, by omega⟩ k - bt (logs F n₀) s k) from by ring, Real.exp_add]
        ring
      · by_cases h2 : s = ⟨t + 1, h⟩
        · subst h2
          rw [if_pos le_rfl, if_neg h1, if_pos rfl, hs, sub_self, Real.exp_zero]; ring
        · have h3 : ¬ s.val ≤ t + 1 := by
            intro h3; apply h2; exact Fin.ext (by simp only; omega)
          rw [if_neg h1, if_neg h2, if_neg h3]; ring
    simp only [split]
    rw [Finset.sum_add_distrib, Finset.sum_ite_eq' Finset.univ]
    simp only [Finset.mem_univ, if_true]
    ring

/-- The readout of position `t` of a chunk: the carried state's part and the scores' part. -/
theorem out_chunk (hF : ∀ n k, 0 < F n k) (n₀ : ℕ) (t v : Fin 128) :
    out F K V Q (n₀ + t.val) v
      = (∑ k : Fin 128, (Q (n₀ + t.val) k * Real.exp (bt (logs F n₀) t k)) * st F K V n₀ k v)
        + ∑ s : Fin 128, att F K Q n₀ t s * V (n₀ + s.val) v := by
  unfold out
  have e : ∀ k : Fin 128, Q (n₀ + t.val) k * st F K V (n₀ + t.val + 1) k v
      = (Q (n₀ + t.val) k * Real.exp (bt (logs F n₀) t k)) * st F K V n₀ k v
        + ∑ s : Fin 128, (if s.val ≤ t.val then Q (n₀ + t.val) k * Real.exp (bt (logs F n₀) t k - bt (logs F n₀) s k) * K (n₀ + s.val) k else 0) * V (n₀ + s.val) v := by
    intro k
    rw [st_chunk F K V hF n₀ k v t.val t.isLt, mul_add, Finset.mul_sum]
    refine congrArg₂ (· + ·) (by ring) (Finset.sum_congr rfl fun s _ => ?_)
    by_cases h : s.val ≤ t.val
    · rw [if_pos h, if_pos h]; ring
    · rw [if_neg h, if_neg h]; ring
  simp only [e]
  rw [Finset.sum_add_distrib, Finset.sum_comm]
  refine congrArg₂ (· + ·) rfl (Finset.sum_congr rfl fun s _ => ?_)
  rw [← Finset.sum_mul]
  unfold att
  by_cases h : s.val ≤ t.val
  · simp only [if_pos h]
  · simp only [if_neg h, Finset.sum_const_zero]

/-- The state after a chunk. -/
theorem st_next (hF : ∀ n k, 0 < F n k) (n₀ : ℕ) (v k : Fin 128) :
    st F K V (n₀ + 128) k v = st F K V n₀ k v * Real.exp (bt (logs F n₀) 127 k)
      + ∑ s : Fin 128, V (n₀ + s.val) v * (K (n₀ + s.val) k * Real.exp (bt (logs F n₀) 127 k - bt (logs F n₀) s k)) := by
  have h := st_chunk F K V hF n₀ k v 127 (by omega)
  rw [show n₀ + 127 + 1 = n₀ + 128 from rfl] at h
  rw [h, mul_comm]
  refine congrArg₂ (· + ·) rfl (Finset.sum_congr rfl fun s _ => ?_)
  rw [if_pos (by omega)]
  show Real.exp (bt (logs F n₀) 127 k - bt (logs F n₀) s k) * _ * _ = _
  ring

end Cert.Recur

end
-- ==== Proof.Scalars.lean ====
module

public import Idealize.ShloMosaic.Lib.Pointwise

/-! # Scalars of the recurrence at the extended reals

The logistic function's value is a real number in the unit interval at every extended real, so the decay lies between its lower
bound and one; sums and products of real values are real. -/

@[expose] public section

noncomputable section

namespace Cert.Recur

open Idealize.ShloMosaic

/-- A sum of real values is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logistic function's real value. -/
def sg (x : EReal) : ℝ := (Ideal.logistic x).toReal

/-- The logistic function's value is real. -/
theorem logistic_sg (x : EReal) : Ideal.logistic x = (sg x : EReal) := by
  induction x using EReal.rec with
  | bot => simp [sg]
  | top => simp [sg]
  | coe r => simp [sg]

/-- The logistic function as the kernel spells it has that value. -/
theorem sig_coe (x : EReal) : Ideal.div 1 (1 + Ideal.exp (0 - x)) = (sg x : EReal) := by
  rw [zero_sub]
  exact logistic_sg x

/-- The logistic function is at least zero. -/
theorem sg_nonneg (x : EReal) : 0 ≤ sg x := by
  induction x using EReal.rec with
  | bot => simp [sg]
  | top => simp [sg]
  | coe r => simp [sg]; positivity

/-- The logistic function of the opposite. -/
theorem sg_neg (x : EReal) : sg (-x) = 1 - sg x := by
  induction x using EReal.rec with
  | bot => simp [sg]
  | top => simp [sg]
  | coe r =>
    rw [← EReal.coe_neg]
    simp only [sg, Ideal.logistic_coe, EReal.toReal_coe, neg_neg]
    rw [Real.exp_neg]
    have h := Real.exp_pos r
    field_simp
    ring

/-- The logistic function is at most one. -/
theorem sg_le_one (x : EReal) : sg x ≤ 1 := by
  have h := sg_nonneg (-x)
  rw [sg_neg] at h
  linarith

/-- A decay: the lower bound, and the rest of the way to one by the logistic function. -/
def dec (β : ℝ) (x : EReal) : ℝ := β + (1 - β) * sg x

/-- A decay is positive. -/
theorem dec_pos {β : ℝ} (h0 : 0 < β) (h1 : β < 1) (x : EReal) : 0 < dec β x := by
  have := mul_nonneg (sub_nonneg.2 h1.le) (sg_nonneg x)
  unfold dec; linarith

/-- A decay is at most one. -/
theorem dec_le_one {β : ℝ} (h1 : β < 1) (x : EReal) : dec β x ≤ 1 := by
  have := mul_le_mul_of_nonneg_left (sg_le_one x) (sub_nonneg.2 h1.le)
  unfold dec; linarith

/-- The kernel's log decay. -/
theorem log_dec {β : ℝ} (h0 : 0 < β) (h1 : β < 1) (x : EReal) :
    Ideal.log ((β : EReal) + (1 - (β : EReal)) * Ideal.div 1 (1 + Ideal.exp (0 - x))) = ((Real.log (dec β x) : ℝ) : EReal) := by
  rw [sig_coe, ← EReal.coe_one, ← EReal.coe_sub, ← EReal.coe_mul, ← EReal.coe_add, Ideal.log_coe]
  exact if_neg (not_le.2 (dec_pos h0 h1 x))

/-- The kernel's input weight is what the decay leaves of one. -/
theorem inp_dec (β : ℝ) (x : EReal) :
    (1 - (β : EReal)) * Ideal.div 1 (1 + Ideal.exp (0 - (0 - x))) = ((1 - dec β x : ℝ) : EReal) := by
  rw [sig_coe, zero_sub, sg_neg, ← EReal.coe_one, ← EReal.coe_sub, ← EReal.coe_mul]
  unfold dec
  congr 1
  ring

end Cert.Recur

end
-- ==== Proof.ChunkReal.lean ====
module

public import proofs.«01_k».proof.Proof.Masks
public import proofs.«01_k».proof.Proof.RealChunk
public import proofs.«01_k».proof.Proof.Scalars

/-! # One head of one chunk, read in real numbers -/

@[expose] public section

set_option maxRecDepth 16384

noncomputable section

namespace Cert.KernelIdeal.Gen

open Idealize.ShloMosaic Idealize.ShloMosaic.TcCoe Cert.Recur

variable (q f v : Vec Ideal S128x128 .f32) (b : Vec Ideal S1x1x128 .f32) (S : FVec Ideal S128x128 .f32)
variable (β : Fin 128 → ℝ)

/-- The chunk's log decays. -/
def lgs (f : Vec Ideal S128x128 .f32) (β : Fin 128 → ℝ) (s k : Fin 128) : ℝ := Real.log (dec (β k) (f (ix2 s k)))

/-- A bit as a real number. -/
theorem bit_coe (p : Prop) [Decidable p] : (if p then (1 : EReal) else 0) = ((if p then (1 : ℝ) else 0 : ℝ) : EReal) := by
  by_cases h : p <;> simp [h]

/-- What a chunk's head is read from: the lower bounds, the queries and the values are real, the bounds inside the unit interval. -/
structure Reals (q f v : Vec Ideal S128x128 .f32) (b : Vec Ideal S1x1x128 .f32) (β : Fin 128 → ℝ) (Q V : Fin 128 → Fin 128 → ℝ) : Prop where
  hb : ∀ k, b (ix3 0 0 k) = (β k : EReal)
  h0 : ∀ k, 0 < β k
  h1 : ∀ k, β k < 1
  hq : ∀ t k, q (ix2 t k) = (Q t k : EReal)
  hv : ∀ s w, v (ix2 s w) = (V s w : EReal)

/-- What a position adds to the state, as a real number. -/
def inp (f : Vec Ideal S128x128 .f32) (β : Fin 128 → ℝ) (s k : Fin 128) : ℝ := 1 - dec (β k) (f (ix2 s k))

variable {q f v b β} {Q V : Fin 128 → Fin 128 → ℝ}

/-- Log decays are at most zero. -/
theorem Reals.lgs_nonpos (H : Reals q f v b β Q V) (s k : Fin 128) : lgs f β s k ≤ 0 :=
  Real.log_nonpos (dec_pos (H.h0 k) (H.h1 k) _).le (dec_le_one (H.h1 k) _)

/-- The log decays are real. -/
theorem Reals.logF_at (H : Reals q f v b β Q V) (t k : Fin 128) : logF f b (ix2 t k) = (lgs f β t k : EReal) := by
  pointwise [logF]
  rw [H.hb]
  exact log_dec (H.h0 k) (H.h1 k) _

/-- The input weights are real. -/
theorem Reals.inpK_at (H : Reals q f v b β Q V) (t k : Fin 128) : inpK f b (ix2 t k) = (inp f β t k : EReal) := by
  pointwise [inpK]
  rw [H.hb]
  exact inp_dec _ _

/-- A product with a mask of ones and zeros of a matrix of real numbers is the masked real sum: rounding leaves nothing over. -/
theorem dot3_at (m : FVec Ideal S128x128 .bf16) (x : FVec Ideal S128x128 .f32) (M X : Fin 128 → Fin 128 → ℝ)
    (hm : ∀ t s, m (ix2 t s) = (M t s : EReal)) (hx : ∀ s k, x (ix2 s k) = (X s k : EReal)) (t k : Fin 128) :
    dot3 m x (ix2 t k) = ((∑ s, M t s * X s k : ℝ) : EReal) := by
  pointwise [dot3, lo, hi]
  simp only [hm, hx, ← EReal.coe_sub, ← EReal.coe_mul, coe_sum, ← EReal.coe_add, sub_self, mul_zero, Finset.sum_const_zero, add_zero]

/-- The running sums are real. -/
theorem Reals.runT0_at (H : Reals q f v b β Q V) (t k : Fin 128) : runT0 f b (ix2 t k) = (bt (lgs f β) t k : EReal) :=
  dot3_at k0_pay5 (logF f b) _ (lgs f β) (fun t s => (lower_at t s).trans (bit_coe _)) H.logF_at t k

/-- The running sums up to a block's start are real. -/
theorem Reals.runS0_at (H : Reals q f v b β Q V) (t k : Fin 128) : runS0 f b (ix2 t k) = (bs (lgs f β) t k : EReal) :=
  dot3_at k0_pay6 (logF f b) _ (lgs f β) (fun t s => (gstart_at t s).trans (bit_coe _)) H.logF_at t k

/-- The score of a pair. -/
def score (f : Vec Ideal S128x128 .f32) (β : Fin 128 → ℝ) (Q : Fin 128 → Fin 128 → ℝ) (t s : Fin 128) : ℝ :=
  ∑ k, Q t k * Real.exp (bt (lgs f β) t k - bt (lgs f β) s k) * inp f β s k

/-- The score of a pair in two different blocks, its decays split at the later block's start. -/
theorem Reals.cross (H : Reals q f v b β Q V) (t s u : Fin 128) (hu : u.val / 16 = t.val / 16) (h : s.val / 16 < t.val / 16) :
    ∑ k : Fin 128, q (ix2 t k) * Ideal.exp (runT0 f b (ix2 t k) - runS0 f b (ix2 t k))
        * (inpK f b (ix2 s k) * Ideal.exp (min (runS0 f b (ix2 u k) - runT0 f b (ix2 s k)) 0))
      = (score f β Q t s : EReal) := by
  have hm : ∀ k, min (((bs (lgs f β) t k - bt (lgs f β) s k : ℝ) : EReal)) 0 = ((bs (lgs f β) t k - bt (lgs f β) s k : ℝ) : EReal) := fun k =>
    min_eq_left (by
      rw [← EReal.coe_zero, EReal.coe_le_coe_iff]
      exact sub_nonpos.2 (bs_le_bt (lgs f β) (fun s k => H.lgs_nonpos s k) s t k h))
  unfold score
  rw [← coe_sum]
  refine Finset.sum_congr rfl fun k _ => ?_
  rw [H.runT0_at, H.runT0_at, H.runS0_at, H.runS0_at, H.inpK_at, H.hq, bs_block _ u t k hu, ← EReal.coe_sub, ← EReal.coe_sub, hm,
    Ideal.exp_coe, Ideal.exp_coe, ← EReal.coe_mul, ← EReal.coe_mul, ← EReal.coe_mul]
  congr 1
  rw [show bt (lgs f β) t k - bt (lgs f β) s k = (bt (lgs f β) t k - bs (lgs f β) t k) + (bs (lgs f β) t k - bt (lgs f β) s k) from by ring, Real.exp_add]
  ring

/-- The score of a pair in one block, its decays split at the block's start. -/
theorem Reals.inside (H : Reals q f v b β Q V) (t s : Fin 128) (h : s.val / 16 = t.val / 16) :
    ∑ k : Fin 128, q (ix2 t k) * Ideal.exp (runT0 f b (ix2 t k) - runS0 f b (ix2 t k))
        * (inpK f b (ix2 s k) * Ideal.exp (runS0 f b (ix2 s k) - runT0 f b (ix2 s k)))
      = (score f β Q t s : EReal) := by
  unfold score
  rw [← coe_sum]
  refine Finset.sum_congr rfl fun k _ => ?_
  rw [H.runT0_at, H.runT0_at, H.runS0_at, H.runS0_at, H.inpK_at, H.hq, bs_block _ s t k h, ← EReal.coe_sub, ← EReal.coe_sub,
    Ideal.exp_coe, Ideal.exp_coe, ← EReal.coe_mul, ← EReal.coe_mul, ← EReal.coe_mul]
  congr 1
  rw [show bt (lgs f β) t k - bt (lgs f β) s k = (bt (lgs f β) t k - bs (lgs f β) t k) + (bs (lgs f β) t k - bt (lgs f β) s k) from by ring, Real.exp_add]
  ring

/-- Strip 1 holds the scores of block 1 against the earlier blocks. -/
theorem Reals.strip1_at (H : Reals q f v b β Q V) (r : Fin 16) (t s : Fin 128) (ht : t.val = 16 + r.val) (h : s.val / 16 < t.val / 16) :
    strip1 q f b (ix2 r s) = (score f β Q t s : EReal) := by
  have hlt : 16 + r.val < 128 := by omega
  obtain rfl : t = ⟨16 + r.val, hlt⟩ := Fin.ext ht
  pointwise [strip1, qDec, kDec, hi]
  exact H.cross _ s ⟨16, by omega⟩ (by simp only; omega) h

/-- Strip 2 holds the scores of block 2 against the earlier blocks. -/
theorem Reals.strip2_at (H : Reals q f v b β Q V) (r : Fin 16) (t s : Fin 128) (ht : t.val = 32 + r.val) (h : s.val / 16 < t.val / 16) :
    strip2 q f b (ix2 r s) = (score f β Q t s : EReal) := by
  have hlt : 32 + r.val < 128 := by omega
  obtain rfl : t = ⟨32 + r.val, hlt⟩ := Fin.ext ht
  pointwise [strip2, qDec, kDec, hi]
  exact H.cross _ s ⟨32, by omega⟩ (by simp only; omega) h

/-- Strip 3 holds the scores of block 3 against the earlier blocks. -/
theorem Reals.strip3_at (H : Reals q f v b β Q V) (r : Fin 16) (t s : Fin 128) (ht : t.val = 48 + r.val) (h : s.val / 16 < t.val / 16) :
    strip3 q f b (ix2 r s) = (score f β Q t s : EReal) := by
  have hlt : 48 + r.val < 128 := by omega
  obtain rfl : t = ⟨48 + r.val, hlt⟩ := Fin.ext ht
  pointwise [strip3, qDec, kDec, hi]
  exact H.cross _ s ⟨48, by omega⟩ (by simp only; omega) h

/-- Strip 4 holds the scores of block 4 against the earlier blocks. -/
theorem Reals.strip4_at (H : Reals q f v b β Q V) (r : Fin 16) (t s : Fin 128) (ht : t.val = 64 + r.val) (h : s.val / 16 < t.val / 16) :
    strip4 q f b (ix2 r s) = (score f β Q t s : EReal) := by
  have hlt : 64 + r.val < 128 := by omega
  obtain rfl : t = ⟨64 + r.val, hlt⟩ := Fin.ext ht
  pointwise [strip4, qDec, kDec, hi]
  exact H.cross _ s ⟨64, by omega⟩ (by simp only; omega) h

/-- Strip 5 holds the scores of block 5 against the earlier blocks. -/
theorem Reals.strip5_at (H : Reals q f v b β Q V) (r : Fin 16) (t s : Fin 128) (ht : t.val = 80 + r.val) (h : s.val / 16 < t.val / 16) :
    strip5 q f b (ix2 r s) = (score f β Q t s : EReal) := by
  have hlt : 80 + r.val < 128 := by omega
  obtain rfl : t = ⟨80 + r.val, hlt⟩ := Fin.ext ht
  pointwise [strip5, qDec, kDec, hi]
  exact H.cross _ s ⟨80, by omega⟩ (by simp only; omega) h

/-- Strip 6 holds the scores of block 6 against the earlier blocks. -/
theorem Reals.strip6_at (H : Reals q f v b β Q V) (r : Fin 16) (t s : Fin 128) (ht : t.val = 96 + r.val) (h : s.val / 16 < t.val / 16) :
    strip6 q f b (ix2 r s) = (score f β Q t s : EReal) := by
  have hlt : 96 + r.val < 128 := by omega
  obtain rfl : t = ⟨96 + r.val, hlt⟩ := Fin.ext ht
  pointwise [strip6, qDec, kDec, hi]
  exact H.cross _ s ⟨96, by omega⟩ (by simp only; omega) h

/-- Strip 7 holds the scores of block 7 against the earlier blocks. -/
theorem Reals.strip7_at (H : Reals q f v b β Q V) (r : Fin 16) (t s : Fin 128) (ht : t.val = 112 + r.val) (h : s.val / 16 < t.val / 16) :
    strip7 q f b (ix2 r s) = (score f β Q t s : EReal) := by
  have hlt : 112 + r.val < 128 := by omega
  obtain rfl : t = ⟨112 + r.val, hlt⟩ := Fin.ext ht
  pointwise [strip7, qDec, kDec, hi]
  exact H.cross _ s ⟨112, by omega⟩ (by simp only; omega) h

/-- Off the diagonal blocks every pair has its score. -/
theorem Reals.offDiag_at (H : Reals q f v b β Q V) (t s : Fin 128) (h : s.val / 16 < t.val / 16) :
    offDiag q f b (ix2 t s) = (score f β Q t s : EReal) := by
  pointwise [offDiag]
  split
  · omega
  split
  · exact H.strip1_at _ t s (by simp only; omega) h
  split
  · exact H.strip2_at _ t s (by simp only; omega) h
  split
  · exact H.strip3_at _ t s (by simp only; omega) h
  split
  · exact H.strip4_at _ t s (by simp only; omega) h
  split
  · exact H.strip5_at _ t s (by simp only; omega) h
  split
  · exact H.strip6_at _ t s (by simp only; omega) h
  · exact H.strip7_at _ t s (by simp only; omega) h

/-- In the diagonal blocks, where the decays are factored, a pair in order has its score. -/
theorem Reals.diagA_at (H : Reals q f v b β Q V) (t s : Fin 128) :
    diagA q f b (ix2 t s) = if s.val / 16 = t.val / 16 ∧ s.val ≤ t.val then (score f β Q t s : EReal) else 0 := by
  pointwise [diagA, qDec, hi]
  rw [diag_at, select_bit]
  by_cases h : s.val / 16 = t.val / 16 ∧ s.val ≤ t.val
  · rw [if_pos h, if_pos h]
    exact H.inside t s h.1
  · rw [if_neg h, if_neg h]

/-- A band holds the score of the pairs that far apart. -/
theorem Reals.band_score (H : Reals q f v b β Q V) (d : ℕ) (t s : Fin 128) (h : s.val + d = t.val) :
    band q f b (down d (inpK f b)) (down d (runT0 f b)) (ix2 t s) = (score f β Q t s : EReal) := by
  have e : ∀ (x : FVec Ideal S128x128 .f32) (k : Fin 128), down d x (ix2 t k) = x (ix2 s k) := by
    intro x k
    have hd : d ≤ ((ix2 t k : S128x128.Idx) 0).val := by show d ≤ t.val; omega
    unfold down
    rw [dif_pos hd]
    congr 1
    funext a
    match a with
    | 0 => exact Fin.ext (show t.val - d = s.val by omega)
    | 1 => rfl
  pointwise [band, hi]
  simp only [e, H.runT0_at, H.inpK_at, H.hq, ← EReal.coe_sub, Ideal.exp_coe, ← EReal.coe_mul, coe_sum]
  unfold score
  congr 1
  exact Finset.sum_congr rfl fun k _ => by ring

/-- The bands up to `d`: every pair in order and at most `d` apart has its score. -/
theorem Reals.bands_at (H : Reals q f v b β Q V) (t s : Fin 128) : ∀ d : ℕ, d < 16 →
    bands q f b (fun d => down d (inpK f b)) (fun d => down d (runT0 f b)) d (ix2 t s)
      = if s.val / 16 = t.val / 16 ∧ s.val ≤ t.val ∧ t.val ≤ s.val + d then (score f β Q t s : EReal) else 0
  | 0, _ => by
    pointwise [bands, hi]
    rw [show IntOp.cmpi .eq (dmat (ix2 t s)) 0#32 = _ from band_at 0 t s, select_bit]
    by_cases h : s.val / 16 = t.val / 16 ∧ s.val + (0 : Fin 16).val = t.val
    · have hts : s = t := Fin.ext (by have := h.2; simpa using this)
      subst hts
      rw [if_pos h, if_pos ⟨rfl, le_rfl, le_rfl⟩]
      simp only [H.inpK_at, H.hq, ← EReal.coe_mul, coe_sum]
      unfold score
      congr 1
      refine Finset.sum_congr rfl fun k _ => ?_
      rw [sub_self, Real.exp_zero, mul_one]
    · rw [if_neg h, if_neg]
      rintro ⟨h1, h2, h3⟩
      exact h ⟨h1, by simp only [Fin.val_zero]; omega⟩
  | d + 1, hd => by
    have ih := H.bands_at t s d (by omega)
    pointwise [bands]
    rw [band_at ⟨d + 1, hd⟩, select_bit, ih]
    by_cases h : s.val / 16 = t.val / 16 ∧ s.val + (⟨d + 1, hd⟩ : Fin 16).val = t.val
    · rw [if_pos h, H.band_score (d + 1) t s h.2, if_pos ⟨h.1, by have := h.2; simp only at this; omega, by have := h.2; simp only at this; omega⟩]
    · rw [if_neg h]
      by_cases h' : s.val / 16 = t.val / 16 ∧ s.val ≤ t.val ∧ t.val ≤ s.val + d
      · rw [if_pos h', if_pos ⟨h'.1, h'.2.1, by omega⟩]
      · rw [if_neg h', if_neg]
        rintro ⟨h1, h2, h3⟩
        by_cases h4 : s.val + (d + 1) = t.val
        · exact h ⟨h1, h4⟩
        · exact h' ⟨h1, h2, by omega⟩

/-- In the diagonal blocks, band by band, a pair in order has its score. -/
theorem Reals.diagB_at (H : Reals q f v b β Q V) (t s : Fin 128) :
    diagB q f b (fun d => down d (inpK f b)) (fun d => down d (runT0 f b)) (ix2 t s)
      = if s.val / 16 = t.val / 16 ∧ s.val ≤ t.val then (score f β Q t s : EReal) else 0 := by
  pointwise [diagB]
  rw [diag_at, select_bit, H.bands_at t s 15 (by omega)]
  by_cases h : s.val / 16 = t.val / 16 ∧ s.val ≤ t.val
  · rw [if_pos h, if_pos h, if_pos ⟨h.1, h.2, by omega⟩]
  · rw [if_neg h, if_neg h]

/-- The chunk's scores, whichever way the diagonal blocks were computed. -/
theorem Reals.scores_at (H : Reals q f v b β Q V) (d : FVec Ideal S128x128 .f32)
    (hd : ∀ t s : Fin 128, d (ix2 t s) = if s.val / 16 = t.val / 16 ∧ s.val ≤ t.val then (score f β Q t s : EReal) else 0) (t s : Fin 128) :
    scores d q f b (ix2 t s) = ((if s.val ≤ t.val then score f β Q t s else 0 : ℝ) : EReal) := by
  pointwise [scores]
  rw [off_at, select_bit, hd]
  by_cases h : s.val / 16 < t.val / 16
  · rw [if_pos h, H.offDiag_at t s h, if_pos (by omega)]
  · rw [if_neg h]
    by_cases h' : s.val ≤ t.val
    · rw [if_pos ⟨by omega, h'⟩, if_pos h']
    · rw [if_neg fun h => h' h.2, if_neg h', EReal.coe_zero]

/-- The readout is real: the carried state's part and the scores' part. -/
theorem Reals.readout_at (H : Reals q f v b β Q V) (d : FVec Ideal S128x128 .f32)
    (hd : ∀ t s : Fin 128, d (ix2 t s) = if s.val / 16 = t.val / 16 ∧ s.val ≤ t.val then (score f β Q t s : EReal) else 0)
    (S : FVec Ideal S128x128 .f32) (σ : Fin 128 → Fin 128 → ℝ) (hS : ∀ w k, S (ix2 w k) = (σ k w : EReal)) (t w : Fin 128) :
    readout d q f v b S (ix2 t w) = (((∑ k, (Q t k * Real.exp (bt (lgs f β) t k)) * σ k w)
      + ∑ s, (if s.val ≤ t.val then score f β Q t s else 0) * V s w : ℝ) : EReal) := by
  pointwise [readout, hi]
  simp only [H.scores_at d hd, H.runT0_at, H.hq, H.hv, hS, Ideal.exp_coe, ← EReal.coe_mul, coe_sum, ← EReal.coe_add]

/-- The state after the chunk is real. -/
theorem Reals.nextS_at (H : Reals q f v b β Q V)
    (S : FVec Ideal S128x128 .f32) (σ : Fin 128 → Fin 128 → ℝ) (hS : ∀ w k, S (ix2 w k) = (σ k w : EReal)) (w k : Fin 128) :
    nextS f v b S (ix2 w k) = ((σ k w * Real.exp (bt (lgs f β) 127 k)
      + ∑ s, V s w * (inp f β s k * Real.exp (bt (lgs f β) 127 k - bt (lgs f β) s k)) : ℝ) : EReal) := by
  pointwise [nextS, hi]
  simp only [H.runT0_at, H.inpK_at, H.hv, hS, ← EReal.coe_sub, Ideal.exp_coe, ← EReal.coe_mul, coe_sum, ← EReal.coe_add]

end Cert.KernelIdeal.Gen

end
-- ==== Proof.PointReal.lean ====
module

public import proofs.«01_k».proof.Proof.ChunkReal
public import proofs.«01_k».proof.Proof.Body

/-! # One grid point, read in real numbers -/

@[expose] public section

set_option maxRecDepth 16384

noncomputable section

namespace Cert.KernelIdeal.Gen

open Idealize.ShloMosaic Idealize.ShloMosaic.TcCoe Cert.Recur

/-- The decays of a sequence of gate logits. -/
def decs (β : Fin 128 → ℝ) (f : ℕ → Fin 128 → EReal) (n : ℕ) (k : Fin 128) : ℝ := dec (β k) (f n k)
/-- What each position adds to the state. -/
def inps (β : Fin 128 → ℝ) (f : ℕ → Fin 128 → EReal) (n : ℕ) (k : Fin 128) : ℝ := 1 - dec (β k) (f n k)

/-- The blocks of one head hold the sequences from position `n₀` on. -/
structure Slice (x0 x1 x2 : Vec Ideal S512x512 .f32) (x4 : Vec Ideal S4x1x128 .f32) (h : ℕ) (β : Fin 128 → ℝ)
    (f : ℕ → Fin 128 → EReal) (Q V : ℕ → Fin 128 → ℝ) (n₀ : ℕ) : Prop where
  hb : ∀ k, rowOf x4 h (ix3 0 0 k) = (β k : EReal)
  h0 : ∀ k, 0 < β k
  h1 : ∀ k, β k < 1
  hq : ∀ k < 4, ∀ t j : Fin 128, tile x0 k h (ix2 t j) = (Q (n₀ + 128 * k + t.val) j : EReal)
  hf : ∀ k < 4, ∀ t j : Fin 128, tile x1 k h (ix2 t j) = f (n₀ + 128 * k + t.val) j
  hv : ∀ k < 4, ∀ t j : Fin 128, tile x2 k h (ix2 t j) = (V (n₀ + 128 * k + t.val) j : EReal)

variable {x0 x1 x2 x3 : Vec Ideal S512x512 .f32} {x4 : Vec Ideal S4x1x128 .f32} {x5 : Vec Ideal S1x128 .f32} {h : ℕ} {β : Fin 128 → ℝ}
variable {f : ℕ → Fin 128 → EReal} {Q V : ℕ → Fin 128 → ℝ} {n₀ : ℕ}

/-- Decays are positive. -/
theorem Slice.decs_pos (H : Slice x0 x1 x2 x4 h β f Q V n₀) (n : ℕ) (k : Fin 128) : 0 < decs β f n k := dec_pos (H.h0 k) (H.h1 k) _

/-- A chunk of real blocks is real. -/
theorem Slice.reals (H : Slice x0 x1 x2 x4 h β f Q V n₀) (k : ℕ) (hk : k < 4) :
    Reals (tile x0 k h) (tile x1 k h) (tile x2 k h) (rowOf x4 h) β (fun t j => Q (n₀ + 128 * k + t.val) j) (fun t j => V (n₀ + 128 * k + t.val) j) :=
  ⟨H.hb, H.h0, H.h1, H.hq k hk, H.hv k hk⟩

/-- A chunk's log decays are the sequence's. -/
theorem Slice.lgs_eq (H : Slice x0 x1 x2 x4 h β f Q V n₀) (k : ℕ) (hk : k < 4) : lgs (tile x1 k h) β = logs (decs β f) (n₀ + 128 * k) := by
  funext t j
  simp only [lgs, logs, decs, H.hf k hk]

/-- A chunk's input weights are the sequence's. -/
theorem Slice.inp_eq (H : Slice x0 x1 x2 x4 h β f Q V n₀) (k : ℕ) (hk : k < 4) (t j : Fin 128) :
    inp (tile x1 k h) β t j = inps β f (n₀ + 128 * k + t.val) j := by
  simp only [inp, inps, H.hf k hk]

/-- The states of the recurrence, as carried from chunk to chunk. -/
theorem Slice.SA_at (H : Slice x0 x1 x2 x4 h β f Q V n₀) (S : FVec Ideal S128x128 .f32)
    (hS : ∀ w j : Fin 128, S (ix2 w j) = (st (decs β f) (inps β f) V n₀ j w : EReal)) :
    ∀ k ≤ 4, ∀ w j : Fin 128, SA x1 x2 x4 h S k (ix2 w j) = (st (decs β f) (inps β f) V (n₀ + 128 * k) j w : EReal) := by
  intro k
  induction k with
  | zero => intro _ w j; exact hS w j
  | succ k ih =>
    intro hk w j
    rw [show n₀ + 128 * (k + 1) = n₀ + 128 * k + 128 from by ring, st_next _ _ _ H.decs_pos]
    refine ((H.reals k (by omega)).nextS_at (SA x1 x2 x4 h S k) (fun j w => st (decs β f) (inps β f) V (n₀ + 128 * k) j w) (ih (by omega)) w j).trans ?_
    simp only [H.lgs_eq k (by omega), H.inp_eq k (by omega)]

/-- A readout is the recurrence's output. -/
theorem Slice.readout_at (H : Slice x0 x1 x2 x4 h β f Q V n₀) (S : FVec Ideal S128x128 .f32)
    (hS : ∀ w j : Fin 128, S (ix2 w j) = (st (decs β f) (inps β f) V n₀ j w : EReal)) (k : ℕ) (hk : k < 4) (d : FVec Ideal S128x128 .f32)
    (hd : ∀ t s : Fin 128, d (ix2 t s) = if s.val / 16 = t.val / 16 ∧ s.val ≤ t.val
      then (score (tile x1 k h) β (fun t j => Q (n₀ + 128 * k + t.val) j) t s : EReal) else 0) (t w : Fin 128) :
    readout d (tile x0 k h) (tile x1 k h) (tile x2 k h) (rowOf x4 h) (SA x1 x2 x4 h S k) (ix2 t w)
      = (out (decs β f) (inps β f) V Q (n₀ + 128 * k + t.val) w : EReal) := by
  rw [out_chunk _ _ _ _ H.decs_pos]
  refine ((H.reals k hk).readout_at d hd (SA x1 x2 x4 h S k) (fun j w => st (decs β f) (inps β f) V (n₀ + 128 * k) j w)
    (H.SA_at S hS k (by omega)) t w).trans ?_
  simp only [score, att, H.lgs_eq k hk, H.inp_eq k hk]

/-- An output normalised, scaled and gated. -/
def gate1 (o : Fin 128 → ℝ) (w : Fin 128) (g n : EReal) : EReal :=
  (o w : EReal) * Ideal.rsqrt (Ideal.div (∑ j, (o j : EReal) * (o j : EReal)) (Ideal.ofBits .f32 0x43000000#32) + Ideal.ofBits .f32 0x358637BD#32) * n * (g * (sg g : EReal))

/-- The gated output of a tile. -/
theorem gated_at (o : FVec Ideal S128x128 .f32) (g : Vec Ideal S128x128 .f32) (ng : Vec Ideal S1x128 .f32) (O : Fin 128 → Fin 128 → ℝ)
    (hO : ∀ t w, o (ix2 t w) = (O t w : EReal)) (t w : Fin 128) :
    gated o g ng (ix2 t w) = gate1 (O t) w (g (ix2 t w)) (ng (ix2 0 w)) := by
  pointwise [gated]
  simp only [gate1, hO]
  rw [← sig_coe]

/-- A tile of the factored branch. -/
theorem Slice.tilesA_at (H : Slice x0 x1 x2 x4 h β f Q V n₀) (s10 : Vec Ideal S4x128x128 .f32)
    (hS : ∀ w j : Fin 128, headOf s10 h (ix2 w j) = (st (decs β f) (inps β f) V n₀ j w : EReal)) (k : ℕ) (hk : k < 4) (t w : Fin 128) :
    tilesA x0 x1 x2 x3 x4 x5 s10 k h (ix2 t w)
      = gate1 (out (decs β f) (inps β f) V Q (n₀ + 128 * k + t.val)) w (tile x3 k h (ix2 t w)) (x5 (ix2 0 w)) :=
  gated_at _ _ _ (fun t => out (decs β f) (inps β f) V Q (n₀ + 128 * k + t.val)) (H.readout_at _ hS k hk _ ((H.reals k hk).diagA_at)) t w

/-- A tile of the other branch. -/
theorem Slice.tilesB_at (H : Slice x0 x1 x2 x4 h β f Q V n₀) (s10 : Vec Ideal S4x128x128 .f32)
    (hS : ∀ w j : Fin 128, headOf s10 h (ix2 w j) = (st (decs β f) (inps β f) V n₀ j w : EReal)) (k : ℕ) (hk : k < 4) (t w : Fin 128) :
    tilesB x0 x1 x2 x3 x4 x5 s10 k h (ix2 t w)
      = gate1 (out (decs β f) (inps β f) V Q (n₀ + 128 * k + t.val)) w (tile x3 k h (ix2 t w)) (x5 (ix2 0 w)) :=
  gated_at _ _ _ (fun t => out (decs β f) (inps β f) V Q (n₀ + 128 * k + t.val)) (H.readout_at _ hS k hk _ ((H.reals k hk).diagB_at)) t w

/-- What a point leaves in its output block. -/
theorem outBlk_at {β : ℕ → Fin 128 → ℝ} {f : ℕ → ℕ → Fin 128 → EReal} {Q V : ℕ → ℕ → Fin 128 → ℝ}
    (H : ∀ h < 4, Slice x0 x1 x2 x4 h (β h) (f h) (Q h) (V h) n₀) (s10 : Vec Ideal S4x128x128 .f32)
    (hS : ∀ h < 4, ∀ w j : Fin 128, headOf s10 h (ix2 w j) = (st (decs (β h) (f h)) (inps (β h) (f h)) (V h) n₀ j w : EReal)) (r c : Fin 512) :
    outBlk x0 x1 x2 x3 x4 x5 s10 (ix2 r c)
      = gate1 (out (decs (β (c.val / 128)) (f (c.val / 128))) (inps (β (c.val / 128)) (f (c.val / 128))) (V (c.val / 128)) (Q (c.val / 128)) (n₀ + r.val))
        ⟨c.val % 128, Nat.mod_lt _ (by decide)⟩ (x3 (ix2 r c)) (x5 (ix2 0 ⟨c.val % 128, Nat.mod_lt _ (by decide)⟩)) := by
  have hc : c.val / 128 < 4 := by omega
  have hr : r.val / 128 < 4 := by omega
  have e3 : tile x3 (r.val / 128) (c.val / 128) (ix2 ⟨r.val % 128, Nat.mod_lt _ (by decide)⟩ ⟨c.val % 128, Nat.mod_lt _ (by decide)⟩) = x3 (ix2 r c) := by
    refine congrArg x3 ?_
    congr 1 <;> (apply Fin.ext; show (128 * (_ / 128) + _ % 128) % 512 = _; omega)
  have en : n₀ + 128 * (r.val / 128) + r.val % 128 = n₀ + r.val := by omega
  unfold outBlk
  split
  · refine ((H _ hc).tilesA_at s10 (hS _ hc) _ hr ⟨r.val % 128, Nat.mod_lt _ (by decide)⟩ ⟨c.val % 128, Nat.mod_lt _ (by decide)⟩).trans ?_
    rw [e3, en]
  · refine ((H _ hc).tilesB_at s10 (hS _ hc) _ hr ⟨r.val % 128, Nat.mod_lt _ (by decide)⟩ ⟨c.val % 128, Nat.mod_lt _ (by decide)⟩).trans ?_
    rw [e3, en]

/-- The states a point leaves. -/
theorem Slice.nextBlk_at (hh : h < 4) (H : Slice x0 x1 x2 x4 h β f Q V n₀) (s10 : Vec Ideal S4x128x128 .f32)
    (hS : ∀ w j : Fin 128, headOf s10 h (ix2 w j) = (st (decs β f) (inps β f) V n₀ j w : EReal)) (w j : Fin 128) :
    headOf (nextBlk x1 x2 x4 s10) h (ix2 w j) = (st (decs β f) (inps β f) V (n₀ + 512) j w : EReal) := by
  refine Eq.trans ?_ (H.SA_at (headOf s10 h) hS 4 le_rfl w j)
  show SA x1 x2 x4 (h % 4) (headOf s10 (h % 4)) 4 (ix2 w j) = _
  rw [Nat.mod_eq_of_lt hh]

end Cert.KernelIdeal.Gen

end
-- ==== Proof.Bounds.lean ====
module

public import proofs.«01_k».proof.Proof.Gen.KernelIdeal
public import proofs.«01_k».proof.Proof.Scalars
public import Idealize.ShloMosaic.Lib.Pointwise

/-! # The lower bounds of the decays -/

@[expose] public section

set_option maxRecDepth 16384

noncomputable section

namespace Cert.KernelIdeal.Gen

open Idealize.ShloMosaic Idealize.ShloMosaic.TcCoe Cert.Recur

/-- The logits' softmax over their two rows. -/
def soft (X : FVec Ideal S2x512 .f32) : FVec Ideal S2x512 .f32 :=
  Host.divf
    (Host.exp (subf X (broadcastInDim S2x512 ![0, 1] bcast_S1x512_S2x512_0_1 (broadcastInDim S1x512 ![1] bcast_S512_S1x512_1
      (maximumf (broadcastInDim S512 ![] bcast_S_S512 (constant S_ FTy.f32 0xFF800000#32))
        (Host.reduce FloatOps.maximumf X (constant S_ FTy.f32 0xFF800000#32) reducesTo_S2x512_S512_d0 h_S_))))))
    (broadcastInDim S2x512 ![0, 1] bcast_S1x512_S2x512_0_1 (broadcastInDim S1x512 ![1] bcast_S512_S1x512_1
      (Host.reduceAdd
        (Host.exp (subf X (broadcastInDim S2x512 ![0, 1] bcast_S1x512_S2x512_0_1 (broadcastInDim S1x512 ![1] bcast_S512_S1x512_1
          (maximumf (broadcastInDim S512 ![] bcast_S_S512 (constant S_ FTy.f32 0xFF800000#32))
            (Host.reduce FloatOps.maximumf X (constant S_ FTy.f32 0xFF800000#32) reducesTo_S2x512_S512_d0 h_S_))))))
        (constant S_ FTy.f32 0x00000000#32) reducesTo_S2x512_S512_d0 h_S_)))
/-- Their running sums along the rows. -/
def lbs (X : FVec Ideal S2x512 .f32) : FVec Ideal S2x512 .f32 :=
  Host.reduceWindowAdd ![2, 1] ![1, 1] ![1, 0] ![0, 0] (soft X) (broadcastInDim S_ ![] bcast_S_S_ (constant S_ FTy.f32 0x00000000#32))
    reduceWindows_S2x512_S2x512_w2s1p1_0_w1s1p0_0 h_S_

/-- The first row of running sums is the first row. -/
theorem window_first (x : FVec Ideal S2x512 .f32) (v : FVec Ideal S_ .f32) (hv : ∀ i, v i = (0 : EReal)) (j : Fin 512) :
    Host.reduceWindowAdd ![2, 1] ![1, 1] ![1, 0] ![0, 0] x v reduceWindows_S2x512_S2x512_w2s1p1_0_w1s1p0_0 h_S_ (ix2 0 j) = x (ix2 0 j) := by
  have e (f : EReal → Fin 2 → EReal) (a : EReal) : List.foldl f a (List.finRange (⟨2, ![2, 1]⟩ : Shape).numel) = f (f a 0) 1 := rfl
  unfold Host.reduceWindowAdd
  show Host.reduceWindow (u := S_) (fun a b : EReal => a + b) ![2, 1] ![1, 1] ![1, 0] ![0, 0] x (fun _ => v (Shape.Idx.first h_S_)) reduceWindows_S2x512_S2x512_w2s1p1_0_w1s1p0_0 h_S_ (ix2 0 j) = _
  unfold Host.reduceWindow
  refine (e _ _).trans ?_
  have h0 : ((⟨2, ![2, 1]⟩ : Shape).rowMajor.symm (0 : Fin 2) 0).val = 0 := by decide
  have h1 : ∀ a : Fin 2, ((⟨2, ![2, 1]⟩ : Shape).rowMajor.symm (1 : Fin 2) a).val = (![1, 0] : Fin 2 → ℕ) a := by decide
  have hj : ∀ a : Fin 2, (ix2 (0 : Fin 2) j a).val < (![2, 512] : Fin 2 → ℕ) a := Fin.forall_fin_two.mpr ⟨(by decide : 0 < 2), j.isLt⟩
  have h2 : ∀ a : Fin 2, (ix2 (0 : Fin 2) j a).val * (![1, 1] : Fin 2 → ℕ) a = (ix2 (0 : Fin 2) j a).val := Fin.forall_fin_two.mpr ⟨rfl, Nat.mul_one _⟩
  dsimp only
  rw [dif_neg, dif_pos]
  rotate_left
  · intro a
    show (![1, 0] : Fin 2 → ℕ) a ≤ (ix2 (0 : Fin 2) j a).val * (![1, 1] : Fin 2 → ℕ) a + ((⟨2, ![2, 1]⟩ : Shape).rowMajor.symm (1 : Fin 2) a).val
      ∧ (ix2 (0 : Fin 2) j a).val * (![1, 1] : Fin 2 → ℕ) a + ((⟨2, ![2, 1]⟩ : Shape).rowMajor.symm (1 : Fin 2) a).val - (![1, 0] : Fin 2 → ℕ) a < (![2, 512] : Fin 2 → ℕ) a
    rw [h1 a, h2 a, Nat.add_sub_cancel]
    exact ⟨Nat.le_add_left _ _, hj a⟩
  · intro h
    have h3 : 1 ≤ 0 * 1 + ((⟨2, ![2, 1]⟩ : Shape).rowMajor.symm (0 : Fin 2) 0).val := (h 0).1
    rw [h0] at h3
    exact absurd h3 (by decide)
  rw [hv, zero_add, zero_add]
  congr 1
  funext a
  apply Fin.ext
  show (ix2 (0 : Fin 2) j a).val * (![1, 1] : Fin 2 → ℕ) a + ((⟨2, ![2, 1]⟩ : Shape).rowMajor.symm (1 : Fin 2) a).val - (![1, 0] : Fin 2 → ℕ) a = _
  rw [h1 a, h2 a, Nat.add_sub_cancel]

/-- A lower bound is the softmax's first row. -/
theorem lbs_at (X : FVec Ideal S2x512 .f32) (j : Fin 512) : lbs X (ix2 0 j) = soft X (ix2 0 j) :=
  window_first _ _ (fun i => by pointwise) j

/-- The softmax of two real rows lies strictly between zero and one. -/
theorem soft_at (X : FVec Ideal S2x512 .f32) (j : Fin 512) (a b : ℝ) (ha : X (ix2 0 j) = (a : EReal)) (hb : X (ix2 1 j) = (b : EReal)) :
    ∃ β : ℝ, soft X (ix2 0 j) = (β : EReal) ∧ 0 < β ∧ β < 1 := by
  pointwise [soft]
  have hw : Ideal.ofBits FTy.f32 0xFF800000#32 = ⊥ := by simp [Ideal.ofBits, Ideal.ieee]
  have hm : max (Ideal.ofBits FTy.f32 0xFF800000#32) (Finset.fold max (Ideal.ofBits FTy.f32 0xFF800000#32) (fun x => X (ix2 x j)) Finset.univ) = ((max a b : ℝ) : EReal) := by
    rw [hw, show (Finset.univ : Finset (Fin 2)) = insert 0 {1} from rfl, Finset.fold_insert (by decide), Finset.fold_singleton, ha, hb,
      max_eq_left bot_le, max_eq_right bot_le]
    rcases le_total a b with h | h
    · rw [max_eq_right h, max_eq_right (EReal.coe_le_coe_iff.mpr h)]
    · rw [max_eq_left h, max_eq_left (EReal.coe_le_coe_iff.mpr h)]
  rw [hm, Fin.sum_univ_two, ha, hb, ← EReal.coe_sub, ← EReal.coe_sub, Ideal.exp_coe, Ideal.exp_coe, ← EReal.coe_add, Ideal.div_coe (by positivity), ← EReal.coe_mul]
  refine ⟨_, rfl, by positivity, ?_⟩
  rw [mul_one_div, div_lt_one (by positivity)]
  have := Real.exp_pos (b - max a b)
  linarith

end Cert.KernelIdeal.Gen

end
-- ==== Proof.Prep.lean ====
module

public import proofs.«01_k».proof.Proof.Launch
public import proofs.«01_k».proof.Proof.Bounds
public import Idealize.ShloMosaic.Lib.Pipeline.ValueKit
public import Idealize.ShloMosaic.Lib.Pointwise
public import Idealize.ShloMosaic.Lib.StableHlo.RunLoop
public import Idealize.ShloMosaic.Lib.StableHlo.RunRead
public import Idealize.ShloMosaic.Lib.StableHlo.ReadAt

/-! # What the launch's blocks hold, read off the argument arrays -/

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- Where each window's block lies, at every point. -/
theorem idx : ∀ t : Fin cfg0.N, win0_0.index t = ![t.val, 1] ∧ win0_1.index t = ![t.val, 2] ∧ win0_2.index t = ![t.val, 3]
    ∧ win0_3.index t = ![t.val, 4] ∧ win0_4.index t = ![0, 0, 0] ∧ win0_5.index t = ![0, 0] ∧ win0_6.index t = ![t.val, 0] :=
  (by decide +kernel : ∀ t : Fin grid0.N, _)

/-- There are sixty-four points. -/
theorem lt64 (t : Fin cfg0.N) : t.val < 64 := t.isLt

/-- What the host left, by its three stretches of operations. -/
theorem V_split (c : Dev nD) (b : Ref sig .tc) : V m c b = StableHlo.after hostOps0_2 (StableHlo.after hostOps0_1 (StableHlo.after hostOps0 (fun b => m (c, b)))) b :=
  (congrFun (StableHlo.afterL_eq_after_flatten [hostOps0, hostOps0_1, hostOps0_2] (fun b => m (c, b))) (Proc.devRef .tc b)).symm

/-- The recurrence's columns of the reordered activations. -/
theorem V18_at (c : Dev nD) (R : Fin 32768) (C : Fin 2048) : (V m c main_v18 : FVec Ideal S32768x3456 .f32) (ix2 R ⟨512 + C.val, by omega⟩)
    = (m ((c : Thread nD τ).loc main_arg0) : FVec Ideal S2x16384x3352 .f32) (ix3 ⟨R.val / 16384, by omega⟩ ⟨R.val % 16384, by omega⟩ ⟨1304 + C.val, by omega⟩) := by
  have e : ∀ W : Idealize.ShloMosaic.Valuation τ sig (Elt Ideal), (StableHlo.after hostOps0_2 W (Proc.devRef .tc main_v18) : FVec Ideal S32768x3456 .f32) (ix2 R ⟨512 + C.val, by omega⟩)
      = (W (Proc.devRef .tc main_arg0) : FVec Ideal S2x16384x3352 .f32) (ix3 ⟨R.val / 16384, by omega⟩ ⟨R.val % 16384, by omega⟩ ⟨1304 + C.val, by omega⟩) := by
    intro W
    after_reads_at
    after_results_simp
    pointwise
    after_reads_at
    blk_ext
  rw [V_split, e]
  refine congrFun (?_ : _ = m ((c : Thread nD τ).loc main_arg0)) _
  after_reads_simp

/-- The gain's block. -/
theorem V23_at (c : Dev nD) (k : Fin 128) : (V m c main_v23 : FVec Ideal S1x128 .f32) (ix2 0 k) = (m ((c : Thread nD τ).loc main_arg2) : FVec Ideal S1x128 .f32) (ix2 0 k) := by
  rw [V_split]
  after_reads_at

/-- The bounds' block. -/
theorem V21_at (c : Dev nD) (h : Fin 4) (k : Fin 128) : (V m c main_v21 : FVec Ideal S4x1x128 .f32) (ix3 h 0 k)
    = lbs (m ((c : Thread nD τ).loc main_arg1)) (ix2 0 ⟨h.val * 128 + k.val, by omega⟩) := by
  rw [V_split]
  after_reads_at
  rfl

/-- The columns the activations' windows read. -/
def HX (X : FVec Ideal S2x16384x3352 .f32) (b n c : ℕ) : EReal := X (ix3 ⟨b % 2, Nat.mod_lt _ (by decide)⟩ ⟨n % 16384, Nat.mod_lt _ (by decide)⟩ ⟨c % 3352, Nat.mod_lt _ (by decide)⟩)

/-- The queries' block. -/
theorem X0_0_at (c : Dev nD) (t : Fin cfg0.N) (r j : Fin 512) : X0_0 m c t (ix2 r j)
    = HX (m ((c : Thread nD τ).loc main_arg0)) (t.val / 32) (512 * (t.val % 32) + r.val) (1304 + j.val) := by
  unfold X0_0 Pipeline.Window.fill HX
  rw [dif_pos (moved0_0 t _)]
  unfold iblk
  have := lt64 t
  refine Eq.trans ?_ ((V18_at m c ⟨512 * t.val + r.val, by omega⟩ ⟨0 + j.val, by omega⟩).trans ?_)
  · blk_ext [idx t]
  · blk_ext

/-- The gates' block. -/
theorem X0_1_at (c : Dev nD) (t : Fin cfg0.N) (r j : Fin 512) : X0_1 m c t (ix2 r j)
    = HX (m ((c : Thread nD τ).loc main_arg0)) (t.val / 32) (512 * (t.val % 32) + r.val) (1816 + j.val) := by
  unfold X0_1 Pipeline.Window.fill HX
  rw [dif_pos (moved0_1 t _)]
  unfold iblk
  have := lt64 t
  refine Eq.trans ?_ ((V18_at m c ⟨512 * t.val + r.val, by omega⟩ ⟨512 + j.val, by omega⟩).trans ?_)
  · blk_ext [idx t]
  · blk_ext

/-- The values' block. -/
theorem X0_2_at (c : Dev nD) (t : Fin cfg0.N) (r j : Fin 512) : X0_2 m c t (ix2 r j)
    = HX (m ((c : Thread nD τ).loc main_arg0)) (t.val / 32) (512 * (t.val % 32) + r.val) (2328 + j.val) := by
  unfold X0_2 Pipeline.Window.fill HX
  rw [dif_pos (moved0_2 t _)]
  unfold iblk
  have := lt64 t
  refine Eq.trans ?_ ((V18_at m c ⟨512 * t.val + r.val, by omega⟩ ⟨1024 + j.val, by omega⟩).trans ?_)
  · blk_ext [idx t]
  · blk_ext

/-- The output gates' block. -/
theorem X0_3_at (c : Dev nD) (t : Fin cfg0.N) (r j : Fin 512) : X0_3 m c t (ix2 r j)
    = HX (m ((c : Thread nD τ).loc main_arg0)) (t.val / 32) (512 * (t.val % 32) + r.val) (2840 + j.val) := by
  unfold X0_3 Pipeline.Window.fill HX
  rw [dif_pos (moved0_3 t _)]
  unfold iblk
  have := lt64 t
  refine Eq.trans ?_ ((V18_at m c ⟨512 * t.val + r.val, by omega⟩ ⟨1536 + j.val, by omega⟩).trans ?_)
  · blk_ext [idx t]
  · blk_ext

/-- The bounds' block is the whole array. -/
theorem iblk4_at (c : Dev nD) (t : Fin cfg0.N) (h : Fin 4) (k : Fin 128) : (iblk m c 4 t : FVec Ideal S4x1x128 .f32) (ix3 h 0 k)
    = lbs (m ((c : Thread nD τ).loc main_arg1)) (ix2 0 ⟨h.val * 128 + k.val, by omega⟩) := by
  rw [← V21_at m c h k]
  unfold iblk
  blk_ext [idx t]

/-- The gain's block is the whole array. -/
theorem iblk5_at (c : Dev nD) (t : Fin cfg0.N) (k : Fin 128) : (iblk m c 5 t : FVec Ideal S1x128 .f32) (ix2 0 k)
    = (m ((c : Thread nD τ).loc main_arg2) : FVec Ideal S1x128 .f32) (ix2 0 k) := by
  rw [← V23_at m c k]
  unfold iblk
  blk_ext [idx t]

end Cert.KernelIdeal.Gen

end
-- ==== Proof.KernelValue.lean ====
module

public import proofs.«01_k».proof.Proof.PointReal
public import proofs.«01_k».proof.Proof.Prep

/-! # What the launch computes: the recurrence of each batch and head, normalised and gated -/

@[expose] public section

set_option maxRecDepth 16384

noncomputable section

namespace Cert.KernelIdeal.Gen

open Idealize.ShloMosaic Idealize.ShloMosaic.TcCoe Idealize.SL.Sem Cert.Recur

/-- The queries, the values and the bounds' logits are real numbers. -/
structure Finite (X : FVec Ideal S2x16384x3352 .f32) (L : FVec Ideal S2x512 .f32) : Prop where
  q : ∀ b n j, j < 512 → ∃ r : ℝ, HX X b n (1304 + j) = (r : EReal)
  v : ∀ b n j, j < 512 → ∃ r : ℝ, HX X b n (2328 + j) = (r : EReal)
  l : ∀ (r : Fin 2) (j : Fin 512), ∃ a : ℝ, L (ix2 r j) = (a : EReal)

/-- The lower bounds of one head. -/
def betaOf (L : FVec Ideal S2x512 .f32) (h : ℕ) (k : Fin 128) : ℝ := EReal.toReal (lbs L (ix2 0 ⟨(h * 128 + k.val) % 512, Nat.mod_lt _ (by decide)⟩))
/-- The queries of one head. -/
def qS (X : FVec Ideal S2x16384x3352 .f32) (b h n : ℕ) (k : Fin 128) : ℝ := EReal.toReal (HX X b n (1304 + (128 * h + k.val)))
/-- The gate logits of one head. -/
def fS (X : FVec Ideal S2x16384x3352 .f32) (b h n : ℕ) (k : Fin 128) : EReal := HX X b n (1816 + (128 * h + k.val))
/-- The values of one head. -/
def vS (X : FVec Ideal S2x16384x3352 .f32) (b h n : ℕ) (k : Fin 128) : ℝ := EReal.toReal (HX X b n (2328 + (128 * h + k.val)))
/-- The states of one head. -/
def stS (X : FVec Ideal S2x16384x3352 .f32) (L : FVec Ideal S2x512 .f32) (b h : ℕ) : ℕ → Fin 128 → Fin 128 → ℝ :=
  st (decs (betaOf L h) (fS X b h)) (inps (betaOf L h) (fS X b h)) (vS X b h)
/-- The outputs of one head. -/
def outS (X : FVec Ideal S2x16384x3352 .f32) (L : FVec Ideal S2x512 .f32) (b h : ℕ) : ℕ → Fin 128 → ℝ :=
  out (decs (betaOf L h) (fS X b h)) (inps (betaOf L h) (fS X b h)) (vS X b h) (qS X b h)
/-- The result at position `n` of batch `b`, column `c`. -/
def result (X : FVec Ideal S2x16384x3352 .f32) (L : FVec Ideal S2x512 .f32) (G : FVec Ideal S1x128 .f32) (b n c : ℕ) : EReal :=
  gate1 (outS X L b (c / 128) n) ⟨c % 128, Nat.mod_lt _ (by decide)⟩ (HX X b n (2840 + c)) (G (ix2 0 ⟨c % 128, Nat.mod_lt _ (by decide)⟩))

variable {X : FVec Ideal S2x16384x3352 .f32} {L : FVec Ideal S2x512 .f32}

/-- A query is its real number. -/
theorem Finite.qS_at (H : Finite X L) (b h n : ℕ) (hh : h < 4) (k : Fin 128) : HX X b n (1304 + (128 * h + k.val)) = (qS X b h n k : EReal) := by
  obtain ⟨r, hr⟩ := H.q b n (128 * h + k.val) (by omega)
  rw [qS, hr, EReal.toReal_coe]
/-- A value is its real number. -/
theorem Finite.vS_at (H : Finite X L) (b h n : ℕ) (hh : h < 4) (k : Fin 128) : HX X b n (2328 + (128 * h + k.val)) = (vS X b h n k : EReal) := by
  obtain ⟨r, hr⟩ := H.v b n (128 * h + k.val) (by omega)
  rw [vS, hr, EReal.toReal_coe]
/-- Every lower bound lies strictly between zero and one. -/
theorem Finite.beta_at (H : Finite X L) (h : ℕ) (k : Fin 128) :
    lbs L (ix2 0 ⟨(h * 128 + k.val) % 512, Nat.mod_lt _ (by decide)⟩) = (betaOf L h k : EReal) ∧ 0 < betaOf L h k ∧ betaOf L h k < 1 := by
  obtain ⟨a, ha⟩ := H.l 0 ⟨(h * 128 + k.val) % 512, Nat.mod_lt _ (by decide)⟩
  obtain ⟨b, hb⟩ := H.l 1 ⟨(h * 128 + k.val) % 512, Nat.mod_lt _ (by decide)⟩
  obtain ⟨β, e, h0, h1⟩ := soft_at L _ a b ha hb
  unfold betaOf
  rw [lbs_at, e, EReal.toReal_coe]
  exact ⟨rfl, h0, h1⟩

variable (m : (ℓ : Loc nD τ sig) → Buf (Elt Ideal) ℓ)

/-- The activations. -/
abbrev argX (c : Dev nD) : FVec Ideal S2x16384x3352 .f32 := m ((c : Thread nD τ).loc main_arg0)
/-- The bounds' logits. -/
abbrev argL (c : Dev nD) : FVec Ideal S2x512 .f32 := m ((c : Thread nD τ).loc main_arg1)
/-- The gain. -/
abbrev argG (c : Dev nD) : FVec Ideal S1x128 .f32 := m ((c : Thread nD τ).loc main_arg2)

/-- Each point's blocks hold its 512 positions. -/
theorem slice_at (c : Dev nD) (H : Finite (argX m c) (argL m c)) (t : Fin cfg0.N) (h : ℕ) (hh : h < 4) :
    Slice (X0_0 m c t) (X0_1 m c t) (X0_2 m c t) (iblk m c 4 t) h (betaOf (argL m c) h) (fS (argX m c) (t.val / 32) h)
      (qS (argX m c) (t.val / 32) h) (vS (argX m c) (t.val / 32) h) (512 * (t.val % 32)) where
  hb k := by
    refine (iblk4_at m c t ⟨h % 4, Nat.mod_lt _ (by decide)⟩ k).trans (Eq.trans ?_ (H.beta_at h k).1)
    congr 2; apply Fin.ext; show h % 4 * 128 + k.val = (h * 128 + k.val) % 512; omega
  h0 k := (H.beta_at h k).2.1
  h1 k := (H.beta_at h k).2.2
  hq k hk s j := by
    refine (X0_0_at m c t _ _).trans (Eq.trans ?_ (H.qS_at _ h _ hh j))
    congr 1
    · show 512 * (t.val % 32) + (128 * k + s.val) % 512 = 512 * (t.val % 32) + 128 * k + s.val; omega
    · show 1304 + (128 * h + j.val) % 512 = 1304 + (128 * h + j.val); omega
  hf k hk s j := by
    refine (X0_1_at m c t _ _).trans ?_
    unfold fS
    congr 1
    · show 512 * (t.val % 32) + (128 * k + s.val) % 512 = 512 * (t.val % 32) + 128 * k + s.val; omega
    · show 1816 + (128 * h + j.val) % 512 = 1816 + (128 * h + j.val); omega
  hv k hk s j := by
    refine (X0_2_at m c t _ _).trans (Eq.trans ?_ (H.vS_at _ h _ hh j))
    congr 1
    · show 512 * (t.val % 32) + (128 * k + s.val) % 512 = 512 * (t.val % 32) + 128 * k + s.val; omega
    · show 2328 + (128 * h + j.val) % 512 = 2328 + (128 * h + j.val); omega

/-- The states before each point are the recurrence's. -/
theorem stAt_at (c : Dev nD) (H : Finite (argX m c) (argL m c)) (h : ℕ) (hh : h < 4) : ∀ (n : ℕ) (hn : n < cfg0.N) (w j : Fin 128),
    headOf (stAt m c n hn) h (ix2 w j) = (stS (argX m c) (argL m c) (n / 32) h (512 * (n % 32)) j w : EReal) := by
  intro n
  induction n using Nat.strong_induction_on with
  | _ n ih =>
    intro hn w j
    by_cases h0 : n % 32 = 0
    · rw [stAt_first m c n hn h0, h0]
      show (k0_pay1 (F := Ideal)) (ix3 _ w j) = ((0 : ℝ) : EReal)
      pointwise [k0_pay1]
      exact EReal.coe_zero.symm
    · rw [stAt_later m c n hn h0]
      unfold aftAt
      refine ((slice_at m c H ⟨n - 1, by omega⟩ h hh).nextBlk_at hh (stAt m c (n - 1) (by omega)) (ih (n - 1) (by omega) (by omega)) w j).trans ?_
      unfold stS
      rw [show (⟨n - 1, by omega⟩ : Fin cfg0.N).val / 32 = n / 32 from by show (n - 1) / 32 = _; omega,
        show 512 * ((⟨n - 1, by omega⟩ : Fin cfg0.N).val % 32) + 512 = 512 * (n % 32) from by show 512 * ((n - 1) % 32) + 512 = _; omega]

/-- A point's output block. -/
theorem point_at (c : Dev nD) (H : Finite (argX m c) (argL m c)) (t : Fin cfg0.N) (r j : Fin 512) :
    outBlk (X0_0 m c t) (X0_1 m c t) (X0_2 m c t) (X0_3 m c t) (iblk m c 4 t) (iblk m c 5 t) (stAt m c t.val t.isLt) (ix2 r j)
      = result (argX m c) (argL m c) (argG m c) (t.val / 32) (512 * (t.val % 32) + r.val) j.val := by
  refine (outBlk_at (β := betaOf (argL m c)) (f := fS (argX m c) (t.val / 32)) (Q := qS (argX m c) (t.val / 32)) (V := vS (argX m c) (t.val / 32))
    (fun h hh => slice_at m c H t h hh) _ (fun h hh => stAt_at m c H h hh t.val t.isLt) r j).trans ?_
  unfold result outS
  rw [X0_3_at]
  exact congrArg (gate1 _ _ _) (iblk5_at m c t _)

/-- The array the launch leaves. -/
theorem final (c : Dev nD) (H : Finite (argX m c) (argL m c)) : (dats m 0 c).arrAt 6 (cfgs 0).N
    = (fun y => result (argX m c) (argL m c) (argG m c) ((y 0).val / 16384) ((y 0).val % 16384) (y 1).val : FVec Ideal S32768x512 .f32) := by
  refine (dats m 0 c).arrAt_eq_of_covers 6 _ (by decide +kernel) fun t _ y => ?_
  blk_simp
  rw [after0_6]
  idx_vars y
  refine (point_at m c H t y0 y1).trans ?_
  have e0 : win0_6.index t 0 = t.val := by rw [(idx t).2.2.2.2.2.2]; rfl
  have e1 : win0_6.index t 1 = 0 := by rw [(idx t).2.2.2.2.2.2]; rfl
  rw [e0, e1]
  have hy : y0.val < 512 := y0.isLt
  have ht := lt64 t
  have e2 : (t.val * 512 + y0.val) / 16384 = t.val / 32 := by omega
  have e3 : (t.val * 512 + y0.val) % 16384 = 512 * (t.val % 32) + y0.val := by omega
  rw [e2, e3, Nat.zero_mul, Nat.zero_add]

/-- The result array. -/
abbrev resultArr (X : FVec Ideal S2x16384x3352 .f32) (L : FVec Ideal S2x512 .f32) (G : FVec Ideal S1x128 .f32) : FVec Ideal S32768x512 .f32 :=
  fun y => result X L G ((y 0).val / 16384) ((y 0).val % 16384) (y 1).val

/-- The run ends with the recurrence's result, the arguments unchanged. -/
theorem run_value (ρ : Dev nD → PrngReg) (H : ∀ c, Finite (argX m c) (argL m c)) :
    θ_run defs (onTc (τ := τ) (main (F := Ideal))) ⟨m, fun _ => 0, ρ⟩ (fun r => ∀ c : Dev nD,
      r.2.mem ((c.tc : Thread nD τ).loc main_v24) = resultArr (argX m c) (argL m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 6).trans (final m c (H c)), h.2.1 c⟩) (θ_run_and (run_main m ρ) (frame m ρ))

end Cert.KernelIdeal.Gen

end
-- ==== Proof.LogAdd.lean ====
module

public import proofs.«01_k».proof.Proof.Scalars

/-! # Log decays by the logarithm of a sum of exponentials

The reference takes the log decay as the logarithm of a sum of two exponentials, of the lower bound's logarithm and of the sum of
the rest's logarithm and the log-sigmoid of the gate. Its exponential is the decay, at every extended real gate. -/

@[expose] public section

noncomputable section

namespace Cert.Recur

open Idealize.ShloMosaic

/-- The log-sigmoid as the reference spells it. -/
def lsig (x : EReal) : EReal :=
  -(if -x ≠ -x then -x else max (-x) 0 + Ideal.log1p (Ideal.exp (-(FloatOps.absf (F := Ideal) (φ := .f32) (-x)))))
/-- The logarithm of a sum of two exponentials as the reference spells it. -/
def ladd (a b : EReal) : EReal :=
  if a - b ≠ a - b then a + b else max a b + Ideal.log1p (Ideal.exp (-(FloatOps.absf (F := Ideal) (φ := .f32) (a - b))))
/-- The log decay as the reference spells it. -/
def logd (l x : EReal) : EReal := ladd (Ideal.log l) (Ideal.log1p (-l) + lsig x)

/-- An absolute value is the larger of a value and its opposite. -/
theorem abs_def (x : EReal) : FloatOps.absf (F := Ideal) (φ := .f32) x = max x (-x) := rfl

/-- The larger of two reals is real. -/
theorem max_coe (a b : ℝ) : ((max a b : ℝ) : EReal) = max (a : EReal) b := EReal.coe_strictMono.monotone.map_max

/-- The logarithm of one. -/
theorem log_one : Ideal.log 1 = 0 := by
  rw [← EReal.coe_one, Ideal.log_coe, if_neg (by norm_num), Real.log_one, EReal.coe_zero]

/-- The larger of two reals and the logarithm of one and the exponential of minus their distance. -/
theorem max_log (a b : ℝ) : max a b + Real.log (1 + Real.exp (-(max (a - b) (-(a - b))))) = Real.log (Real.exp a + Real.exp b) := by
  rcases le_total a b with h | h
  · rw [max_eq_right h, max_eq_right (by linarith)]
    have e : Real.exp a + Real.exp b = Real.exp b * (1 + Real.exp (-(-(a - b)))) := by
      rw [mul_add, mul_one, ← Real.exp_add, add_comm]; congr 2; ring
    rw [e, Real.log_mul (Real.exp_pos _).ne' (by positivity), Real.log_exp]
  · rw [max_eq_left h, max_eq_left (by linarith)]
    have e : Real.exp a + Real.exp b = Real.exp a * (1 + Real.exp (-(a - b))) := by
      rw [mul_add, mul_one, ← Real.exp_add]; congr 2; ring
    rw [e, Real.log_mul (Real.exp_pos _).ne' (by positivity), Real.log_exp]

/-- At reals it is the real logarithm of the sum of exponentials. -/
theorem ladd_coe (a b : ℝ) : ladd a b = ((Real.log (Real.exp a + Real.exp b) : ℝ) : EReal) := by
  unfold ladd
  rw [if_neg (not_not.2 rfl), abs_def, ← max_log, ← EReal.coe_sub, ← EReal.coe_neg, ← max_coe, ← max_coe, ← EReal.coe_neg, Ideal.exp_coe]
  unfold Ideal.log1p
  rw [← EReal.coe_one, ← EReal.coe_add, Ideal.log_coe, if_neg (not_le.2 (by positivity)), ← EReal.coe_add]

/-- Adding a zero exponential changes nothing. -/
theorem ladd_bot (a : ℝ) : ladd a ⊥ = (a : EReal) := by
  unfold ladd
  rw [if_neg (not_not.2 rfl), abs_def]
  simp [Ideal.log1p, log_one]

/-- The log-sigmoid of a real. -/
theorem lsig_coe (x : ℝ) : lsig x = ((Real.log (sg x) : ℝ) : EReal) := by
  have e : lsig (x : EReal) = -(ladd ((-x : ℝ) : EReal) ((0 : ℝ) : EReal)) := by
    unfold lsig ladd
    rw [if_neg (not_not.2 rfl), if_neg (not_not.2 rfl), EReal.coe_zero, EReal.coe_neg, sub_zero (-(x : EReal))]
  rw [e, ladd_coe, ← EReal.coe_neg, ← Real.log_inv]
  congr 2
  simp only [sg, Ideal.logistic_coe, EReal.toReal_coe, Real.exp_zero]
  rw [add_comm]
  try rw [one_div]

/-- At plus infinity. -/
theorem lsig_top : lsig ⊤ = 0 := by
  unfold lsig
  rw [if_neg (not_not.2 rfl), abs_def]
  simp [Ideal.log1p, log_one]

/-- At minus infinity. -/
theorem lsig_bot : lsig ⊥ = ⊥ := by
  unfold lsig
  rw [if_neg (not_not.2 rfl), abs_def]
  simp [Ideal.log1p, log_one]

/-- The reference's log decay is the decay's logarithm. -/
theorem logd_coe {β : ℝ} (h0 : 0 < β) (h1 : β < 1) (x : EReal) : logd β x = ((Real.log (dec β x) : ℝ) : EReal) := by
  have h2 : 0 < 1 - β := by linarith
  have e1 : Ideal.log (β : EReal) = ((Real.log β : ℝ) : EReal) := by rw [Ideal.log_coe, if_neg (not_le.2 h0)]
  have e2 : Ideal.log1p (-(β : EReal)) = ((Real.log (1 - β) : ℝ) : EReal) := by
    unfold Ideal.log1p
    rw [← EReal.coe_one, ← EReal.coe_neg, ← EReal.coe_add, Ideal.log_coe, ← sub_eq_add_neg, if_neg (not_le.2 h2)]
  unfold logd
  rw [e1, e2]
  induction x using EReal.rec with
  | bot =>
    rw [lsig_bot, EReal.add_bot, ladd_bot]
    simp [dec, sg]
  | top =>
    rw [lsig_top, add_zero, ladd_coe, Real.exp_log h0, Real.exp_log h2]
    simp [dec, sg]
  | coe r =>
    have h3 : 0 < sg (r : EReal) := by
      simp only [sg, Ideal.logistic_coe, EReal.toReal_coe]; positivity
    rw [lsig_coe, ← EReal.coe_add, ladd_coe, Real.exp_log h0, Real.exp_add, Real.exp_log h2, Real.exp_log h3]
    rfl

/-- The exponential of the reference's log decay is the decay. -/
theorem exp_logd {β : ℝ} (h0 : 0 < β) (h1 : β < 1) (x : EReal) : Ideal.exp (logd β x) = (dec β x : EReal) := by
  rw [logd_coe h0 h1, Ideal.exp_coe, Real.exp_log (dec_pos h0 h1 x)]

/-- What it leaves of one is the input's weight. -/
theorem neg_expm1_logd {β : ℝ} (h0 : 0 < β) (h1 : β < 1) (x : EReal) : -(Ideal.exp (logd β x) - 1) = ((1 - dec β x : ℝ) : EReal) := by
  rw [exp_logd h0 h1, ← EReal.coe_one, ← EReal.coe_sub, ← EReal.coe_neg]
  congr 1
  ring

end Cert.Recur

end
-- ==== Proof.RefScan.lean ====
module

public import proofs.«01_k».proof.Proof.Gen.ReferenceIdeal.Run
public import proofs.«01_k».proof.Proof.KernelValue
public import proofs.«01_k».proof.Proof.LogAdd
public import Idealize.ShloMosaic.Lib.StableHlo.ReadAt

/-! # What the reference computes: the same recurrence, one position at a time -/

@[expose] public section

set_option maxRecDepth 16384

noncomputable section

namespace Cert.ReferenceIdeal.Value

open Idealize.ShloMosaic Idealize.ShloMosaic.TcCoe Idealize.SL.Sem Idealize.ShloMosaic.StableHlo Cert.Recur Cert.ReferenceIdeal.Gen
open Cert.KernelIdeal.Gen (HX lbs)

/-- An entry of the activations. -/
theorem HX_of (X : FVec Ideal S2x16384x3352 .f32) (b : Fin 2) (n : Fin 16384) (j : Fin 3352) (i : ℕ) (hj : j.val = i) : X (ix3 b n j) = HX X b.val n.val i := by
  subst hj
  unfold HX
  congr 1
  congr 1 <;> apply Fin.ext <;> exact (Nat.mod_eq_of_lt (Fin.isLt _)).symm
/-- The value the loop's counter holds. -/
abbrev ctr (V0 : Valuation τ sig (Elt Ideal)) : IVec S_ 32 := V0 (Proc.devRef .tc main_v51_4)
/-- The queries, the decays, the inputs and the values the loop reads. -/
abbrev w0 (V0 : Valuation τ sig (Elt Ideal)) : FVec Ideal S16384x2x4x128 .f32 := V0 (Proc.devRef .tc main_v51_0)
/-- The decays. -/
abbrev w1 (V0 : Valuation τ sig (Elt Ideal)) : FVec Ideal S16384x2x4x128 .f32 := V0 (Proc.devRef .tc main_v51_1)
/-- The inputs. -/
abbrev w2 (V0 : Valuation τ sig (Elt Ideal)) : FVec Ideal S16384x2x4x128 .f32 := V0 (Proc.devRef .tc main_v51_2)
/-- The values. -/
abbrev w3 (V0 : Valuation τ sig (Elt Ideal)) : FVec Ideal S16384x2x4x128 .f32 := V0 (Proc.devRef .tc main_v51_3)
/-- The states. -/
abbrev w5 (V0 : Valuation τ sig (Elt Ideal)) : FVec Ideal S2x4x128x128 .f32 := V0 (Proc.devRef .tc main_v51_5)
/-- The outputs. -/
abbrev w6 (V0 : Valuation τ sig (Elt Ideal)) : FVec Ideal S16384x2x4x128 .f32 := V0 (Proc.devRef .tc main_v51_6)
/-- The states after one more position. -/
abbrev nxt (V0 : Valuation τ sig (Elt Ideal)) : FVec Ideal S2x4x128x128 .f32 := res_main_while0b_v84 V0

/-- The slice read at a position is that position's. -/
theorem slice_one (A : FVec Ideal S16384x2x4x128 .f32) (s : Fin 4 → Int) (n : Fin 16384) (hs : ∀ a : Fin 4, s a = (![(n.val : Int), 0, 0, 0] : Fin 4 → Int) a)
    (b : Fin 2) (h : Fin 4) (k : Fin 128) :
    Host.dynamicSlice S1x2x4x128 A s sliceFits_S16384x2x4x128_S1x2x4x128 (ix4 0 b h k) = A (ix4 n b h k) := by
  unfold Host.dynamicSlice extractStridedSlice
  dsimp only
  congr 1
  funext a
  apply Fin.ext
  have e := hs a
  match a with
  | 0 =>
    show (min (max (s 0) 0) (16384 - 1 : ℕ)).toNat + 0 = n.val
    have e : s 0 = (n.val : Int) := hs 0
    omega
  | 1 =>
    show (min (max (s 1) 0) (2 - 2 : ℕ)).toNat + b.val = b.val
    omega
  | 2 =>
    show (min (max (s 2) 0) (4 - 4 : ℕ)).toNat + h.val = h.val
    omega
  | 3 =>
    show (min (max (s 3) 0) (128 - 128 : ℕ)).toNat + k.val = k.val
    omega

/-- Writing one position's row changes that position alone. -/
theorem update_one (A : FVec Ideal S16384x2x4x128 .f32) (U : FVec Ideal S1x2x4x128 .f32) (s : Fin 4 → Int) (n : Fin 16384)
    (hs : ∀ a : Fin 4, s a = (![(n.val : Int), 0, 0, 0] : Fin 4 → Int) a) (p : Fin 16384) (b : Fin 2) (h : Fin 4) (k : Fin 128) :
    Host.dynamicUpdateSlice A U s updateFits_S16384x2x4x128_S1x2x4x128 (ix4 p b h k) = if p = n then U (ix4 0 b h k) else A (ix4 p b h k) := by
  have e0 : s 0 = (n.val : Int) := hs 0
  have adj : ∀ a : Fin 4, (min (max (s a) 0) ((S16384x2x4x128.size a - S1x2x4x128.size a : ℕ) : Int)).toNat = (![n.val, 0, 0, 0] : Fin 4 → ℕ) a := by
    intro a
    match a with
    | 0 =>
      show (min (max (s 0) 0) (16384 - 1 : ℕ)).toNat = n.val
      omega
    | 1 =>
      show (min (max (s 1) 0) (2 - 2 : ℕ)).toNat = 0
      omega
    | 2 =>
      show (min (max (s 2) 0) (4 - 4 : ℕ)).toNat = 0
      omega
    | 3 =>
      show (min (max (s 3) 0) (128 - 128 : ℕ)).toNat = 0
      omega
  unfold Host.dynamicUpdateSlice updateSlice
  dsimp only
  split
  · rename_i hin
    have h0 : (min (max (s 0) 0) ((S16384x2x4x128.size 0 - S1x2x4x128.size 0 : ℕ) : Int)).toNat ≤ p.val ∧ p.val < (min (max (s 0) 0) ((S16384x2x4x128.size 0 - S1x2x4x128.size 0 : ℕ) : Int)).toNat + 1 := hin 0
    rw [adj 0] at h0
    have h1 : n.val ≤ p.val ∧ p.val < n.val + 1 := h0
    rw [if_pos (Fin.ext (by omega))]
    congr 1
    funext a
    apply Fin.ext
    show (ix4 p b h k a).val - (min (max (s a) 0) ((S16384x2x4x128.size a - S1x2x4x128.size a : ℕ) : Int)).toNat = (ix4 (0 : Fin 1) b h k a).val
    rw [adj a]
    match a with
    | 0 =>
      show p.val - n.val = 0
      omega
    | 1 => rfl
    | 2 => rfl
    | 3 => rfl
  · rename_i hin
    rw [if_neg]
    rintro rfl
    apply hin
    intro a
    show (min (max (s a) 0) ((S16384x2x4x128.size a - S1x2x4x128.size a : ℕ) : Int)).toNat ≤ (ix4 p b h k a).val ∧ (ix4 p b h k a).val < (min (max (s a) 0) ((S16384x2x4x128.size a - S1x2x4x128.size a : ℕ) : Int)).toNat + S1x2x4x128.size a
    rw [adj a]
    match a with
    | 0 =>
      show p.val ≤ p.val ∧ p.val < p.val + 1
      omega
    | 1 =>
      show 0 ≤ b.val ∧ b.val < 0 + 2
      omega
    | 2 =>
      show 0 ≤ h.val ∧ h.val < 0 + 4
      omega
    | 3 =>
      show 0 ≤ k.val ∧ k.val < 0 + 128
      omega

/-- The loop's counter as an offset. -/
theorem offsets (V0 : Valuation τ sig (Elt Ideal)) (n : Fin 16384) (hn : ctr V0 (Shape.Idx.first h_S_) = BitVec.ofNat 32 n.val) (a : Fin 4) :
    ((![ctr V0, constantI S_ 32 0#32, constantI S_ 32 0#32, constantI S_ 32 0#32] : Fin 4 → IVec S_ 32) a (Shape.Idx.first h_S_)).toInt = (![(n.val : Int), 0, 0, 0] : Fin 4 → Int) a := by
  match a with
  | 0 =>
    show (ctr V0 (Shape.Idx.first h_S_)).toInt = (n.val : Int)
    have hk := n.isLt
    have e : (BitVec.ofNat 32 n.val).toNat = n.val := by rw [BitVec.toNat_ofNat]; omega
    rw [hn, BitVec.toInt_eq_toNat_of_lt (by rw [e]; omega), e]
  | 1 => rfl
  | 2 => rfl
  | 3 => rfl

/-- A position's slice, broadcast along the state's last axis. -/
theorem spread_at (A : FVec Ideal S16384x2x4x128 .f32) (V0 : Valuation τ sig (Elt Ideal)) (n : Fin 16384) (hn : ctr V0 (Shape.Idx.first h_S_) = BitVec.ofNat 32 n.val)
    (b : Fin 2) (h : Fin 4) (k : Fin 128) :
    shapeCast S2x4x128 (Host.dynamicSlice S1x2x4x128 A (fun k => ((![ctr V0, constantI S_ 32 0#32, constantI S_ 32 0#32, constantI S_ 32 0#32] : Fin 4 → IVec S_ 32) k (Shape.Idx.first h_S_)).toInt) sliceFits_S16384x2x4x128_S1x2x4x128) shapeCasts_S1x2x4x128_S2x4x128 (ix3 b h k)
      = A (ix4 n b h k) := by
  rw [← slice_one A _ n (offsets V0 n hn) b h k]
  pointwise

/-- The state after a position. -/
theorem res_at (V0 : Valuation τ sig (Elt Ideal)) (n : Fin 16384) (hn : ctr V0 (Shape.Idx.first h_S_) = BitVec.ofNat 32 n.val)
    (b : Fin 2) (h : Fin 4) (k v : Fin 128) :
    nxt V0 (ix4 b h k v) = w1 V0 (ix4 n b h k) * w5 V0 (ix4 b h k v) + w2 V0 (ix4 n b h k) * w3 V0 (ix4 n b h v) := by
  rw [← spread_at (w1 V0) V0 n hn b h k, ← spread_at (w2 V0) V0 n hn b h k, ← spread_at (w3 V0) V0 n hn b h v]
  pointwise [nxt, res_main_while0b_v84]
  rfl

/-- The outputs after a position. -/
theorem out_at (V0 : Valuation τ sig (Elt Ideal)) (n : Fin 16384) (hn : ctr V0 (Shape.Idx.first h_S_) = BitVec.ofNat 32 n.val)
    (p : Fin 16384) (b : Fin 2) (h : Fin 4) (v : Fin 128) :
    (step_main_v51_6 V0 : FVec Ideal S16384x2x4x128 .f32) (ix4 p b h v)
      = if p = n then ∑ k, w0 V0 (ix4 n b h k) * nxt V0 (ix4 b h k v) else w6 V0 (ix4 p b h v) := by
  refine (update_one (w6 V0) _ _ n (offsets V0 n hn) p b h v).trans ?_
  congr 1
  rw [Finset.sum_congr rfl fun k _ => congrArg (· * nxt V0 (ix4 b h k v)) (spread_at (w0 V0) V0 n hn b h k).symm]
  pointwise
  rfl

variable (m : (ℓ : Loc nD τ sig) → Buf (Elt Ideal) ℓ)
/-- The queries on entry. -/
theorem entry0_at (c : Dev nD) (n : Fin 16384) (b : Fin 2) (h : Fin 4) (k : Fin 128) :
    w0 (entryContents preI m c) (ix4 n b h k) = HX (m ((c : Thread nD τ).loc main_arg0)) b.val n.val (1304 + (128 * h.val + k.val)) := by
  simp only [w0, entryContents, afterL_cons, afterL_nil]
  after_reads_at
  dsimp only [id]
  pointwise
  exact HX_of _ _ _ _ _ (by show _ + (h.val * 128 + k.val) = _; omega)
/-- The values on entry. -/
theorem entry3_at (c : Dev nD) (n : Fin 16384) (b : Fin 2) (h : Fin 4) (k : Fin 128) :
    w3 (entryContents preI m c) (ix4 n b h k) = HX (m ((c : Thread nD τ).loc main_arg0)) b.val n.val (2328 + (128 * h.val + k.val)) := by
  simp only [w3, entryContents, afterL_cons, afterL_nil]
  after_reads_at
  dsimp only [id]
  pointwise
  exact HX_of _ _ _ _ _ (by show _ + (h.val * 128 + k.val) = _; omega)
/-- The states on entry. -/
theorem entry5_at (c : Dev nD) (b : Fin 2) (h : Fin 4) (k v : Fin 128) :
    w5 (entryContents preI m c) (ix4 b h k v) = (0 : EReal) := by
  simp only [w5, entryContents, afterL_cons, afterL_nil]
  after_reads_at
  dsimp only [id]
  pointwise
/-- The decays on entry. -/
theorem entry1_at (c : Dev nD) (n : Fin 16384) (b : Fin 2) (h : Fin 4) (k : Fin 128) (β : ℝ)
    (hβ : lbs (m ((c : Thread nD τ).loc main_arg1)) (ix2 0 ⟨h.val * 128 + k.val, by omega⟩) = (β : EReal)) (h0 : 0 < β) (h1 : β < 1) :
    w1 (entryContents preI m c) (ix4 n b h k) = (dec β (HX (m ((c : Thread nD τ).loc main_arg0)) b.val n.val (1816 + (128 * h.val + k.val))) : EReal) := by
  simp only [w1, entryContents, afterL_cons, afterL_nil]
  after_reads_at
  dsimp only [id]
  pointwise
  refine Eq.trans (show _ = Ideal.exp (logd (lbs (m ((c : Thread nD τ).loc main_arg1)) (ix2 0 ⟨h.val * 128 + k.val, by omega⟩))
    ((m ((c : Thread nD τ).loc main_arg0) : FVec Ideal S2x16384x3352 .f32) (ix3 b n ⟨1816 + (h.val * 128 + k.val), by omega⟩))) from rfl) ?_
  rw [hβ, exp_logd h0 h1, HX_of (m ((c : Thread nD τ).loc main_arg0)) b n _ (1816 + (128 * h.val + k.val)) (by show 1816 + (h.val * 128 + k.val) = _; omega)]
/-- The inputs on entry. -/
theorem entry2_at (c : Dev nD) (n : Fin 16384) (b : Fin 2) (h : Fin 4) (k : Fin 128) (β : ℝ)
    (hβ : lbs (m ((c : Thread nD τ).loc main_arg1)) (ix2 0 ⟨h.val * 128 + k.val, by omega⟩) = (β : EReal)) (h0 : 0 < β) (h1 : β < 1) :
    w2 (entryContents preI m c) (ix4 n b h k) = ((1 - dec β (HX (m ((c : Thread nD τ).loc main_arg0)) b.val n.val (1816 + (128 * h.val + k.val))) : ℝ) : EReal) := by
  simp only [w2, entryContents, afterL_cons, afterL_nil]
  after_reads_at
  dsimp only [id]
  pointwise
  refine Eq.trans (show _ = -(Ideal.exp (logd (lbs (m ((c : Thread nD τ).loc main_arg1)) (ix2 0 ⟨h.val * 128 + k.val, by omega⟩))
    ((m ((c : Thread nD τ).loc main_arg0) : FVec Ideal S2x16384x3352 .f32) (ix3 b n ⟨1816 + (h.val * 128 + k.val), by omega⟩))) - 1) from rfl) ?_
  rw [hβ, neg_expm1_logd h0 h1, HX_of (m ((c : Thread nD τ).loc main_arg0)) b n _ (1816 + (128 * h.val + k.val)) (by show 1816 + (h.val * 128 + k.val) = _; omega)]

end Cert.ReferenceIdeal.Value

end
-- ==== Proof.RefValue.lean ====
module

public import proofs.«01_k».proof.Proof.RefScan

/-! # The reference's result -/

@[expose] public section

set_option maxRecDepth 16384

noncomputable section

namespace Cert.ReferenceIdeal.Value

open Idealize.ShloMosaic Idealize.ShloMosaic.TcCoe Idealize.SL.Sem Idealize.ShloMosaic.StableHlo Cert.Recur Cert.ReferenceIdeal.Gen
open Cert.KernelIdeal.Gen (HX lbs Finite betaOf qS fS vS stS outS decs inps result gate1)

variable (m : (ℓ : Loc nD τ sig) → Buf (Elt Ideal) ℓ)

/-- The activations. -/
abbrev argX (c : Dev nD) : FVec Ideal S2x16384x3352 .f32 := m ((c : Thread nD τ).loc main_arg0)
/-- The bounds' logits. -/
abbrev argL (c : Dev nD) : FVec Ideal S2x512 .f32 := m ((c : Thread nD τ).loc main_arg1)
/-- The gain. -/
abbrev argG (c : Dev nD) : FVec Ideal S1x128 .f32 := m ((c : Thread nD τ).loc main_arg2)
/-- The contents after `k` positions. -/
abbrev after_k (c : Dev nD) (k : ℕ) : Valuation τ sig (Elt Ideal) := STEP^[k] (entryContents preI m c)

/-- The lower bounds of a head, where the reference reads them. -/
theorem beta_ref (X : FVec Ideal S2x16384x3352 .f32) (L : FVec Ideal S2x512 .f32) (H : Finite X L) (h : Fin 4) (k : Fin 128) :
    lbs L (ix2 0 ⟨h.val * 128 + k.val, by omega⟩) = (betaOf L h.val k : EReal) ∧ 0 < betaOf L h.val k ∧ betaOf L h.val k < 1 := by
  have e := H.beta_at h.val k
  have e2 : (⟨(h.val * 128 + k.val) % 512, Nat.mod_lt _ (by decide)⟩ : Fin 512) = ⟨h.val * 128 + k.val, by omega⟩ :=
    Fin.ext (Nat.mod_eq_of_lt (by omega))
  rw [e2] at e
  exact e

/-- The arrays the loop reads stay as on entry. -/
theorem reads_keep (c : Dev nD) (k : ℕ) :
    w0 (after_k m c k) = w0 (entryContents preI m c) ∧ w1 (after_k m c k) = w1 (entryContents preI m c)
      ∧ w2 (after_k m c k) = w2 (entryContents preI m c) ∧ w3 (after_k m c k) = w3 (entryContents preI m c) := by
  induction k with
  | zero => exact ⟨rfl, rfl, rfl, rfl⟩
  | succ k ih =>
    have e : after_k m c (k + 1) = STEP (after_k m c k) := Function.iterate_succ_apply' _ _ _
    rw [e]
    exact ⟨(STEP_main_v51_0 _).trans ih.1, (STEP_main_v51_1 _).trans ih.2.1, (STEP_main_v51_2 _).trans ih.2.2.1, (STEP_main_v51_3 _).trans ih.2.2.2⟩

/-- The counter after `k` positions. -/
theorem counter (c : Dev nD) (k : ℕ) : ctr (after_k m c k) (Shape.Idx.first h_S_) = BitVec.ofNat 32 k := by
  induction k with
  | zero => exact congrFun (ctr_entry m c) _
  | succ k ih =>
    have e : after_k m c (k + 1) = STEP (after_k m c k) := Function.iterate_succ_apply' _ _ _
    rw [e]
    refine (congrFun (STEP_main_v51_4 _) _).trans ?_
    show ctr (after_k m c k) (Shape.Idx.first h_S_) + 1#32 = _
    rw [ih, BitVec.ofNat_add]

/-- After `k` positions the state is the recurrence's. -/
theorem state_at (c : Dev nD) (H : Finite (argX m c) (argL m c)) (k : ℕ) (hk : k ≤ 16384) (b : Fin 2) (h : Fin 4) (i v : Fin 128) :
    w5 (after_k m c k) (ix4 b h i v) = (stS (argX m c) (argL m c) b.val h.val k i v : EReal) := by
  induction k with
  | zero => exact (entry5_at m c b h i v).trans EReal.coe_zero.symm
  | succ k ih =>
    have e : after_k m c (k + 1) = STEP (after_k m c k) := Function.iterate_succ_apply' _ _ _
    obtain ⟨hβ, h0, h1⟩ := beta_ref _ _ H h i
    obtain ⟨-, e1, e2, e3⟩ := reads_keep m c k
    rw [e]
    refine (congrFun (STEP_main_v51_5 _) _).trans ?_
    refine (res_at (after_k m c k) ⟨k, by omega⟩ (counter m c k) b h i v).trans ?_
    rw [e1, e2, e3, ih (by omega), entry1_at m c _ b h i _ hβ h0 h1, entry2_at m c _ b h i _ hβ h0 h1, entry3_at m c _ b h v,
      H.vS_at b.val h.val k h.isLt v, ← EReal.coe_mul, ← EReal.coe_mul, ← EReal.coe_add]
    rfl

/-- The state one step makes. -/
theorem next_at (c : Dev nD) (H : Finite (argX m c) (argL m c)) (k : ℕ) (hk : k < 16384) (b : Fin 2) (h : Fin 4) (i v : Fin 128) :
    nxt (after_k m c k) (ix4 b h i v) = (stS (argX m c) (argL m c) b.val h.val (k + 1) i v : EReal) := by
  rw [← state_at m c H (k + 1) hk b h i v]
  have e : after_k m c (k + 1) = STEP (after_k m c k) := Function.iterate_succ_apply' _ _ _
  rw [e]
  exact (congrFun (STEP_main_v51_5 _) _).symm

/-- After `k` positions the earlier outputs are the recurrence's. -/
theorem outs_at (c : Dev nD) (H : Finite (argX m c) (argL m c)) (k : ℕ) (hk : k ≤ 16384) (p : Fin 16384) (hp : p.val < k) (b : Fin 2) (h : Fin 4) (v : Fin 128) :
    w6 (after_k m c k) (ix4 p b h v) = (outS (argX m c) (argL m c) b.val h.val p.val v : EReal) := by
  induction k with
  | zero => omega
  | succ k ih =>
    have e : after_k m c (k + 1) = STEP (after_k m c k) := Function.iterate_succ_apply' _ _ _
    rw [e]
    refine (congrFun (STEP_main_v51_6 _) _).trans ?_
    refine (out_at (after_k m c k) ⟨k, by omega⟩ (counter m c k) p b h v).trans ?_
    split
    · rename_i hpk
      have hpv : p.val = k := congrArg Fin.val hpk
      rw [hpv]
      have eq : ∀ i : Fin 128, w0 (after_k m c k) (ix4 ⟨k, by omega⟩ b h i) * nxt (after_k m c k) (ix4 b h i v)
          = ((qS (argX m c) b.val h.val k i * stS (argX m c) (argL m c) b.val h.val (k + 1) i v : ℝ) : EReal) := by
        intro i
        rw [next_at m c H k hk b h i v, (reads_keep m c k).1, entry0_at m c _ b h i, H.qS_at b.val h.val k h.isLt i, ← EReal.coe_mul]
      rw [Finset.sum_congr rfl fun i _ => eq i, coe_sum]
      rfl
    · rename_i hpk
      exact ih (by omega) (by have : p.val ≠ k := fun h => hpk (Fin.ext h); omega)

/-- What the operations after the loop make of one output. -/
theorem post_at (V : Valuation τ sig (Elt Ideal)) (r : Fin 32768) (j : Fin 512) (o : Fin 128 → ℝ) (g n : EReal)
    (ho : ∀ x : Fin 128, w6 V (ix4 ⟨r.val % 16384, by omega⟩ ⟨r.val / 16384, by omega⟩ ⟨j.val / 128, by omega⟩ x) = (o x : EReal))
    (hg : (V (Proc.devRef .tc main_arg0) : FVec Ideal S2x16384x3352 .f32) (ix3 ⟨r.val / 16384, by omega⟩ ⟨r.val % 16384, by omega⟩ ⟨2840 + j.val, by omega⟩) = g)
    (hn : (V (Proc.devRef .tc main_arg2) : FVec Ideal S1x128 .f32) (ix2 0 ⟨j.val % 128, by omega⟩) = n) :
    (out_main_v71 V : FVec Ideal S32768x512 .f32) (ix2 r j) = gate1 o ⟨j.val % 128, by omega⟩ g n := by
  unfold gate1
  rw [← sig_coe, zero_sub, ← hg, ← hn]
  simp only [← ho]
  pointwise [out_main_v71]

/-- The reference's result. -/
theorem result_at (c : Dev nD) (H : Finite (argX m c) (argL m c)) (r : Fin 32768) (j : Fin 512) :
    (out_main_v71 (after_k m c 16384) : FVec Ideal S32768x512 .f32) (ix2 r j)
      = result (argX m c) (argL m c) (argG m c) (r.val / 16384) (r.val % 16384) j.val :=
  post_at (after_k m c 16384) r j _ _ _
    (fun x => outs_at m c H 16384 le_rfl ⟨r.val % 16384, by omega⟩ (by show r.val % 16384 < 16384; omega) ⟨r.val / 16384, by omega⟩ ⟨j.val / 128, by omega⟩ x)
    ((congrFun (iter_main_arg0 m c 16384) _).trans (HX_of (argX m c) ⟨r.val / 16384, by omega⟩ ⟨r.val % 16384, by omega⟩ ⟨2840 + j.val, by omega⟩ _ rfl))
    (congrFun (iter_main_arg2 m c 16384) _)

/-- The reference's run ends with the recurrence's result, the arguments unchanged. -/
theorem run_value (ρ : Dev nD → PrngReg) (H : ∀ c, Finite (argX m c) (argL m c)) :
    θ_run defs (onTc (τ := τ) (main (F := Ideal))) ⟨m, fun _ => 0, ρ⟩ (fun r => ∀ c : Dev nD,
      r.2.mem ((c.tc : Thread nD τ).loc main_v71) = Cert.KernelIdeal.Gen.resultArr (argX m c) (argL m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (funext fun y => by
    obtain ⟨i, j, rfl⟩ : ∃ (i : Fin 32768) (j : Fin 512), y = ix2 i j := ⟨y 0, y 1, funext fun a => by match a with | 0 => rfl | 1 => rfl⟩
    exact result_at m c (H c) i j), (h c).2⟩) (run m ρ)

end Cert.ReferenceIdeal.Value

end
-- ==== Proof.FinitePre.lean ====
module

public import proofs.«01_k».proof.Pre_finite_inputs
public import proofs.«01_k».proof.Proof.KernelValue
public import proofs.«01_k».proof.Proof.RefScan

/-! # The precondition -/

@[expose] public section

set_option maxRecDepth 16384

noncomputable section

namespace Cert.Pre_finite_inputs

open Idealize.ShloMosaic Idealize.ShloMosaic.TcCoe

/-- The relations of shapes the precondition's operations take. -/
theorem holds_facts : Facts := ⟨by decide, by decide, by decide, by decide, by decide, by decide, by decide, by decide, by decide⟩

/-- Both of a conjunction of bits. -/
theorem and_one (a b : BitVec 1) (h : a &&& b = 1#1) : a = 1#1 ∧ b = 1#1 := by
  revert a b; decide

/-- A number whose absolute value is below plus infinity is real. -/
theorem real_of_abs (x : EReal) (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | top => simp [Ideal.cmp, Ideal.ofBits, Ideal.ieee] at h
  | coe r => exact ⟨r, rfl⟩

/-- The relations of shapes, as an instance. -/
instance : Facts := holds_facts

/-- Where the precondition holds, queries, values and bound logits are real. -/
theorem finite_of (X : FVec Ideal S2x16384x3352 .f32) (L : FVec Ideal S2x512 .f32) (G : FVec Ideal S1x128 .f32)
    (h : fn (F := Ideal) X L G = fun _ => 1#1) : Cert.KernelIdeal.Gen.Finite X L := by
  have e : ∀ (b : Fin 2) (n : Fin 16384) (j : Fin 512), fn (F := Ideal) X L G (ix3 b n j) = 1#1 := fun b n j => congrFun h _
  have e1 : ∀ (b : Fin 2) (n : Fin 16384) (j : Fin 512), (∃ r : ℝ, X (ix3 b n ⟨1304 + j.val, by omega⟩) = (r : EReal)) ∧ (∃ r : ℝ, X (ix3 b n ⟨2328 + j.val, by omega⟩) = (r : EReal))
      ∧ (∃ r : ℝ, L (ix2 0 j) = (r : EReal)) ∧ (∃ r : ℝ, L (ix2 1 j) = (r : EReal)) := by
    intro b n j
    have e2 := e b n j
    unfold fn fn_part1 at e2
    obtain ⟨e3, e4⟩ := and_one _ _ e2
    obtain ⟨e5, e6⟩ := and_one _ _ e3
    obtain ⟨e7, e8⟩ := and_one _ _ e5
    refine ⟨real_of_abs _ ?_, real_of_abs _ ?_, real_of_abs _ ?_, real_of_abs _ ?_⟩
    · rw [← e7]
      pointwise
      rfl
    · rw [← e8]
      pointwise
      rfl
    · rw [← e6]
      pointwise
      rfl
    · rw [← e4]
      pointwise
      rfl
  have f : ∀ (o : ℕ) (b n j : ℕ) (hj : j < 512) (ho : o + 512 ≤ 3352),
      Cert.KernelIdeal.Gen.HX X b n (o + j) = X (ix3 ⟨b % 2, Nat.mod_lt _ (by decide)⟩ ⟨n % 16384, Nat.mod_lt _ (by decide)⟩ ⟨o + j, by omega⟩) := by
    intro o b n j hj ho
    unfold Cert.KernelIdeal.Gen.HX
    congr 1
    congr 1
    exact Fin.ext (Nat.mod_eq_of_lt (by omega))
  refine ⟨fun b n j hj => ?_, fun b n j hj => ?_, ?_⟩
  · rw [f 1304 b n j hj (by decide)]
    exact (e1 ⟨b % 2, Nat.mod_lt _ (by decide)⟩ ⟨n % 16384, Nat.mod_lt _ (by decide)⟩ ⟨j, hj⟩).1
  · rw [f 2328 b n j hj (by decide)]
    exact (e1 ⟨b % 2, Nat.mod_lt _ (by decide)⟩ ⟨n % 16384, Nat.mod_lt _ (by decide)⟩ ⟨j, hj⟩).2.1
  · intro r j
    match r with
    | 0 => exact (e1 0 0 j).2.2.1
    | 1 => exact (e1 0 0 j).2.2.2

end Cert.Pre_finite_inputs

end
-- ==== Proof.ExpertsRun.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-! # The expert call's body at one grid point

The body reads the number of blocks in use. At a block below it, the block's rows go through the expert's gated feed-forward weights;
at the others the result is filled with zeros. Everything here holds for any contents of the two tables that satisfy `Ok`. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel body on any staging memrefs -/

/-- One staging buffer of output window 4, through which its contents are stated (`View.read_writes_of_cover`: the
    choice does not matter). -/
abbrev VO0_4 : View sig .tc .vmem S256x1024 .f32 := (Memref.whole cc0_stg4_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The one index of the second table. -/
abbrev tblIx : S1.Idx := fun a => ⟨0, by match a with | ⟨0, _⟩ => exact Nat.one_pos⟩

/-- A word made of a truth value is not zero exactly where it holds. -/
theorem truth_word (b : Bool) : Scalar.cmpi .ne (Scalar.extui (BitVec.ofBool b)) 0#32 = 1#1 ↔ b = true := by
  cases b <;> decide

/-- The body's first condition: the point comes before the number of blocks in use. -/
theorem cond1_iff (i : grid0.Coords) (n : BitVec 32) : k0_cond1 i n = 1#1 ↔ (BitVec.ofNat 32 (i 0).val).toInt < n.toInt := by
  refine (truth_word ((BitVec.ofNat 32 (i 0).val).slt n)).trans ?_
  exact BitVec.slt_iff_toInt_lt

/-- The body's second condition holds exactly where its first does not. -/
theorem cond2_iff (i : grid0.Coords) (n : BitVec 32) : k0_cond2 i n = 1#1 ↔ ¬ k0_cond1 i n = 1#1 := by
  rw [cond1_iff]
  refine (truth_word (n.sle (BitVec.ofNat 32 (i 0).val))).trans ?_
  exact BitVec.sle_iff_toInt_le.trans not_lt.symm

/-- What the body leaves in its result's buffer: the gated feed-forward of the point's rows where the point is in use, zero elsewhere. -/
def stored (i : grid0.Coords) (n : BitVec 32) (x0 : Vec F S256x1024 .f32) (x1 : Vec F S1x1024x512 .bf16) (x2 : Vec F S1x1024x512 .bf16) (x3 : Vec F S1x512x1024 .bf16) : Vec F S256x1024 .f32 :=
  if k0_cond1 i n = 1#1 then k0_pay1 x0 x1 x2 x3 else k0_pay2

/-- The word the body loads from the second table is the table's one word. -/
theorem table_word (c : Dev nD) (x : TbBuf0 (F := F) c tbM0_1) :
    View.readAt (Elt F) tbM0_1.view (Rect.unit (s := S1) ![0] S1.size inb_S1_S1_0).toLoadRect x (Shape.Idx.first (s := S1) (by decide)) = x tblIx := by
  show x _ = x _
  refine congrArg x (funext fun a => Fin.ext ?_)
  match a with
  | ⟨0, _⟩ => rfl

set_option maxHeartbeats 1000000 in
/-- The body on any buffers: it stores `stored`. -/
theorem run_body (c : Dev nD) (i : grid0.Coords) (arg3 : Memref sig .tc .vmem S256x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S256x1024 .f32) (harg7 : arg7.IsWhole)
    (x0 : Vec F S256x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (stored i (xt1 tblIx) x0 x1 x2 x3) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    unfold stored
    by_cases hc : k0_cond1 i (xt1 tblIx) = 1#1
    · have hd : ¬ k0_cond2 i (xt1 tblIx) = 1#1 := fun h => (cond2_iff _ _).1 h hc
      rw [if_pos hc]
      rw [show run_body.sl.r c xt1 = xt1 tblIx from table_word c xt1, dif_neg hd, dif_pos hc]
      refine (View.read_writes_full _ _ _ _ _).trans ?_
      rw [View.readAt_full, View.readAt_full, View.readAt_full, View.readAt_full, harg3.read_unread, harg4.read_unread, harg5.read_unread, harg6.read_unread]
    · have hd : k0_cond2 i (xt1 tblIx) = 1#1 := (cond2_iff _ _).2 hc
      rw [if_neg hc]
      rw [show run_body.sl.r c xt1 = xt1 tblIx from table_word c xt1, dif_pos hd]
      exact View.read_writes_full _ _ _ _ _
  isplitl [HT0]; · iexact HT0
  iexact HT1

end Cert.Kernel5Ideal.Gen

end
-- ==== Proof.ExpertsFrame.lean ====
module

public import proofs.«01_k».proof.Proof.ExpertsRun
public import Idealize.ShloMosaic.Lib.Claim

/-! # The experts' launch: its proof data, its run, its frame -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result's buffer holds after the body at point `t`. -/
def outsAt0 (hO : Ok m) (c : Dev nD) (t : Fin (cfgM m hO).N) : Vec F S256x1024 .f32 :=
  stored (grid0.coords t) (tbl m 1 tblIx) (iblk m hO c 0 t) (iblk m hO c 1 t) (iblk m hO c 2 t) (iblk m hO c 3 t)

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the contents the region is entered with. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' buffers hold their blocks, so the run applies; the invariant passes through unread. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body stores the result's buffer at every point: one of its two conditions holds. -/
theorem never_idle (hO : Ok m) (t : Fin (cfgM m hO).N) : (cfgM m hO).idle (4 : Fin 5) ((cfgM m hO).grid.coords t) = false := by
  show (!(k0_cond1 _ _ == 1#1) && !(k0_cond2 _ _ == 1#1)) = false
  rw [Bool.and_eq_false_iff]
  by_cases h : k0_cond1 ((cfgM m hO).grid.coords t) ((tbl m).atD 1 ![0]) = 1#1
  · exact .inl (by rw [h]; rfl)
  · exact .inr (by rw [(cond2_iff _ _).2 h]; rfl)

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO, never_idle m hO t]
  exact triple_restated (sound_body m hO c t) rfl .rfl fun _ => .rfl

/-! ## The run and the frame -/

set_option backward.isDefEq.respectTransparency.types false in
/-- Every execution ends, the arrays as the proof data says, every counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arrays end as the proof data says. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The run ends, leaves the argument arrays unchanged and every counter at zero, wherever the tables' blocks lie in their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel5Ideal.Gen

end
-- ==== Proof.ExpertsTables.lean ====
module

public import proofs.«01_k».proof.Proof.ExpertsFrame
public import proofs.«01_k».proof.Proof.FinitePre
public import proofs.«01_k».proof.Proof.Gen.Pre_tables_in_range
public import Idealize.ShloMosaic.Lib.Pointwise

/-! # The experts' tables: what the precondition says of them, and that their blocks lie in the arrays -/

@[expose] public section

set_option maxRecDepth 16384

noncomputable section

namespace Cert.Pre_tables_in_range

open Idealize.ShloMosaic Idealize.ShloMosaic.TcCoe Cert.Pre_tables_in_range.Gen

variable {F : FTy → Type} [FloatOps F]

/-- Where the precondition holds, every block's expert is one of the 32 and at least one block is in use. -/
theorem range_at (B : IVec S288 32) (N : IVec S1 32) (X : FVec F S73728x1024 .f32) (G U : FVec F S32x1024x512 .bf16) (D : FVec F S32x512x1024 .bf16)
    (h : fn B N X G U D = fun _ => 1#1) (t : Fin 288) : (0 ≤ (B (ix1 t)).toInt ∧ (B (ix1 t)).toInt < 32) ∧ 1 ≤ (N (ix1 0)).toInt := by
  have e := congrFun h (ix1 t)
  unfold fn at e
  obtain ⟨e1, e2⟩ := Cert.Pre_finite_inputs.and_one _ _ e
  obtain ⟨e3, e4⟩ := Cert.Pre_finite_inputs.and_one _ _ e1
  refine ⟨⟨?_, ?_⟩, ?_⟩
  · exact of_decide_eq_true ((Idealize.ShloMosaic.WordCmp.ofBool_eq_one_iff _).1 e3)
  · exact of_decide_eq_true ((Idealize.ShloMosaic.WordCmp.ofBool_eq_one_iff _).1 e4)
  · have e5 : IntOp.cmpi .sge (N (ix1 0)) 1#32 = 1#1 := by
      rw [← e2]
      pointwise
    exact of_decide_eq_true ((Idealize.ShloMosaic.WordCmp.ofBool_eq_one_iff _).1 e5)

end Cert.Pre_tables_in_range

namespace Cert.Kernel5Ideal.Gen

open Idealize.ShloMosaic Idealize.ShloMosaic.TcCoe

variable {F : FTy → Type} [FloatOps F]

/-- A point's word of the first table. -/
theorem word_at (pf : pre0.Contents (Elt F)) (i : grid0.Coords) :
    pf.at 0 (Rect.unit (s := S288) ![(Scalar.indexCast (BitVec.ofNat 32 (i 0).val)).toNat] S1.size (k0_off1_inb i)) numel1_S1 = pf 0 (ix1 (i 0)) := by
  refine congrArg (pf 0) (funext fun a => Fin.ext ?_)
  have hi : (i 0).val < 288 := (i 0).isLt
  match a with
  | ⟨0, _⟩ =>
    show (BitVec.ofNat 32 (i 0).val).toNat + 0 * 1 = (i 0).val
    rw [BitVec.toNat_ofNat, Nat.mod_eq_of_lt (by omega)]
    omega

/-- The second table's word. -/
theorem count_at (pf : pre0.Contents (Elt F)) : pf.at 1 (Rect.unit (s := S1) ![0] S1.size inb_S1_S1_0) numel1_S1 = pf 1 (ix1 0) := by
  refine congrArg (pf 1) (funext fun a => Fin.ext ?_)
  match a with
  | ⟨0, _⟩ => rfl

/-- A word in the experts' range, as a natural number. -/
theorem toNat_range {w : BitVec 32} (h0 : 0 ≤ w.toInt) (h1 : w.toInt < 32) : w.toNat < 32 ∧ w.toInt = w.toNat := by
  have e := BitVec.toInt_eq_toNat_cond w
  have hw := w.isLt
  split at e <;> omega

/-- The block of rows a point reads: its own where it is in use, the last one in use elsewhere. -/
theorem row_block (a : ℕ) (ha : a < 288) (n : BitVec 32) (hn : 1 ≤ n.toInt) :
    (Scalar.minsi (BitVec.ofNat 32 a) (Scalar.subi n 1#32)).toNat ≤ a
      ∧ ((BitVec.ofNat 32 a).toInt < n.toInt → (Scalar.minsi (BitVec.ofNat 32 a) (Scalar.subi n 1#32)).toNat = a) := by
  have e := BitVec.toInt_eq_toNat_cond n
  have hw := n.isLt
  have hn2 : 2 * n.toNat < 2 ^ 32 ∧ n.toInt = n.toNat := by split at e <;> omega
  have hsub : (n - 1#32).toNat = n.toNat - 1 := by
    rw [BitVec.toNat_sub]
    show (2 ^ 32 - 1 + n.toNat) % 2 ^ 32 = _
    omega
  have hsubi : (n - 1#32).toInt = (n.toNat - 1 : ℕ) := by rw [BitVec.toInt_eq_toNat_of_lt (by omega), hsub]
  have hai : (BitVec.ofNat 32 a).toInt = a := Idealize.ShloMosaic.WordCmp.toInt_ofNat_of_lt (by omega)
  have han : (BitVec.ofNat 32 a).toNat = a := Idealize.ShloMosaic.WordCmp.toNat_ofNat_of_lt (by omega)
  show (if (BitVec.ofNat 32 a).slt (n - 1#32) then BitVec.ofNat 32 a else n - 1#32).toNat ≤ a ∧ (_ → (if (BitVec.ofNat 32 a).slt (n - 1#32) then BitVec.ofNat 32 a else n - 1#32).toNat = a)
  split
  · rename_i h
    rw [han]
    exact ⟨le_refl _, fun _ => rfl⟩
  · rename_i h
    rw [BitVec.slt_iff_toInt_lt, hai, hsubi] at h
    rw [hsub, hai, hn2.2]
    omega

/-- The tables' blocks lie in their arrays, where every word of the first is in range and the second is at least one. -/
theorem ok_of_range (pf : pre0.Contents (Elt F)) (hB : ∀ t : Fin 288, 0 ≤ (pf 0 (ix1 t) : BitVec 32).toInt ∧ (pf 0 (ix1 t) : BitVec 32).toInt < 32) (hN : 1 ≤ (pf 1 (ix1 0) : BitVec 32).toInt) : ok0 pf := by
  have hw : ∀ i : grid0.Coords, (pf.at 0 (Rect.unit (s := S288) ![(Scalar.indexCast (BitVec.ofNat 32 (i 0).val)).toNat] S1.size (k0_off1_inb i)) numel1_S1 : BitVec 32).toNat < 32 := fun i => by
    rw [word_at]
    exact (toNat_range (hB (i 0)).1 (hB (i 0)).2).1
  refine ⟨fun i => ⟨fun a => ?_, .inl rfl⟩, fun i => ⟨fun a => ?_, .inr (.inr ⟨by decide, rfl, rfl, rfl⟩)⟩, fun i => ⟨fun a => ?_, .inr (.inr ⟨by decide, rfl, rfl, rfl⟩)⟩, fun i => ⟨fun a => ?_, .inr (.inr ⟨by decide, rfl, rfl, rfl⟩)⟩⟩
  · match a with
    | ⟨0, _⟩ =>
      have hi : (i 0).val < 288 := (i 0).isLt
      have e := (row_block (i 0).val hi (pf.at 1 (Rect.unit (s := S1) ![0] S1.size inb_S1_S1_0) numel1_S1) (by rw [count_at]; exact hN)).1
      show ((Scalar.minsi (BitVec.ofNat 32 (i 0).val) (Scalar.subi (pf.at 1 (Rect.unit (s := S1) ![0] S1.size inb_S1_S1_0) numel1_S1) 1#32)).toNat + 1) * 256 ≤ 73728
      omega
    | ⟨1, _⟩ => show (0 + 1) * 1024 ≤ 1024; omega
  · match a with
    | ⟨0, _⟩ => have e := hw i; show ((pf.at 0 (Rect.unit (s := S288) ![(Scalar.indexCast (BitVec.ofNat 32 (i 0).val)).toNat] S1.size (k0_off1_inb i)) numel1_S1 : BitVec 32).toNat + 1) * 1 ≤ 32; omega
    | ⟨1, _⟩ => show (0 + 1) * 1024 ≤ 1024; omega
    | ⟨2, _⟩ => show (0 + 1) * 512 ≤ 512; omega
  · match a with
    | ⟨0, _⟩ => have e := hw i; show ((pf.at 0 (Rect.unit (s := S288) ![(Scalar.indexCast (BitVec.ofNat 32 (i 0).val)).toNat] S1.size (k0_off1_inb i)) numel1_S1 : BitVec 32).toNat + 1) * 1 ≤ 32; omega
    | ⟨1, _⟩ => show (0 + 1) * 1024 ≤ 1024; omega
    | ⟨2, _⟩ => show (0 + 1) * 512 ≤ 512; omega
  · match a with
    | ⟨0, _⟩ => have e := hw i; show ((pf.at 0 (Rect.unit (s := S288) ![(Scalar.indexCast (BitVec.ofNat 32 (i 0).val)).toNat] S1.size (k0_off1_inb i)) numel1_S1 : BitVec 32).toNat + 1) * 1 ≤ 32; omega
    | ⟨1, _⟩ => show (0 + 1) * 512 ≤ 512; omega
    | ⟨2, _⟩ => show (0 + 1) * 1024 ≤ 1024; omega

end Cert.Kernel5Ideal.Gen

end
-- ==== Proof.LayerMath.lean ====
module

public import Idealize.ShloMosaic.Lib.Pointwise
public import Idealize.ShloMosaic.Lib.Claim
public import Idealize.ShloMosaic.Lib.IdealHost

/-! # Rows of the layer: normalisation, mixing, attention over the memory, at the ideal numbers -/

@[expose] public section

noncomputable section

namespace Cert.Layer

open Idealize.ShloMosaic

/-- The weight of the residual stream. -/
def alpha : EReal := Ideal.ofBits FTy.f32 0x3F9837F0#32

/-- Layer normalisation of a row `y` with gain `g` and bias `b`. -/
def lnorm (y : Fin 1024 → EReal) (g b : EReal) (j : Fin 1024) : EReal :=
  (y j - Ideal.div (∑ x, y x) (Ideal.ofBits FTy.f32 0x44800000#32)) *
      Ideal.rsqrt (Ideal.div (∑ x, (y x - Ideal.div (∑ z, y z) (Ideal.ofBits FTy.f32 0x44800000#32)) *
        (y x - Ideal.div (∑ z, y z) (Ideal.ofBits FTy.f32 0x44800000#32))) (Ideal.ofBits FTy.f32 0x44800000#32)
        + Ideal.ofBits FTy.f32 0x3727C5AC#32) * g + b

/-- An attention output row, divided by its root mean square and scaled by the gain. -/
def rmsRow (o ng : Fin 512 → EReal) (k : Fin 512) : EReal :=
  o k * Ideal.rsqrt (Ideal.div (∑ x, o x * o x) (Ideal.ofBits FTy.f32 0x44000000#32) + Ideal.ofBits FTy.f32 0x358637BD#32) * ng k

/-- The residual row plus the output projection of the two mixers' rows. -/
def mixRow (o ng h : Fin 512 → EReal) (x : Fin 1024 → EReal) (W : Fin 1024 → Fin 1024 → EReal) (j : Fin 1024) : EReal :=
  alpha * x j + (∑ k : Fin 512, rmsRow o ng k * W ⟨k.val, by omega⟩ j + ∑ k : Fin 512, h k * W ⟨512 + k.val, by omega⟩ j)

/-- The greatest of a row of scores. -/
def rowMax (s : Fin 256 → EReal) : EReal := Finset.fold max (Ideal.ofBits FTy.f32 0xFF800000#32) s Finset.univ

/-- A score's exponential, the greatest taken off first. -/
def rowExp (s : Fin 256 → EReal) (t : Fin 256) : EReal := Ideal.exp (s t - rowMax s)

/-- The values weighted by the softmax of the scores, the sum's reciprocal a factor of each weight. -/
def attend (s v : Fin 256 → EReal) : EReal := ∑ t, rowExp s t * Ideal.div 1 (∑ u, rowExp s u) * v t

/-- The scores of a query row against the memory's keys in one head. -/
def score (q : Fin 1024 → EReal) (K : Fin 256 → Fin 1024 → EReal) (h : Fin 4) (t : Fin 256) : EReal :=
  (∑ d : Fin 256, q ⟨256 * h.val + d.val, by omega⟩ * K t ⟨256 * h.val + d.val, by omega⟩) * Ideal.ofBits FTy.f32 0x3D800000#32

/-- A projected row. -/
def proj (x : Fin 1024 → EReal) (W : Fin 1024 → Fin 1024 → EReal) (j : Fin 1024) : EReal := ∑ k, x k * W k j

/-- One head's output. -/
def head (q : Fin 1024 → EReal) (K V : Fin 256 → Fin 1024 → EReal) (h : Fin 4) (d : Fin 256) : EReal :=
  attend (score q K h) (fun t => V t ⟨256 * h.val + d.val, by omega⟩)

/-- The residual row plus the projected heads. -/
def memRow (x : Fin 1024 → EReal) (Wq : Fin 1024 → Fin 1024 → EReal) (K V : Fin 256 → Fin 1024 → EReal) (Wo : Fin 1024 → Fin 1024 → EReal) (j : Fin 1024) : EReal :=
  alpha * x j + ∑ k : Fin 1024, head (proj x Wq) K V ⟨k.val / 256, by omega⟩ ⟨k.val % 256, by omega⟩ * Wo k j

/-- Four rows of 256 side by side. -/
def cat (a b c d : Fin 256 → EReal) (k : Fin 1024) : EReal :=
  if h : k.val < 256 then a ⟨k.val, by omega⟩ else if h : k.val - 256 < 256 then b ⟨k.val - 256, by omega⟩
    else if h : k.val - 256 - 256 < 256 then c ⟨k.val - 256 - 256, by omega⟩ else d ⟨k.val - 256 - 256 - 256, by omega⟩

/-- Four rows side by side, read by quotient and remainder. -/
theorem cat_eq (H : Fin 4 → Fin 256 → EReal) (k : Fin 1024) :
    cat (H 0) (H 1) (H 2) (H 3) k = H ⟨k.val / 256, by omega⟩ ⟨k.val % 256, by omega⟩ := by
  have hk := k.isLt
  unfold cat
  split_ifs with h1 h2 h3
  · exact congrArg₂ H (Fin.ext (show 0 = k.val / 256 by omega)) (Fin.ext (show k.val = k.val % 256 by omega))
  · exact congrArg₂ H (Fin.ext (show 1 = k.val / 256 by omega)) (Fin.ext (show k.val - 256 = k.val % 256 by omega))
  · exact congrArg₂ H (Fin.ext (show 2 = k.val / 256 by omega)) (Fin.ext (show k.val - 256 - 256 = k.val % 256 by omega))
  · exact congrArg₂ H (Fin.ext (show 3 = k.val / 256 by omega)) (Fin.ext (show k.val - 256 - 256 - 256 = k.val % 256 by omega))

/-- The pattern of minus infinity denotes the least number. -/
theorem ofBits_bot : Ideal.ofBits FTy.f32 0xFF800000#32 = ⊥ := by
  simp [Ideal.ofBits, Ideal.ieee]

/-- The greatest of real scores is not plus infinity. -/
theorem rowMax_ne_top (s : Fin 256 → EReal) (hs : ∀ t, s t ≠ ⊤) : rowMax s ≠ ⊤ := by
  unfold rowMax
  rw [ofBits_bot]
  have h : ∀ S : Finset (Fin 256), Finset.fold max ⊥ s S < ⊤ := fun S =>
    Finset.fold_max_lt _ |>.mpr ⟨bot_lt_top, fun t _ => lt_top_iff_ne_top.mpr (hs t)⟩
  exact (h _).ne

/-- The exponentials of real scores do not sum to zero. -/
theorem sum_rowExp_ne (s : Fin 256 → EReal) (hs : ∀ t, ∃ r : ℝ, s t = (r : EReal)) : ∑ u, rowExp s u ≠ 0 := by
  have hn : ∀ x, (0 : EReal) ≤ Ideal.exp x := fun x => by
    induction x using EReal.rec with
    | bot => exact le_refl _
    | top => exact le_top
    | coe r => exact EReal.coe_nonneg.mpr (Real.exp_pos r).le
  have hp : 0 < rowExp s 0 := by
    obtain ⟨r, hr⟩ := hs 0
    have ht := rowMax_ne_top s fun t => by obtain ⟨q, hq⟩ := hs t; rw [hq]; exact EReal.coe_ne_top q
    unfold rowExp
    rw [hr]
    generalize rowMax s = M at ht
    induction M using EReal.rec with
    | bot => rw [show ((r : EReal) - ⊥) = ⊤ from EReal.coe_sub_bot r]; exact EReal.zero_lt_top
    | top => exact absurd rfl ht
    | coe q => rw [← EReal.coe_sub]; exact EReal.coe_pos.mpr (Real.exp_pos _)
  have := Finset.single_le_sum (f := rowExp s) (fun i _ => hn _) (Finset.mem_univ 0)
  exact (hp.trans_le this).ne'

/-- For real scores the weights may be quotients, and the values come first. -/
theorem attend_div (s v : Fin 256 → EReal) (hs : ∀ t, ∃ r : ℝ, s t = (r : EReal)) :
    ∑ t, v t * Ideal.div (rowExp s t) (∑ u, rowExp s u) = attend s v := by
  unfold attend
  refine Finset.sum_congr rfl fun t _ => ?_
  rw [Ideal.mul_one_div (sum_rowExp_ne s hs), mul_comm]

/-- Sums of products of reals are real. -/
theorem real_dot {n : ℕ} (a b : Fin n → EReal) (ha : ∀ k, ∃ r : ℝ, a k = (r : EReal)) (hb : ∀ k, ∃ r : ℝ, b k = (r : EReal)) :
    ∃ r : ℝ, ∑ k, a k * b k = (r : EReal) := by
  choose f hf using ha
  choose g hg using hb
  refine ⟨∑ k, f k * g k, ?_⟩
  rw [Finset.sum_congr rfl fun k _ => show a k * b k = ((f k * g k : ℝ) : EReal) by rw [hf, hg, EReal.coe_mul]]
  exact (map_sum (⟨⟨Real.toEReal, EReal.coe_zero⟩, EReal.coe_add⟩ : ℝ →+ EReal) _ _).symm

/-- Real rows, weights and keys give real scores. -/
theorem real_score (x : Fin 1024 → EReal) (Wq : Fin 1024 → Fin 1024 → EReal) (K : Fin 256 → Fin 1024 → EReal) (hx : ∀ k, ∃ r : ℝ, x k = (r : EReal))
    (hw : ∀ k j, ∃ r : ℝ, Wq k j = (r : EReal)) (hk : ∀ t j, ∃ r : ℝ, K t j = (r : EReal)) (h : Fin 4) (t : Fin 256) : ∃ r : ℝ, score (proj x Wq) K h t = (r : EReal) := by
  obtain ⟨a, ha⟩ := real_dot (fun d : Fin 256 => proj x Wq ⟨256 * h.val + d.val, by omega⟩) (fun d => K t ⟨256 * h.val + d.val, by omega⟩)
    (fun d => real_dot _ _ hx fun k => hw k _) fun d => hk t _
  refine ⟨a * (1 / 16), ?_⟩
  unfold score
  rw [ha, EReal.coe_mul]
  congr 1
  simp [Ideal.ofBits, Ideal.ieee, -EReal.coe_mul]
  norm_num

end Cert.Layer

end
-- ==== Proof.ExpertsMath.lean ====
module

public import proofs.«01_k».proof.Proof.LayerMath

/-! # The experts' feed-forward, at the ideal numbers -/

@[expose] public section

noncomputable section

namespace Cert.Layer

open Idealize.ShloMosaic

/-- A gate: the number times its sigmoid. -/
def gate (g : EReal) : EReal := g * Ideal.div 1 (1 + Ideal.exp (-g))

/-- A row through an expert: the gated projection into the expert's width, then the projection back. -/
def expertRow (x : Fin 1024 → EReal) (G U : Fin 1024 → Fin 512 → EReal) (D : Fin 512 → Fin 1024 → EReal) (j : Fin 1024) : EReal :=
  ∑ k : Fin 512, gate (∑ l, x l * G l k) * (∑ l, x l * U l k) * D k j

/-- The expert a word names, the nearest one where the word lies outside the range. -/
def expertOf (w : BitVec 32) : Fin 32 := ⟨min w.toInt.toNat 31, by omega⟩

/-- The result of the expert call: block `t` of 256 rows goes through the expert the table names for it, where `t` comes before the number
    of blocks in use, and is zero elsewhere. -/
def expertsArr (B : IVec ⟨1, ![288]⟩ 32) (N : BitVec 32) (X : FVec Ideal ⟨2, ![73728, 1024]⟩ .f32) (G U : FVec Ideal ⟨3, ![32, 1024, 512]⟩ .bf16)
    (D : FVec Ideal ⟨3, ![32, 512, 1024]⟩ .bf16) (s : Fin 73728) (j : Fin 1024) : EReal :=
  if (BitVec.ofNat 32 (s.val / 256)).toInt < N.toInt then
    expertRow (fun l => X (ix2 s l)) (fun l k => G (ix3 (expertOf (B (ix1 ⟨s.val / 256, by omega⟩))) l k)) (fun l k => U (ix3 (expertOf (B (ix1 ⟨s.val / 256, by omega⟩))) l k))
      (fun k j => D (ix3 (expertOf (B (ix1 ⟨s.val / 256, by omega⟩))) k j)) j
  else 0

end Cert.Layer

end
-- ==== Proof.ExpertsValue.lean ====
module

public import proofs.«01_k».proof.Proof.ExpertsTables
public import proofs.«01_k».proof.Proof.ExpertsMath
public import Idealize.ShloMosaic.Lib.Pipeline.ValueKit
public import Idealize.ShloMosaic.Lib.Pointwise

/-! # What the expert call's launch leaves in its result -/

@[expose] public section

set_option maxRecDepth 16384

noncomputable section

namespace Cert.Kernel5Ideal.Gen

open Idealize.ShloMosaic Idealize.ShloMosaic.TcCoe Idealize.SL.Sem Cert.Layer
open Idealize.ShloMosaic.Pipeline (Dat Cfg Window)

variable (m : (ℓ : Loc nD τ sig) → Buf (Elt Ideal) ℓ) (ρ : Dev nD → PrngReg)

/-- The stored block of a point in use. -/
theorem pay1_at (x0 : Vec Ideal S256x1024 .f32) (x1 x2 : Vec Ideal S1x1024x512 .bf16) (x3 : Vec Ideal S1x512x1024 .bf16) (r : Fin 256) (j : Fin 1024) :
    k0_pay1 (F := Ideal) x0 x1 x2 x3 (ix2 r j) = expertRow (fun l => x0 (ix2 r l)) (fun l k => x1 (ix3 0 l k)) (fun l k => x2 (ix3 0 l k)) (fun k j => x3 (ix3 0 k j)) j := by
  pointwise [k0_pay1]
  unfold expertRow gate
  simp only [zero_sub]

/-- The stored block of the others. -/
theorem pay2_at (r : Fin 256) (j : Fin 1024) : k0_pay2 (F := Ideal) (ix2 r j) = 0 := by
  pointwise [k0_pay2]

/-- The rows a point in use reads. -/
theorem blk0 (hO : Ok m) (c : Dev nD) (t : Fin (cfgM m hO).N) (hn : 1 ≤ (tbl m 1 (ix1 0) : BitVec 32).toInt) (hu : (BitVec.ofNat 32 (grid0.coords t 0).val).toInt < (tbl m 1 (ix1 0) : BitVec 32).toInt)
    (r : Fin 256) (l : Fin 1024) (h : (grid0.coords t 0).val * 256 + r.val < 73728) :
    iblk m hO c 0 t (ix2 r l) = (m ((c : Thread nD τ).loc main_arg2) : FVec Ideal S73728x1024 .f32) (ix2 ⟨(grid0.coords t 0).val * 256 + r.val, h⟩ l) := by
  have e := (row_block (grid0.coords t 0).val (grid0.coords t 0).isLt _ hn).2 hu
  rw [← count_at (tbl m)] at e
  refine congrArg (m ((c : Thread nD τ).loc main_arg2)) (funext fun a => Fin.ext ?_)
  match a with
  | ⟨0, _⟩ =>
    show (Scalar.minsi (BitVec.ofNat 32 (grid0.coords t 0).val) (Scalar.subi ((tbl m).at 1 (Rect.unit (s := S1) ![0] S1.size inb_S1_S1_0) numel1_S1) 1#32)).toNat * 256 + 1 * r.val = (grid0.coords t 0).val * 256 + r.val
    rw [e]; omega
  | ⟨1, _⟩ => show 0 * 1024 + 1 * l.val = l.val; omega

/-- A word in range names the expert whose block is read. -/
theorem expert_of_word {w : BitVec 32} (h0 : 0 ≤ w.toInt) (h1 : w.toInt < 32) : w.toNat = (expertOf w).val := by
  have e := toNat_range h0 h1
  show w.toNat = min w.toInt.toNat 31
  omega

/-- The gate's weights a point reads. -/
theorem blk1 (hO : Ok m) (c : Dev nD) (t : Fin (cfgM m hO).N) (h0 : 0 ≤ (tbl m 0 (ix1 (grid0.coords t 0)) : BitVec 32).toInt) (h1 : (tbl m 0 (ix1 (grid0.coords t 0)) : BitVec 32).toInt < 32) (l : Fin 1024) (k : Fin 512) :
    iblk m hO c 1 t (ix3 0 l k) = (m ((c : Thread nD τ).loc main_arg3) : FVec Ideal S32x1024x512 .bf16) (ix3 (expertOf (tbl m 0 (ix1 (grid0.coords t 0)))) l k) := by
  refine congrArg (m ((c : Thread nD τ).loc main_arg3)) (funext fun a => Fin.ext ?_)
  match a with
  | ⟨0, _⟩ =>
    show ((tbl m).at 0 (Rect.unit (s := S288) ![(Scalar.indexCast (BitVec.ofNat 32 (grid0.coords t 0).val)).toNat] S1.size (k0_off1_inb (grid0.coords t))) numel1_S1 : BitVec 32).toNat * 1 + 1 * 0 = _
    rw [word_at, expert_of_word h0 h1]
    show (expertOf (tbl m 0 (ix1 (grid0.coords t 0)))).val * 1 + 1 * 0 = (expertOf (tbl m 0 (ix1 (grid0.coords t 0)))).val
    omega
  | ⟨1, _⟩ => show 0 * 1024 + 1 * l.val = l.val; omega
  | ⟨2, _⟩ => show 0 * 512 + 1 * k.val = k.val; omega
/-- The other factor's weights a point reads. -/
theorem blk2 (hO : Ok m) (c : Dev nD) (t : Fin (cfgM m hO).N) (h0 : 0 ≤ (tbl m 0 (ix1 (grid0.coords t 0)) : BitVec 32).toInt) (h1 : (tbl m 0 (ix1 (grid0.coords t 0)) : BitVec 32).toInt < 32) (l : Fin 1024) (k : Fin 512) :
    iblk m hO c 2 t (ix3 0 l k) = (m ((c : Thread nD τ).loc main_arg4) : FVec Ideal S32x1024x512 .bf16) (ix3 (expertOf (tbl m 0 (ix1 (grid0.coords t 0)))) l k) := by
  refine congrArg (m ((c : Thread nD τ).loc main_arg4)) (funext fun a => Fin.ext ?_)
  match a with
  | ⟨0, _⟩ =>
    show ((tbl m).at 0 (Rect.unit (s := S288) ![(Scalar.indexCast (BitVec.ofNat 32 (grid0.coords t 0).val)).toNat] S1.size (k0_off1_inb (grid0.coords t))) numel1_S1 : BitVec 32).toNat * 1 + 1 * 0 = _
    rw [word_at, expert_of_word h0 h1]
    show (expertOf (tbl m 0 (ix1 (grid0.coords t 0)))).val * 1 + 1 * 0 = (expertOf (tbl m 0 (ix1 (grid0.coords t 0)))).val
    omega
  | ⟨1, _⟩ => show 0 * 1024 + 1 * l.val = l.val; omega
  | ⟨2, _⟩ => show 0 * 512 + 1 * k.val = k.val; omega
/-- The weights back a point reads. -/
theorem blk3 (hO : Ok m) (c : Dev nD) (t : Fin (cfgM m hO).N) (h0 : 0 ≤ (tbl m 0 (ix1 (grid0.coords t 0)) : BitVec 32).toInt) (h1 : (tbl m 0 (ix1 (grid0.coords t 0)) : BitVec 32).toInt < 32) (k : Fin 512) (j : Fin 1024) :
    iblk m hO c 3 t (ix3 0 k j) = (m ((c : Thread nD τ).loc main_arg5) : FVec Ideal S32x512x1024 .bf16) (ix3 (expertOf (tbl m 0 (ix1 (grid0.coords t 0)))) k j) := by
  refine congrArg (m ((c : Thread nD τ).loc main_arg5)) (funext fun a => Fin.ext ?_)
  match a with
  | ⟨0, _⟩ =>
    show ((tbl m).at 0 (Rect.unit (s := S288) ![(Scalar.indexCast (BitVec.ofNat 32 (grid0.coords t 0).val)).toNat] S1.size (k0_off1_inb (grid0.coords t))) numel1_S1 : BitVec 32).toNat * 1 + 1 * 0 = _
    rw [word_at, expert_of_word h0 h1]
    show (expertOf (tbl m 0 (ix1 (grid0.coords t 0)))).val * 1 + 1 * 0 = (expertOf (tbl m 0 (ix1 (grid0.coords t 0)))).val
    omega
  | ⟨1, _⟩ => show 0 * 512 + 1 * k.val = k.val; omega
  | ⟨2, _⟩ => show 0 * 1024 + 1 * j.val = j.val; omega

/-- The result array of the expert call, from the argument arrays. -/
def resultArr (c : Dev nD) : FVec Ideal S73728x1024 .f32 :=
  fun i => expertsArr (m ((c : Thread nD τ).loc main_arg0)) ((m ((c : Thread nD τ).loc main_arg1) : IVec S1 32) (ix1 0)) (m ((c : Thread nD τ).loc main_arg2)) (m ((c : Thread nD τ).loc main_arg3)) (m ((c : Thread nD τ).loc main_arg4)) (m ((c : Thread nD τ).loc main_arg5)) (i 0) (i 1)

/-- What a point stores is the result array at its rows. -/
theorem stored_at (hO : Ok m) (c : Dev nD) (hB : ∀ t : Fin 288, 0 ≤ (tbl m 0 (ix1 t) : BitVec 32).toInt ∧ (tbl m 0 (ix1 t) : BitVec 32).toInt < 32) (hN : 1 ≤ (tbl m 1 (ix1 0) : BitVec 32).toInt)
    (t : Fin (cfgM m hO).N) (r : Fin 256) (j : Fin 1024) (h : (grid0.coords t 0).val * 256 + r.val < 73728) :
    outsAt0 m hO c t (ix2 r j) = resultArr m c (ix2 ⟨(grid0.coords t 0).val * 256 + r.val, h⟩ j) := by
  obtain rfl : c = 0 := Subsingleton.elim _ _
  have hd : ((grid0.coords t 0).val * 256 + r.val) / 256 = (grid0.coords t 0).val := by omega
  have hi : tblIx = ix1 0 := funext fun a => Fin.ext (by match a with | ⟨0, _⟩ => rfl)
  unfold outsAt0 stored resultArr
  show _ = expertsArr (tbl m 0) (tbl m 1 (ix1 0)) _ _ _ _ ⟨(grid0.coords t 0).val * 256 + r.val, h⟩ j
  unfold expertsArr
  rw [hi]
  by_cases hu : (BitVec.ofNat 32 (grid0.coords t 0).val).toInt < (tbl m 1 (ix1 0) : BitVec 32).toInt
  · rw [if_pos ((cond1_iff _ _).2 hu), if_pos (by dsimp only; rw [hd]; exact hu)]
    refine (pay1_at _ _ _ _ r j).trans ?_
    have ht : (⟨((grid0.coords t 0).val * 256 + r.val) / 256, by omega⟩ : Fin 288) = grid0.coords t 0 := Fin.ext hd
    simp only [ht]
    unfold expertRow
    refine Finset.sum_congr rfl fun k _ => ?_
    refine congrArg₂ (· * ·) (congrArg₂ (fun a b => gate a * b) (Finset.sum_congr rfl fun l _ => ?_) (Finset.sum_congr rfl fun l _ => ?_)) (blk3 m hO 0 t (hB _).1 (hB _).2 k j)
    · exact congrArg₂ (· * ·) (blk0 m hO 0 t hN hu r l h) (blk1 m hO 0 t (hB _).1 (hB _).2 l k)
    · exact congrArg₂ (· * ·) (blk0 m hO 0 t hN hu r l h) (blk2 m hO 0 t (hB _).1 (hB _).2 l k)
  · rw [if_neg (fun e => hu ((cond1_iff _ _).1 e)), if_neg (by dsimp only; rw [hd]; exact hu), pay2_at]

/-- Tables in range: every block's expert the first, one block in use. -/
def plainTables : pre0.Contents (Elt Ideal) := fun j => match j with
  | ⟨0, _⟩ => fun _ => (0#32 : BitVec 32)
  | ⟨1, _⟩ => fun _ => (1#32 : BitVec 32)

/-- Their blocks lie in the arrays. -/
theorem plain_ok : ok0 (F := Ideal) plainTables :=
  ok_of_range plainTables (fun t => (by decide : 0 ≤ (0#32 : BitVec 32).toInt ∧ (0#32 : BitVec 32).toInt < 32)) (by decide : 1 ≤ (1#32 : BitVec 32).toInt)

/-- The result's blocks cover its array, at those tables. -/
theorem plain_covers : ((cfg0 (F := Ideal) ⟨plainTables, plain_ok⟩).win 4).Covers := by decide +kernel

/-- The result's blocks cover its array, at any tables: its blocks do not depend on them. -/
theorem covers4 (hO : Ok m) : ((cfgM m hO).win 4).Covers := plain_covers

/-- The array the launch leaves. -/
theorem final (hO : Ok m) (c : Dev nD) (hB : ∀ t : Fin 288, 0 ≤ (tbl m 0 (ix1 t) : BitVec 32).toInt ∧ (tbl m 0 (ix1 t) : BitVec 32).toInt < 32) (hN : 1 ≤ (tbl m 1 (ix1 0) : BitVec 32).toInt) :
    (dats m hO 0 c).arrAt 4 (cfgM m hO).N = resultArr m c := by
  refine (dats m hO 0 c).arrAt_eq_of_covers 4 _ (covers4 m hO) fun t _ (y : S256x1024.Idx) => ?_
  have ht : (grid0.coords t 0).val < 288 := (grid0.coords t 0).isLt
  have hy : (y 0).val < 256 := (y 0).isLt
  have ey : y = ix2 (y 0) (y 1) := funext fun a => by match a with | ⟨0, _⟩ => rfl | ⟨1, _⟩ => rfl
  refine Eq.trans (b := outsAt0 m hO c t (ix2 (y 0) (y 1))) ?_ ((stored_at m hO c hB hN t (y 0) (y 1) (by omega)).trans ?_)
  · exact congrArg (outsAt0 m hO c t) ey
  · refine congrArg (resultArr m c) (funext fun a => Fin.ext ?_)
    match a with
    | ⟨0, _⟩ =>
      show (grid0.coords t 0).val * 256 + (y 0).val = (BitVec.ofNat 32 (grid0.coords t 0).val).toNat * 256 + 1 * (y 0).val
      rw [WordCmp.toNat_ofNat_of_lt (by omega)]
      omega
    | ⟨1, _⟩ => show (y 1).val = 0 * 1024 + 1 * (y 1).val; omega

/-- The run ends with the result array above, the arguments unchanged. -/
theorem run_value (hO : Ok m) (hB : ∀ t : Fin 288, 0 ≤ (tbl m 0 (ix1 t) : BitVec 32).toInt ∧ (tbl m 0 (ix1 t) : BitVec 32).toInt < 32) (hN : 1 ≤ (tbl m 1 (ix1 0) : BitVec 32).toInt) :
    θ_run defs (onTc (τ := τ) (main (F := Ideal))) ⟨m, fun _ => 0, ρ⟩ (fun r => ∀ c : Dev nD,
      r.2.mem ((c.tc : Thread nD τ).loc main_v0) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 4).trans (final m hO c hB hN), h.2.1 c⟩) (θ_run_and (run_main m ρ hO) (frame m ρ hO))

end Cert.Kernel5Ideal.Gen

end
-- ==== Proof.ExpertsRef.lean ====
module

public import proofs.«01_k».proof.Proof.Gen.Reference5Ideal.Run
public import proofs.«01_k».proof.Proof.ExpertsMath
public import Idealize.ShloMosaic.Lib.WordCmp

/-! # What the reference of the expert call computes -/

@[expose] public section

set_option maxRecDepth 16384

noncomputable section

namespace Cert.Reference5Ideal.Value

open Cert.Reference5Ideal Cert.Reference5Ideal.Gen Idealize.ShloMosaic Idealize.ShloMosaic.TcCoe Idealize.SL.Sem Cert.Layer

variable (m : (ℓ : Loc nD τ sig) → Buf (Elt Ideal) ℓ)

/-- The blocks' weights into the expert's width. -/
def into (B : IVec S288 32) (W : FVec Ideal S32x1024x512 .bf16) : FVec Ideal S288x1024x512 .f32 :=
  Host.gather gather_S32x1024x512_S288x1_S288x1024x512_12_0_n_n_0_1_11024512 (extf .f32 W bitsLt_bf16_f32) (broadcastInDim S288x1 ![0] bcast_S288_S288x1_0 B)
/-- The blocks' weights back from the expert's width. -/
def back (B : IVec S288 32) (W : FVec Ideal S32x512x1024 .bf16) : FVec Ideal S288x512x1024 .f32 :=
  Host.gather gather_S32x512x1024_S288x1_S288x512x1024_12_0_n_n_0_1_15121024 (extf .f32 W bitsLt_bf16_f32) (broadcastInDim S288x1 ![0] bcast_S288_S288x1_0 B)
/-- The blocks' rows projected. -/
def widened (X : FVec Ideal S73728x1024 .f32) (W : FVec Ideal S288x1024x512 .f32) : FVec Ideal S288x256x512 .f32 :=
  Host.dotGeneral dot_S288x256x1024_S288x1024x512_S288x256x512_2_1_1_2_0_0 none (shapeCast _ X shapeCasts_S73728x1024_S288x256x1024) W
/-- The gated product. -/
def gated (g u : FVec Ideal S288x256x512 .f32) : FVec Ideal S288x256x512 .f32 :=
  mulf (mulf g (Host.divf (broadcastInDim S288x256x512 ![] bcast_S_S288x256x512 (constant S_ .f32 0x3F800000#32)) (addf (broadcastInDim S288x256x512 ![] bcast_S_S288x256x512 (constant S_ .f32 0x3F800000#32)) (Host.exp (Host.negf g))))) u
/-- Which elements lie in blocks in use. -/
def inUse (N : IVec S1 32) : IVec S288x256x1024 1 :=
  broadcastInDim S288x256x1024 ![0, 1, 2] bcast_S288x1x1_S288x256x1024_0_1_2 (broadcastInDim S288x1x1 ![0] bcast_S288_S288x1x1_0 (cmpi .slt (iotaInDim S288 32 0) (broadcastInDim S288 ![] bcast_S_S288 (shapeCast _ N shapeCasts_S1_S_))))
/-- The result by blocks. -/
def blocks (p : IVec S288x256x1024 1) (a : FVec Ideal S288x256x512 .f32) (W : FVec Ideal S288x512x1024 .f32) : FVec Ideal S73728x1024 .f32 :=
  shapeCast _ (select p (Host.dotGeneral dot_S288x256x512_S288x512x1024_S288x256x1024_2_1_1_2_0_0 none a W) (broadcastInDim S288x256x1024 ![] bcast_S_S288x256x1024 (constant S_ .f32 0x00000000#32))) shapeCasts_S288x256x1024_S73728x1024

/-- A block's weights are its expert's. -/
theorem into_at (B : IVec S288 32) (W : FVec Ideal S32x1024x512 .bf16) (t : Fin 288) (l : Fin 1024) (k : Fin 512) :
    into B W (ix3 t l k) = W (ix3 (expertOf (B (ix1 t))) l k) := by
  show W _ = W _
  refine congrArg W (funext fun a => Fin.ext ?_)
  match a with
  | ⟨0, _⟩ =>
    show min ((B _).toInt.toNat) 31 + 0 + 0 = min (B (ix1 t)).toInt.toNat 31
    refine congrArg (fun w : BitVec 32 => min w.toInt.toNat 31) (congrArg B (funext fun b => Fin.ext ?_))
    match b with
    | ⟨0, _⟩ => rfl
  | ⟨1, _⟩ => show 0 + 0 + l.val = l.val; omega
  | ⟨2, _⟩ => show 0 + 0 + k.val = k.val; omega
/-- A block's weights are its expert's. -/
theorem back_at (B : IVec S288 32) (W : FVec Ideal S32x512x1024 .bf16) (t : Fin 288) (k : Fin 512) (j : Fin 1024) :
    back B W (ix3 t k j) = W (ix3 (expertOf (B (ix1 t))) k j) := by
  show W _ = W _
  refine congrArg W (funext fun a => Fin.ext ?_)
  match a with
  | ⟨0, _⟩ =>
    show min ((B _).toInt.toNat) 31 + 0 + 0 = min (B (ix1 t)).toInt.toNat 31
    refine congrArg (fun w : BitVec 32 => min w.toInt.toNat 31) (congrArg B (funext fun b => Fin.ext ?_))
    match b with
    | ⟨0, _⟩ => rfl
  | ⟨1, _⟩ => show 0 + 0 + k.val = k.val; omega
  | ⟨2, _⟩ => show 0 + 0 + j.val = j.val; omega
/-- A projected row's element. -/
theorem widened_at (X : FVec Ideal S73728x1024 .f32) (W : FVec Ideal S288x1024x512 .f32) (t : Fin 288) (r : Fin 256) (k : Fin 512) :
    widened X W (ix3 t r k) = ∑ l : Fin 1024, X (ix2 ⟨t.val * 256 + r.val, by omega⟩ l) * W (ix3 t l k) := by
  pointwise [widened]
/-- A gated element. -/
theorem gated_at (g u : FVec Ideal S288x256x512 .f32) (t : Fin 288) (r : Fin 256) (k : Fin 512) :
    gated g u (ix3 t r k) = gate (g (ix3 t r k)) * u (ix3 t r k) := by
  pointwise [gated]
  rfl
/-- An element is in use where its block comes before the number of blocks in use. -/
theorem inUse_at (N : IVec S1 32) (t : Fin 288) (r : Fin 256) (j : Fin 1024) :
    inUse N (ix3 t r j) = BitVec.ofBool (decide ((BitVec.ofNat 32 t.val).toInt < (N (ix1 0)).toInt)) := by
  pointwise [inUse]
  rfl
/-- A result element. -/
theorem blocks_at (p : IVec S288x256x1024 1) (a : FVec Ideal S288x256x512 .f32) (W : FVec Ideal S288x512x1024 .f32) (s : Fin 73728) (j : Fin 1024) :
    blocks p a W (ix2 s j) = if p (ix3 ⟨s.val / 256, by omega⟩ ⟨s.val % 256, by omega⟩ j) = 1#1 then
      ∑ k : Fin 512, a (ix3 ⟨s.val / 256, by omega⟩ ⟨s.val % 256, by omega⟩ k) * W (ix3 ⟨s.val / 256, by omega⟩ k j) else 0 := by
  pointwise [blocks]
  rfl

/-- A result element, from the argument arrays. -/
theorem result_at (B : IVec S288 32) (N : IVec S1 32) (X : FVec Ideal S73728x1024 .f32) (G U : FVec Ideal S32x1024x512 .bf16) (D : FVec Ideal S32x512x1024 .bf16) (s : Fin 73728) (j : Fin 1024) :
    blocks (inUse N) (gated (widened X (into B G)) (widened X (into B U))) (back B D) (ix2 s j) = expertsArr B (N (ix1 0)) X G U D s j := by
  have hs : (⟨s.val / 256 * 256 + s.val % 256, by omega⟩ : Fin 73728) = s := Fin.ext (by show s.val / 256 * 256 + s.val % 256 = s.val; omega)
  rw [blocks_at, inUse_at]
  unfold expertsArr expertRow
  simp only [Idealize.ShloMosaic.WordCmp.ofBool_decide_eq_one_iff]
  refine if_congr Iff.rfl (Finset.sum_congr rfl fun k _ => ?_) rfl
  rw [gated_at, widened_at, widened_at, back_at]
  simp only [into_at, hs]

/-- The reference's run ends with the result array above, the arguments unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v21) = blocks (inUse (m ((c.tc : Thread nD τ).loc main_arg1))) (gated (widened (m ((c.tc : Thread nD τ).loc main_arg2)) (into (m ((c.tc : Thread nD τ).loc main_arg0)) (m ((c.tc : Thread nD τ).loc main_arg3)))) (widened (m ((c.tc : Thread nD τ).loc main_arg2)) (into (m ((c.tc : Thread nD τ).loc main_arg0)) (m ((c.tc : Thread nD τ).loc main_arg4))))) (back (m ((c.tc : Thread nD τ).loc main_arg0)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2⟩) (run m ρ)

end Cert.Reference5Ideal.Value

end
-- ==== Proof.InprojMath.lean ====
module

public import proofs.«01_k».proof.Proof.LayerMath

/-! # The input projection's results, element by element -/

@[expose] public section

set_option maxRecDepth 65536

noncomputable section

namespace Cert.Layer

open Idealize.ShloMosaic

/-- A projected row: the row times the weights. -/
def inRow (x : Fin 1024 → EReal) (w : Fin 1024 → Fin 3352 → EReal) (i : Fin 3352) : EReal := ∑ k : Fin 1024, x k * w k i

/-- A row of 3352 numbers with its columns reordered: queries, recurrence, the rest of the attention, gates, zeros. -/
def moved (f : Fin 3352 → EReal) (j : Fin 3456) : EReal :=
  if h : j.val < 512 then f ⟨j.val, by omega⟩
  else if h : j.val - 512 < 2048 then f ⟨1304 + (j.val - 512), by omega⟩
  else if h : j.val - 512 - 2048 < 768 then f ⟨512 + (j.val - 512 - 2048), by omega⟩
  else if h : j.val - 512 - 2048 - 768 < 24 then f ⟨1280 + (j.val - 512 - 2048 - 768), by omega⟩
  else 0

/-- A row times the reordered weights is the projected row reordered. -/
theorem sum_moved (x : Fin 1024 → EReal) (w : Fin 1024 → Fin 3352 → EReal) (j : Fin 3456) :
    ∑ k : Fin 1024, x k * moved (w k) j = moved (inRow x w) j := by
  unfold moved
  split_ifs <;> simp [inRow]

/-- The columns of the keys and values are the original ones moved together. -/
theorem moved_key (f : Fin 3352 → EReal) (j : Fin 3456) (h0 : 2560 ≤ j.val) (h1 : j.val < 3328) : moved f j = f ⟨j.val - 2048, by omega⟩ := by
  unfold moved
  rw [dif_neg (by omega), dif_neg (by omega), dif_pos (by omega)]
  exact congrArg f (Fin.ext (by show 512 + (j.val - 512 - 2048) = j.val - 2048; omega))

/-- One where a position's block within its tile of eight is `d`, else zero. -/
def mark (s d : ℕ) : EReal := if s / 64 % 8 = d then 1 else 0

/-- A row of ones over rows of zeros. -/
def unit (d : ℕ) : EReal := if d = 0 then 1 else 0

/-- A key followed by its block's mark. -/
def selKey (x : Fin 2 → Fin 16384 → Fin 1024 → EReal) (w : Fin 1024 → Fin 3352 → EReal) (b g : Fin 2) (s : Fin 16384) (d : Fin 128) : EReal :=
  if h : d.val < 64 then inRow (x b s) w ⟨768 + (g.val * 64 + d.val), by omega⟩ else mark s.val (d.val - 64)

/-- A key of the sliding window. -/
def winKey (x : Fin 2 → Fin 16384 → Fin 1024 → EReal) (w : Fin 1024 → Fin 3352 → EReal) (b g : Fin 2) (s : Fin 16384) (d : Fin 64) : EReal :=
  inRow (x b s) w ⟨1024 + (g.val * 64 + d.val), by omega⟩

/-- A value, its coordinates first, followed by a one and zeros. -/
def selVal (x : Fin 2 → Fin 16384 → Fin 1024 → EReal) (w : Fin 1024 → Fin 3352 → EReal) (b g : Fin 2) (d : Fin 80) (s : Fin 16384) : EReal :=
  if h : d.val < 64 then inRow (x b s) w ⟨896 + (g.val * 64 + d.val), by omega⟩ else unit (d.val - 64)

/-- A value of the sliding window, likewise. -/
def winVal (x : Fin 2 → Fin 16384 → Fin 1024 → EReal) (w : Fin 1024 → Fin 3352 → EReal) (b g : Fin 2) (d : Fin 80) (s : Fin 16384) : EReal :=
  if h : d.val < 64 then inRow (x b s) w ⟨1152 + (g.val * 64 + d.val), by omega⟩ else unit (d.val - 64)

/-- Comparing two small words. -/
theorem eq_word : ∀ (a : Fin 16) (d : Fin 64), IntOp.cmpi CmpIPredicate.eq (BitVec.ofNat 32 a.val) (BitVec.ofNat 32 d.val) = if a.val = d.val then 1#1 else 0#1 := by
  decide +kernel

/-- A grid point's first position within its sequence. -/
theorem base_word : ∀ n : Fin 128, Scalar.muli (Scalar.remsi (BitVec.ofNat 32 n.val) 64#32) 256#32 = BitVec.ofNat 32 (n.val % 64 * 256) := by
  decide +kernel

/-- A position's block within its tile, from its low bits. -/
theorem low_word : ∀ s : Fin 16384, IntOp.shrui ArithUnit.vector (IntOp.andi (BitVec.ofNat 32 s.val) 511#32) 6#32 = BitVec.ofNat 32 (s.val / 64 % 8) := by
  decide +kernel

/-- A position's block within its tile, by division. -/
theorem div_word : ∀ s : Fin 16384, IntOp.remsi ArithUnit.host (IntOp.divsi ArithUnit.host (BitVec.ofNat 32 s.val) 64#32) 8#32 = BitVec.ofNat 32 (s.val / 64 % 8) := by
  decide +kernel

/-- The kernel's mark of a position. -/
theorem mark_word (n : Fin 128) (r : Fin 256) (d : Fin 64) :
    Scalar.select (IntOp.cmpi CmpIPredicate.eq
        (IntOp.shrui ArithUnit.vector (IntOp.andi (IntOp.addi (Scalar.muli (Scalar.remsi (BitVec.ofNat 32 n.val) 64#32) 256#32) (BitVec.ofNat 32 r.val)) 511#32) 6#32)
        (BitVec.ofNat 32 d.val)) (1 : EReal) 0 = mark (n.val % 64 * 256 + r.val) d.val := by
  have e : IntOp.addi (BitVec.ofNat 32 (n.val % 64 * 256)) (BitVec.ofNat 32 r.val) = BitVec.ofNat 32 (n.val % 64 * 256 + r.val) := (BitVec.ofNat_add ..).symm
  rw [base_word, e, low_word ⟨n.val % 64 * 256 + r.val, by omega⟩, eq_word ⟨(n.val % 64 * 256 + r.val) / 64 % 8, by omega⟩ d]
  unfold mark
  dsimp only
  split_ifs <;> rfl

/-- The kernel's row of ones. -/
theorem unit_word (d : Fin 16) : Scalar.select (IntOp.cmpi CmpIPredicate.eq (BitVec.ofNat 32 d.val) 0#32) (1 : EReal) 0 = unit d.val := by
  have e := eq_word d 0
  rw [show (BitVec.ofNat 32 (0 : Fin 64).val) = 0#32 from rfl] at e
  rw [e]
  unfold unit
  show Scalar.select (if d.val = 0 then 1#1 else 0#1) (1 : EReal) 0 = _
  split_ifs <;> rfl

end Cert.Layer

end
-- ==== Proof.InprojValue.lean ====
module

public import proofs.«01_k».proof.Proof.Gen.Kernel2Ideal.Value
public import Idealize.ShloMosaic.Lib.Pipeline.ValueKit
public import Idealize.ShloMosaic.Lib.Pointwise
public import proofs.«01_k».proof.Proof.InprojMath
public import Idealize.ShloMosaic.Lib.StableHlo.RunRead
public import Idealize.ShloMosaic.Lib.StableHlo.ReadAt

/-! # What the input projection's launch computes -/

@[expose] public section

set_option maxRecDepth 16384

noncomputable section

namespace Cert.Kernel2Ideal.Gen

open Idealize.ShloMosaic Idealize.ShloMosaic.TcCoe Idealize.SL.Sem Cert.Layer

/-- A block's rows times the weights. -/
theorem pay3_at (v0 : FVec Ideal S256x1024 .f32) (v3 : FVec Ideal S1024x3456 .bf16) (r : Fin 256) (j : Fin 3456) :
    k0_pay3 (F := Ideal) v0 v3 (ix2 r j) = ∑ k : Fin 1024, v0 (ix2 r k) * v3 (ix2 k j) := by
  pointwise [k0_pay3]

/-- The grid's coordinate is its point's number. -/
theorem coord : ∀ t : Fin cfg0.N, (grid0.coords t 0).val = t.val := (by decide +kernel : ∀ t : Fin grid0.N, _)

/-- There are 128 grid points. -/
theorem lt128 (t : Fin cfg0.N) : t.val < 128 := t.isLt

/-- The marks of a grid point's positions. -/
theorem pay4_at (t : Fin cfg0.N) (r : Fin 256) (d : Fin 64) : k0_pay4 (F := Ideal) (grid0.coords t) (ix2 r d) = mark (t.val % 64 * 256 + r.val) d.val := by
  pointwise [k0_pay4]
  rw [coord t]
  exact mark_word ⟨t.val, lt128 t⟩ r d

/-- The row of ones over rows of zeros. -/
theorem pay5_at (d : Fin 16) (r : Fin 256) : k0_pay5 (F := Ideal) (ix2 d r) = unit d.val := by
  pointwise [k0_pay5]
  exact unit_word d

/-- The first head's keys with their marks. -/
theorem pay9_at (i : grid0.Coords) (v0 : FVec Ideal S256x1024 .f32) (v3 : FVec Ideal S1024x3456 .bf16) (r : Fin 256) (d : Fin 128) :
    k0_pay9 (F := Ideal) (k0_pay8 i v0 v3) (ix4 0 0 r d) = if h : d.val < 64 then k0_pay3 (F := Ideal) v0 v3 (ix2 r ⟨2816 + d.val, by omega⟩) else k0_pay4 (F := Ideal) i (ix2 r ⟨d.val - 64, by omega⟩) := by
  pointwise [k0_pay9, k0_pay8]

/-- The second head's keys with their marks. -/
theorem pay13_at (Y : FVec Ideal S256x3456 .f32) (M : FVec Ideal S256x64 .f32) (r : Fin 256) (d : Fin 128) :
    k0_pay13 (F := Ideal) Y M (ix4 0 0 r d) = if h : d.val < 64 then Y (ix2 r ⟨2880 + d.val, by omega⟩) else M (ix2 r ⟨d.val - 64, by omega⟩) := by
  pointwise [k0_pay13]

/-- The first head's keys of the window. -/
theorem pay10_at (Y : FVec Ideal S256x3456 .f32) (r : Fin 256) (d : Fin 64) : k0_pay10 (F := Ideal) Y (ix4 0 0 r d) = Y (ix2 r ⟨3072 + d.val, by omega⟩) := by
  pointwise [k0_pay10]

/-- The second head's keys of the window. -/
theorem pay14_at (Y : FVec Ideal S256x3456 .f32) (r : Fin 256) (d : Fin 64) : k0_pay14 (F := Ideal) Y (ix4 0 0 r d) = Y (ix2 r ⟨3136 + d.val, by omega⟩) := by
  pointwise [k0_pay14]

/-- The first head's values over their ones. -/
theorem pay11_at (v0 : FVec Ideal S256x1024 .f32) (v3 : FVec Ideal S1024x3456 .bf16) (d : Fin 80) (r : Fin 256) :
    k0_pay11 (F := Ideal) (k0_pay5 (F := Ideal)) (k0_pay6 v0 v3) (ix4 0 0 d r)
      = if h : d.val < 64 then k0_pay3 (F := Ideal) v0 v3 (ix2 r ⟨2944 + d.val, by omega⟩) else k0_pay5 (F := Ideal) (ix2 ⟨d.val - 64, by omega⟩ r) := by
  unfold k0_pay6
  generalize k0_pay3 (F := Ideal) v0 v3 = Y
  pointwise [k0_pay11]

/-- The second head's values over their ones. -/
theorem pay1_at (v0 : FVec Ideal S256x1024 .f32) (v3 : FVec Ideal S1024x3456 .bf16) (d : Fin 80) (r : Fin 256) :
    k0_pay1 (F := Ideal) (k0_pay15 (k0_pay5 (F := Ideal)) (k0_pay6 v0 v3)) (ix4 0 0 d r)
      = if h : d.val < 64 then k0_pay3 (F := Ideal) v0 v3 (ix2 r ⟨3008 + d.val, by omega⟩) else k0_pay5 (F := Ideal) (ix2 ⟨d.val - 64, by omega⟩ r) := by
  unfold k0_pay6
  generalize k0_pay3 (F := Ideal) v0 v3 = Y
  pointwise [k0_pay1, k0_pay15]
  refine dite_congr rfl (fun h => congrArg (fun j => Y (ix2 r j)) (Fin.ext ?_)) fun h => rfl
  show 2944 + (64 + d.val) = 3008 + d.val
  omega

/-- The first head's values of the window over their ones. -/
theorem pay12_at (v0 : FVec Ideal S256x1024 .f32) (v3 : FVec Ideal S1024x3456 .bf16) (d : Fin 80) (r : Fin 256) :
    k0_pay12 (F := Ideal) (k0_pay5 (F := Ideal)) (k0_pay7 v0 v3) (ix4 0 0 d r)
      = if h : d.val < 64 then k0_pay3 (F := Ideal) v0 v3 (ix2 r ⟨3200 + d.val, by omega⟩) else k0_pay5 (F := Ideal) (ix2 ⟨d.val - 64, by omega⟩ r) := by
  unfold k0_pay7
  generalize k0_pay3 (F := Ideal) v0 v3 = Y
  pointwise [k0_pay12]

/-- The second head's values of the window over their ones. -/
theorem pay2_at (v0 : FVec Ideal S256x1024 .f32) (v3 : FVec Ideal S1024x3456 .bf16) (d : Fin 80) (r : Fin 256) :
    k0_pay2 (F := Ideal) (k0_pay5 (F := Ideal)) (k0_pay7 v0 v3) (ix4 0 0 d r)
      = if h : d.val < 64 then k0_pay3 (F := Ideal) v0 v3 (ix2 r ⟨3264 + d.val, by omega⟩) else k0_pay5 (F := Ideal) (ix2 ⟨d.val - 64, by omega⟩ r) := by
  unfold k0_pay7
  generalize k0_pay3 (F := Ideal) v0 v3 = Y
  pointwise [k0_pay2]
  refine dite_congr rfl (fun h => congrArg (fun j => Y (ix2 r j)) (Fin.ext ?_)) fun h => rfl
  show 3200 + (64 + d.val) = 3264 + d.val
  omega

variable (m : (ℓ : Loc nD τ sig) → Buf (Elt Ideal) ℓ)

/-- Where each window's block lies. -/
theorem idx : ∀ t : Fin cfg0.N, win0_0.index t = ![t.val, 0] ∧ win0_1.index t = ![0, 0] ∧ win0_2.index t = ![t.val, 0]
    ∧ win0_3.index t = ![t.val / 64, 0, t.val % 64, 0] ∧ win0_4.index t = ![t.val / 64, 0, t.val % 64, 0]
    ∧ win0_5.index t = ![t.val / 64, 0, 0, t.val % 64] ∧ win0_6.index t = ![t.val / 64, 0, 0, t.val % 64] :=
  (by decide +kernel : ∀ t : Fin grid0.N, _)

/-- The rows. -/
abbrev argX (c : Dev nD) : FVec Ideal S2x16384x1024 .f32 := m ((c : Thread nD τ).loc main_arg0)
/-- The weights. -/
abbrev argW (c : Dev nD) : FVec Ideal S1x1024x3352 .f32 := m ((c : Thread nD τ).loc main_arg1)

/-- The rows as a table. -/
abbrev rowsOf (X : FVec Ideal S2x16384x1024 .f32) (b : Fin 2) (s : Fin 16384) (k : Fin 1024) : EReal := X (ix3 b s k)
/-- The weights as a table. -/
abbrev weightsOf (W : FVec Ideal S1x1024x3352 .f32) (k : Fin 1024) (i : Fin 3352) : EReal := W (ix3 0 k i)

/-- The rows the kernel is given are the argument's. -/
theorem V0_at (c : Dev nD) (R : Fin 32768) (C : Fin 1024) : (V m c main_v0 : FVec Ideal S32768x1024 .f32) (ix2 R C)
    = argX m c (ix3 ⟨R.val / 16384, by omega⟩ ⟨R.val % 16384, by omega⟩ C) := by
  after_reads_at

/-- The weights it is given are the argument's, columns reordered. -/
theorem V8_at (c : Dev nD) (R : Fin 1024) (C : Fin 3456) : (V m c main_v8 : FVec Ideal S1024x3456 .bf16) (ix2 R C) = moved (weightsOf (argW m c) R) C := by
  after_reads_at
  unfold moved
  refine dite_congr rfl (fun h => ?_) fun h => dite_congr rfl (fun h => ?_) fun h => dite_congr rfl (fun h => ?_) fun h => dite_congr rfl (fun h => ?_) fun h => ?_
  all_goals after_reads_at

/-- The projected rows, columns reordered. -/
abbrev colsArr (X : FVec Ideal S2x16384x1024 .f32) (W : FVec Ideal S1x1024x3352 .f32) : FVec Ideal S32768x3456 .f32 :=
  fun y => moved (inRow (rowsOf X ⟨(y 0).val / 16384, by have : (y 0).val < 32768 := (y 0).isLt; omega⟩ ⟨(y 0).val % 16384, by omega⟩) (weightsOf W)) (y 1)
/-- The selected attention's keys. -/
abbrev selKeysArr (X : FVec Ideal S2x16384x1024 .f32) (W : FVec Ideal S1x1024x3352 .f32) : FVec Ideal S2x2x16384x128 .bf16 :=
  fun y => selKey (rowsOf X) (weightsOf W) (y 0) (y 1) (y 2) (y 3)
/-- The window's keys. -/
abbrev winKeysArr (X : FVec Ideal S2x16384x1024 .f32) (W : FVec Ideal S1x1024x3352 .f32) : FVec Ideal S2x2x16384x64 .bf16 :=
  fun y => winKey (rowsOf X) (weightsOf W) (y 0) (y 1) (y 2) (y 3)
/-- The selected attention's values. -/
abbrev selValsArr (X : FVec Ideal S2x16384x1024 .f32) (W : FVec Ideal S1x1024x3352 .f32) : FVec Ideal S2x2x80x16384 .bf16 :=
  fun y => selVal (rowsOf X) (weightsOf W) (y 0) (y 1) (y 2) (y 3)
/-- The window's values. -/
abbrev winValsArr (X : FVec Ideal S2x16384x1024 .f32) (W : FVec Ideal S1x1024x3352 .f32) : FVec Ideal S2x2x80x16384 .bf16 :=
  fun y => winVal (rowsOf X) (weightsOf W) (y 0) (y 1) (y 2) (y 3)

/-- A grid point's block of rows. -/
theorem blk0 (c : Dev nD) (t : Fin cfg0.N) (r : Fin 256) (k : Fin 1024) : iblk m c 0 t (ix2 r k)
    = rowsOf (argX m c) ⟨t.val / 64, by have := lt128 t; omega⟩ ⟨t.val % 64 * 256 + r.val, by omega⟩ k := by
  have ht := lt128 t
  have e : (win0_0.blk t).view.emb (ix2 r k) = ix2 ⟨t.val * 256 + r.val, by omega⟩ k := by blk_ext [idx t]
  refine (congrArg (V m c main_v0 : FVec Ideal S32768x1024 .f32) e).trans ((V0_at m c _ k).trans ?_)
  exact congrArg₂ (fun x y => argX m c (ix3 x y k)) (Fin.ext (by show (t.val * 256 + r.val) / 16384 = t.val / 64; omega)) (Fin.ext (by show (t.val * 256 + r.val) % 16384 = t.val % 64 * 256 + r.val; omega))

/-- The weights, whole at each grid point. -/
theorem blk1 (c : Dev nD) (t : Fin cfg0.N) (k : Fin 1024) (j : Fin 3456) : iblk m c 1 t (ix2 k j) = moved (weightsOf (argW m c) k) j := by
  have ht := lt128 t
  have e : (win0_1.blk t).view.emb (ix2 k j) = ix2 k j := by blk_ext [idx t]
  exact (congrArg (V m c main_v8 : FVec Ideal S1024x3456 .bf16) e).trans (V8_at m c k j)

/-- A grid point's projected rows. -/
theorem rows_at (c : Dev nD) (t : Fin cfg0.N) (r : Fin 256) (j : Fin 3456) : k0_pay3 (F := Ideal) (iblk m c 0 t) (iblk m c 1 t) (ix2 r j)
    = moved (inRow (rowsOf (argX m c) ⟨t.val / 64, by have := lt128 t; omega⟩ ⟨t.val % 64 * 256 + r.val, by omega⟩) (weightsOf (argW m c))) j := by
  refine (pay3_at ..).trans (Eq.trans ?_ (sum_moved ..))
  exact Finset.sum_congr rfl fun k _ => congrArg₂ (· * ·) (blk0 m c t r k) (blk1 m c t k j)

/-- A column of a grid point's keys and values. -/
theorem key_at (c : Dev nD) (t : Fin cfg0.N) (r : Fin 256) (j : Fin 3456) (i : Fin 3352) (h0 : 2560 ≤ j.val) (h1 : j.val < 3328) (hi : j.val = i.val + 2048) :
    k0_pay3 (F := Ideal) (iblk m c 0 t) (iblk m c 1 t) (ix2 r j)
    = inRow (rowsOf (argX m c) ⟨t.val / 64, by have := lt128 t; omega⟩ ⟨t.val % 64 * 256 + r.val, by omega⟩) (weightsOf (argW m c)) i := by
  rw [rows_at, moved_key _ j h0 h1]
  exact congrArg _ (Fin.ext (by show j.val - 2048 = i.val; omega))

/-- The projected rows the launch leaves. -/
theorem final2 (c : Dev nD) : (dats m 0 c).arrAt 2 (cfgs 0).N = colsArr (argX m c) (argW m c) := by
  refine (dats m 0 c).arrAt_eq_of_covers 2 _ (by decide +kernel) fun t _ y => ?_
  blk_simp
  rw [after0_2]
  frame_out
  idx_vars y
  have ht := lt128 t
  have e : (win0_2.blk t).view.emb (ix2 y0 y1) = ix2 ⟨t.val * 256 + y0.val, by have : y0.val < 256 := y0.isLt; omega⟩ y1 := by blk_ext [idx t]
  rw [e]
  refine (rows_at ..).trans ?_
  have hy : y0.val < 256 := y0.isLt
  exact congrArg₂ (fun a b => moved (inRow (rowsOf (argX m c) a b) (weightsOf (argW m c))) y1) (Fin.ext (by show t.val / 64 = (t.val * 256 + y0.val) / 16384; omega)) (Fin.ext (by show t.val % 64 * 256 + y0.val = (t.val * 256 + y0.val) % 16384; omega))

/-- The selected attention's keys the launch leaves. -/
theorem final3 (c : Dev nD) : (dats m 0 c).arrAt 3 (cfgs 0).N = selKeysArr (argX m c) (argW m c) := by
  refine (dats m 0 c).arrAt_eq_of_covers 3 _ (by decide +kernel) fun t _ y => ?_
  blk_simp
  rw [after0_3]
  unfold_out out0_3
  idx_vars y
  have ht := lt128 t
  have hz : y0 = 0 := Subsingleton.elim _ _
  subst hz
  have e : (win0_3.blk t).view.emb (ix4 0 y1 y2 y3) = ix4 ⟨t.val / 64, by omega⟩ y1 ⟨t.val % 64 * 256 + y2.val, by have : y2.val < 256 := y2.isLt; omega⟩ y3 := by blk_ext [idx t]
  rw [e]
  simp (disch := decide) only [View.ld_unit_lit']
  canon_tiles x h using cover0_3 ..
  · idx_vars x
    have hx0 : x0 = 0 := Subsingleton.elim _ _
    have hx1 : x1 = 0 := Subsingleton.elim _ _
    subst hx0 hx1
    have hy1 : y1 = 1 := Fin.ext h1
    have hy2 : y2 = x2 := Fin.ext h2
    have hy3 : y3 = x3 := Fin.ext h3
    subst hy1 hy2 hy3
    refine (pay13_at ..).trans ?_
    exact dite_congr rfl (fun h => key_at m c t y2 _ _ (by show 2560 ≤ 2880 + y3.val; omega) (by have h : y3.val < 64 := h; show 2880 + y3.val < 3328; omega) (by show 2880 + y3.val = 768 + (1 * 64 + y3.val) + 2048; omega)) fun h => pay4_at t y2 _
  · idx_vars x
    have hx0 : x0 = 0 := Subsingleton.elim _ _
    have hx1 : x1 = 0 := Subsingleton.elim _ _
    subst hx0 hx1
    have hy1 : y1 = 0 := Fin.ext h1
    have hy2 : y2 = x2 := Fin.ext h2
    have hy3 : y3 = x3 := Fin.ext h3
    subst hy1 hy2 hy3
    refine (pay9_at ..).trans ?_
    exact dite_congr rfl (fun h => key_at m c t y2 _ _ (by show 2560 ≤ 2816 + y3.val; omega) (by have h : y3.val < 64 := h; show 2816 + y3.val < 3328; omega) (by show 2816 + y3.val = 768 + (0 * 64 + y3.val) + 2048; omega)) fun h => pay4_at t y2 _

/-- The window's keys the launch leaves. -/
theorem final4 (c : Dev nD) : (dats m 0 c).arrAt 4 (cfgs 0).N = winKeysArr (argX m c) (argW m c) := by
  refine (dats m 0 c).arrAt_eq_of_covers 4 _ (by decide +kernel) fun t _ y => ?_
  blk_simp
  rw [after0_4]
  unfold_out out0_4
  idx_vars y
  have ht := lt128 t
  have hz : y0 = 0 := Subsingleton.elim _ _
  subst hz
  have e : (win0_4.blk t).view.emb (ix4 0 y1 y2 y3) = ix4 ⟨t.val / 64, by omega⟩ y1 ⟨t.val % 64 * 256 + y2.val, by have : y2.val < 256 := y2.isLt; omega⟩ y3 := by blk_ext [idx t]
  rw [e]
  simp (disch := decide) only [View.ld_unit_lit']
  canon_tiles x h using cover0_4 ..
  · idx_vars x
    have hx0 : x0 = 0 := Subsingleton.elim _ _
    have hx1 : x1 = 0 := Subsingleton.elim _ _
    subst hx0 hx1
    have hy1 : y1 = 1 := Fin.ext h1
    have hy2 : y2 = x2 := Fin.ext h2
    have hy3 : y3 = x3 := Fin.ext h3
    subst hy1 hy2 hy3
    refine (pay14_at ..).trans ?_
    exact key_at m c t y2 _ _ (by show 2560 ≤ 3136 + y3.val; omega) (by have : y3.val < 64 := y3.isLt; show 3136 + y3.val < 3328; omega) (by show 3136 + y3.val = 1024 + (1 * 64 + y3.val) + 2048; omega)
  · idx_vars x
    have hx0 : x0 = 0 := Subsingleton.elim _ _
    have hx1 : x1 = 0 := Subsingleton.elim _ _
    subst hx0 hx1
    have hy1 : y1 = 0 := Fin.ext h1
    have hy2 : y2 = x2 := Fin.ext h2
    have hy3 : y3 = x3 := Fin.ext h3
    subst hy1 hy2 hy3
    refine (pay10_at ..).trans ?_
    exact key_at m c t y2 _ _ (by show 2560 ≤ 3072 + y3.val; omega) (by have : y3.val < 64 := y3.isLt; show 3072 + y3.val < 3328; omega) (by show 3072 + y3.val = 1024 + (0 * 64 + y3.val) + 2048; omega)

/-- The selected attention's values the launch leaves. -/
theorem final5 (c : Dev nD) : (dats m 0 c).arrAt 5 (cfgs 0).N = selValsArr (argX m c) (argW m c) := by
  refine (dats m 0 c).arrAt_eq_of_covers 5 _ (by decide +kernel) fun t _ y => ?_
  blk_simp
  rw [after0_5]
  unfold_out out0_5
  idx_vars y
  have ht := lt128 t
  have hz : y0 = 0 := Subsingleton.elim _ _
  subst hz
  have e : (win0_5.blk t).view.emb (ix4 0 y1 y2 y3) = ix4 ⟨t.val / 64, by omega⟩ y1 y2 ⟨t.val % 64 * 256 + y3.val, by have : y3.val < 256 := y3.isLt; omega⟩ := by blk_ext [idx t]
  rw [e]
  simp (disch := decide) only [View.ld_unit_lit']
  canon_tiles x h using cover0_5 ..
  · idx_vars x
    have hx0 : x0 = 0 := Subsingleton.elim _ _
    have hx1 : x1 = 0 := Subsingleton.elim _ _
    subst hx0 hx1
    have hy1 : y1 = 1 := Fin.ext h1
    have hy2 : y2 = x2 := Fin.ext h2
    have hy3 : y3 = x3 := Fin.ext h3
    subst hy1 hy2 hy3
    refine (pay1_at ..).trans ?_
    exact dite_congr rfl (fun h => key_at m c t y3 _ _ (by show 2560 ≤ 3008 + y2.val; omega) (by have h : y2.val < 64 := h; show 3008 + y2.val < 3328; omega) (by show 3008 + y2.val = 896 + (1 * 64 + y2.val) + 2048; omega)) fun h => pay5_at _ y3
  · idx_vars x
    have hx0 : x0 = 0 := Subsingleton.elim _ _
    have hx1 : x1 = 0 := Subsingleton.elim _ _
    subst hx0 hx1
    have hy1 : y1 = 0 := Fin.ext h1
    have hy2 : y2 = x2 := Fin.ext h2
    have hy3 : y3 = x3 := Fin.ext h3
    subst hy1 hy2 hy3
    refine (pay11_at ..).trans ?_
    exact dite_congr rfl (fun h => key_at m c t y3 _ _ (by show 2560 ≤ 2944 + y2.val; omega) (by have h : y2.val < 64 := h; show 2944 + y2.val < 3328; omega) (by show 2944 + y2.val = 896 + (0 * 64 + y2.val) + 2048; omega)) fun h => pay5_at _ y3

/-- The window's values the launch leaves. -/
theorem final6 (c : Dev nD) : (dats m 0 c).arrAt 6 (cfgs 0).N = winValsArr (argX m c) (argW m c) := by
  refine (dats m 0 c).arrAt_eq_of_covers 6 _ (by decide +kernel) fun t _ y => ?_
  blk_simp
  rw [after0_6]
  unfold_out out0_6
  idx_vars y
  have ht := lt128 t
  have hz : y0 = 0 := Subsingleton.elim _ _
  subst hz
  have e : (win0_6.blk t).view.emb (ix4 0 y1 y2 y3) = ix4 ⟨t.val / 64, by omega⟩ y1 y2 ⟨t.val % 64 * 256 + y3.val, by have : y3.val < 256 := y3.isLt; omega⟩ := by blk_ext [idx t]
  rw [e]
  simp (disch := decide) only [View.ld_unit_lit']
  canon_tiles x h using cover0_6 ..
  · idx_vars x
    have hx0 : x0 = 0 := Subsingleton.elim _ _
    have hx1 : x1 = 0 := Subsingleton.elim _ _
    subst hx0 hx1
    have hy1 : y1 = 1 := Fin.ext h1
    have hy2 : y2 = x2 := Fin.ext h2
    have hy3 : y3 = x3 := Fin.ext h3
    subst hy1 hy2 hy3
    refine (pay2_at ..).trans ?_
    exact dite_congr rfl (fun h => key_at m c t y3 _ _ (by show 2560 ≤ 3264 + y2.val; omega) (by have h : y2.val < 64 := h; show 3264 + y2.val < 3328; omega) (by show 3264 + y2.val = 1152 + (1 * 64 + y2.val) + 2048; omega)) fun h => pay5_at _ y3
  · idx_vars x
    have hx0 : x0 = 0 := Subsingleton.elim _ _
    have hx1 : x1 = 0 := Subsingleton.elim _ _
    subst hx0 hx1
    have hy1 : y1 = 0 := Fin.ext h1
    have hy2 : y2 = x2 := Fin.ext h2
    have hy3 : y3 = x3 := Fin.ext h3
    subst hy1 hy2 hy3
    refine (pay12_at ..).trans ?_
    exact dite_congr rfl (fun h => key_at m c t y3 _ _ (by show 2560 ≤ 3200 + y2.val; omega) (by have h : y2.val < 64 := h; show 3200 + y2.val < 3328; omega) (by show 3200 + y2.val = 1152 + (0 * 64 + y2.val) + 2048; omega)) fun h => pay5_at _ y3

/-- The run ends with the rows projected and the keys and values laid out, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v9_0) = colsArr (argX m c) (argW m c)
      ∧ r.2.mem ((c.tc : Thread nD τ).loc main_v9_1) = selKeysArr (argX m c) (argW m c)
      ∧ r.2.mem ((c.tc : Thread nD τ).loc main_v9_2) = winKeysArr (argX m c) (argW m c)
      ∧ r.2.mem ((c.tc : Thread nD τ).loc main_v9_3) = selValsArr (argX m c) (argW m c)
      ∧ r.2.mem ((c.tc : Thread nD τ).loc main_v9_4) = winValsArr (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final2 m c), ((h.1 c).1 3).trans (final3 m c), ((h.1 c).1 4).trans (final4 m c), ((h.1 c).1 5).trans (final5 m c), ((h.1 c).1 6).trans (final6 m c), h.2.1 c⟩) (θ_run_and (run_main m ρ) (frame m ρ))

end Cert.Kernel2Ideal.Gen

end
-- ==== Proof.InprojRef.lean ====
module

public import proofs.«01_k».proof.Proof.Gen.Reference2Ideal.Run
public import proofs.«01_k».proof.Proof.InprojMath

/-! # What the reference of the input projection computes -/

@[expose] public section

set_option maxRecDepth 16384

noncomputable section

namespace Cert.Reference2Ideal.Value

open Cert.Reference2Ideal Cert.Reference2Ideal.Gen Idealize.ShloMosaic Idealize.ShloMosaic.TcCoe Idealize.SL.Sem Cert.Layer

/-- The projected rows. -/
def rowsR (X : FVec Ideal S2x16384x1024 .f32) (W : FVec Ideal S1x1024x3352 .f32) : FVec Ideal S2x16384x3352 .f32 :=
  (Host.dotGeneral dot_S2x16384x1024_S1024x3352_S2x16384x3352_2_0_01_1_n_n none X (shapeCast _ W shapeCasts_S1x1024x3352_S1024x3352))
/-- The marks of the positions' blocks. -/
def marks : FVec Ideal S2x2x16384x64 .f32 :=
  (broadcastInDim S2x2x16384x64 ![2, 3] bcast_S16384x64_S2x2x16384x64_2_3 (uitofp .f32 (cmpi .eq (broadcastInDim S16384x64 ![0, 1] bcast_S16384x1_S16384x64_0_1 (broadcastInDim S16384x1 ![0] bcast_S16384_S16384x1_0 (Host.remsi (Host.divsi (iotaInDim S16384 32 0) (broadcastInDim S16384 ![] bcast_S_S16384 (constantI S_ 32 64#32))) (broadcastInDim S16384 ![] bcast_S_S16384 (constantI S_ 32 8#32))))) (broadcastInDim S16384x64 ![0, 1] bcast_S1x64_S16384x64_0_1 (broadcastInDim S1x64 ![1] bcast_S64_S1x64_1 (iotaInDim S64 32 0))))))
/-- A row of ones over rows of zeros. -/
def unitRows : FVec Ideal S2x2x16x16384 .f32 :=
  (broadcastInDim S2x2x16x16384 ![2, 3] bcast_S16x1_S2x2x16x16384_2_3 (uitofp .f32 (cmpi .eq (broadcastInDim S16x1 ![0] bcast_S16_S16x1_0 (iotaInDim S16 32 0)) (broadcastInDim S16x1 ![] bcast_S_S16x1 (constantI S_ 32 0#32)))))
/-- The projected rows, columns reordered. -/
def colsR (H : FVec Ideal S2x16384x3352 .f32) : FVec Ideal S32768x3456 .f32 :=
  shapeCast _ ((concatenate S2x16384x3456 2 [⟨S2x16384x512, ((extractStridedSlice S2x16384x512 ![0, 0, 0] H slices_S2x16384x3352_S2x16384x512_0_0_0) : FVec Ideal S2x16384x512 .f32)⟩, ⟨S2x16384x2048, ((extractStridedSlice S2x16384x2048 ![0, 0, 1304] H slices_S2x16384x3352_S2x16384x2048_0_0_1304) : FVec Ideal S2x16384x2048 .f32)⟩, ⟨S2x16384x768, ((extractStridedSlice S2x16384x768 ![0, 0, 512] H slices_S2x16384x3352_S2x16384x768_0_0_512) : FVec Ideal S2x16384x768 .f32)⟩, ⟨S2x16384x24, ((extractStridedSlice S2x16384x24 ![0, 0, 1280] H slices_S2x16384x3352_S2x16384x24_0_0_1280) : FVec Ideal S2x16384x24 .f32)⟩, ⟨S2x16384x104, ((broadcastInDim S2x16384x104 ![] bcast_S_S2x16384x104 (constant S_ .f32 0x00000000#32)) : FVec Ideal S2x16384x104 .f32)⟩] concatenates_S2x16384x512_S2x16384x2048_S2x16384x768_S2x16384x24_S2x16384x104_S2x16384x3456_d2 : FVec Ideal S2x16384x3456 .f32)) shapeCasts_S2x16384x3456_S32768x3456
/-- The selected attention's keys. -/
def selKeysR (H : FVec Ideal S2x16384x3352 .f32) : FVec Ideal S2x2x16384x128 .bf16 :=
  truncf .bf16 (concatenate S2x2x16384x128 3 [⟨S2x2x16384x64, (transpose S2x2x16384x64 [0, 2, 1, 3] (shapeCast _ (extractStridedSlice S2x16384x128 ![0, 0, 768] H slices_S2x16384x3352_S2x16384x128_0_0_768) shapeCasts_S2x16384x128_S2x16384x2x64) transposes_S2x16384x2x64_S2x2x16384x64_0_2_1_3)⟩, ⟨S2x2x16384x64, marks⟩] concatenates_S2x2x16384x64_S2x2x16384x64_S2x2x16384x128_d3) bitsLt_bf16_f32
/-- The window's keys. -/
def winKeysR (H : FVec Ideal S2x16384x3352 .f32) : FVec Ideal S2x2x16384x64 .bf16 :=
  truncf .bf16 (transpose S2x2x16384x64 [0, 2, 1, 3] (shapeCast _ (extractStridedSlice S2x16384x128 ![0, 0, 1024] H slices_S2x16384x3352_S2x16384x128_0_0_1024) shapeCasts_S2x16384x128_S2x16384x2x64) transposes_S2x16384x2x64_S2x2x16384x64_0_2_1_3) bitsLt_bf16_f32
/-- The selected attention's values. -/
def selValsR (H : FVec Ideal S2x16384x3352 .f32) : FVec Ideal S2x2x80x16384 .bf16 :=
  truncf .bf16 (concatenate S2x2x80x16384 2 [⟨S2x2x64x16384, (transpose S2x2x64x16384 [0, 1, 3, 2] (transpose S2x2x16384x64 [0, 2, 1, 3] (shapeCast _ (extractStridedSlice S2x16384x128 ![0, 0, 896] H slices_S2x16384x3352_S2x16384x128_0_0_896) shapeCasts_S2x16384x128_S2x16384x2x64) transposes_S2x16384x2x64_S2x2x16384x64_0_2_1_3) transposes_S2x2x16384x64_S2x2x64x16384_0_1_3_2)⟩, ⟨S2x2x16x16384, unitRows⟩] concatenates_S2x2x64x16384_S2x2x16x16384_S2x2x80x16384_d2) bitsLt_bf16_f32
/-- The window's values. -/
def winValsR (H : FVec Ideal S2x16384x3352 .f32) : FVec Ideal S2x2x80x16384 .bf16 :=
  truncf .bf16 (concatenate S2x2x80x16384 2 [⟨S2x2x64x16384, (transpose S2x2x64x16384 [0, 1, 3, 2] (transpose S2x2x16384x64 [0, 2, 1, 3] (shapeCast _ (extractStridedSlice S2x16384x128 ![0, 0, 1152] H slices_S2x16384x3352_S2x16384x128_0_0_1152) shapeCasts_S2x16384x128_S2x16384x2x64) transposes_S2x16384x2x64_S2x2x16384x64_0_2_1_3) transposes_S2x2x16384x64_S2x2x64x16384_0_1_3_2)⟩, ⟨S2x2x16x16384, unitRows⟩] concatenates_S2x2x64x16384_S2x2x16x16384_S2x2x80x16384_d2) bitsLt_bf16_f32

/-- A projected element. -/
theorem rowsR_at (X : FVec Ideal S2x16384x1024 .f32) (W : FVec Ideal S1x1024x3352 .f32) (b : Fin 2) (s : Fin 16384) (i : Fin 3352) :
    rowsR X W (ix3 b s i) = inRow (fun k => X (ix3 b s k)) (fun k i => W (ix3 0 k i)) i := by
  pointwise [rowsR]
  rfl

/-- A comparison's word as a number. -/
theorem num_word (p : Prop) [Decidable p] : (FloatOps.uitofp (F := Ideal) .f32 (if p then 1#1 else 0#1 : BitVec 1) : EReal) = if p then 1 else 0 := by
  show ((((if p then 1#1 else 0#1 : BitVec 1).toNat : ℝ)) : EReal) = _
  split_ifs <;> simp

/-- A mark. -/
theorem marks_at (b g : Fin 2) (s : Fin 16384) (d : Fin 64) : marks (ix4 b g s d) = mark s.val d.val := by
  pointwise [marks]
  rw [div_word s, eq_word ⟨s.val / 64 % 8, by omega⟩ d]
  exact num_word _

/-- A row of ones over rows of zeros, at an index. -/
theorem unitRows_at (b g : Fin 2) (d : Fin 16) (s : Fin 16384) : unitRows (ix4 b g d s) = unit d.val := by
  pointwise [unitRows]
  have e := eq_word d 0
  rw [show (BitVec.ofNat 32 (0 : Fin 64).val) = 0#32 from rfl] at e
  rw [e]
  exact num_word _

/-- A projected element, columns reordered. -/
theorem colsR_at (H : FVec Ideal S2x16384x3352 .f32) (R : Fin 32768) (j : Fin 3456) :
    colsR H (ix2 R j) = moved (fun i => H (ix3 ⟨R.val / 16384, by omega⟩ ⟨R.val % 16384, by omega⟩ i)) j := by
  pointwise [colsR]
  rfl

/-- A key of the selected attention. -/
theorem selKeysR_at (X : FVec Ideal S2x16384x1024 .f32) (W : FVec Ideal S1x1024x3352 .f32) (b g : Fin 2) (s : Fin 16384) (d : Fin 128) :
    selKeysR (rowsR X W) (ix4 b g s d) = selKey (fun b s k => X (ix3 b s k)) (fun k i => W (ix3 0 k i)) b g s d := by
  unfold selKey
  simp only [← rowsR_at]
  generalize rowsR X W = H
  pointwise [selKeysR]
  exact dite_congr rfl (fun h => rfl) fun h => marks_at b g s _

/-- A key of the window. -/
theorem winKeysR_at (X : FVec Ideal S2x16384x1024 .f32) (W : FVec Ideal S1x1024x3352 .f32) (b g : Fin 2) (s : Fin 16384) (d : Fin 64) :
    winKeysR (rowsR X W) (ix4 b g s d) = winKey (fun b s k => X (ix3 b s k)) (fun k i => W (ix3 0 k i)) b g s d := by
  unfold winKey
  simp only [← rowsR_at]
  generalize rowsR X W = H
  pointwise [winKeysR]

/-- A value of the selected attention. -/
theorem selValsR_at (X : FVec Ideal S2x16384x1024 .f32) (W : FVec Ideal S1x1024x3352 .f32) (b g : Fin 2) (d : Fin 80) (s : Fin 16384) :
    selValsR (rowsR X W) (ix4 b g d s) = selVal (fun b s k => X (ix3 b s k)) (fun k i => W (ix3 0 k i)) b g d s := by
  unfold selVal
  simp only [← rowsR_at]
  generalize rowsR X W = H
  pointwise [selValsR]
  exact dite_congr rfl (fun h => rfl) fun h => unitRows_at b g _ s

/-- A value of the window. -/
theorem winValsR_at (X : FVec Ideal S2x16384x1024 .f32) (W : FVec Ideal S1x1024x3352 .f32) (b g : Fin 2) (d : Fin 80) (s : Fin 16384) :
    winValsR (rowsR X W) (ix4 b g d s) = winVal (fun b s k => X (ix3 b s k)) (fun k i => W (ix3 0 k i)) b g d s := by
  unfold winVal
  simp only [← rowsR_at]
  generalize rowsR X W = H
  pointwise [winValsR]
  exact dite_congr rfl (fun h => rfl) fun h => unitRows_at b g _ s

variable (m : (ℓ : Loc nD τ sig) → Buf (Elt Ideal) ℓ)

/-- The rows. -/
abbrev argX (c : Dev nD) : FVec Ideal S2x16384x1024 .f32 := m ((c : Thread nD τ).loc main_arg0)
/-- The weights. -/
abbrev argW (c : Dev nD) : FVec Ideal S1x1024x3352 .f32 := m ((c : Thread nD τ).loc main_arg1)

/-- The run ends with the results made of these steps, the arguments unchanged. -/
theorem run_steps (ρ : Dev nD → PrngReg) : θ_run defs (onTc (τ := τ) (main (F := Ideal))) ⟨m, fun _ => 0, ρ⟩ (fun r => ∀ c : Dev nD,
      r.2.mem ((c.tc : Thread nD τ).loc main_v48) = colsR (rowsR (argX m c) (argW m c))
      ∧ r.2.mem ((c.tc : Thread nD τ).loc main_v44) = selKeysR (rowsR (argX m c) (argW m c))
      ∧ r.2.mem ((c.tc : Thread nD τ).loc main_v45) = winKeysR (rowsR (argX m c) (argW m c))
      ∧ r.2.mem ((c.tc : Thread nD τ).loc main_v46) = selValsR (rowsR (argX m c) (argW m c))
      ∧ r.2.mem ((c.tc : Thread nD τ).loc main_v47) = winValsR (rowsR (argX m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run m ρ

end Cert.Reference2Ideal.Value

end
-- ==== Proof.XattnValue.lean ====
module

public import proofs.«01_k».proof.Proof.Gen.Kernel3Ideal.Frame
public import Idealize.ShloMosaic.Lib.Pipeline.ValueKit
public import Idealize.ShloMosaic.Lib.Pointwise
public import proofs.«01_k».proof.Proof.LayerMath
public import Idealize.ShloMosaic.Lib.StableHlo.RunRead
public import Idealize.ShloMosaic.Lib.StableHlo.ReadAt

/-! # What the launch of the attention over the memory computes -/

@[expose] public section

set_option maxRecDepth 16384

noncomputable section

namespace Cert.Kernel3Ideal.Gen

open Idealize.ShloMosaic Idealize.ShloMosaic.TcCoe Idealize.SL.Sem Cert.Layer

/-- The projected rows. -/
theorem pay3_at (v0 : FVec Ideal S1x512x1024 .f32) (v3 : FVec Ideal S1024x1024 .bf16) (r : Fin 512) (j : Fin 1024) :
    k0_pay3 (F := Ideal) v0 v3 (ix2 r j) = proj (fun k => v0 (ix3 0 r k)) (fun k j => v3 (ix2 k j)) j := by
  pointwise [k0_pay3, k0_pay2]
  rfl

/-- The scores of a head against a block of keys, from the queries the head reads. -/
abbrev scoreBlk (q : Fin 256 → EReal) (K : FVec Ideal S1x256x256 .bf16) (t : Fin 256) : EReal :=
  (∑ d : Fin 256, q d * K (ix3 0 d t)) * Ideal.ofBits FTy.f32 0x3D800000#32

/-- The first head. -/
theorem pay4_at (v0 : FVec Ideal S1x512x1024 .f32) (v3 : FVec Ideal S1024x1024 .bf16) (v8 v25 : FVec Ideal S1x256x256 .bf16) (r : Fin 512) (d : Fin 256) :
    k0_pay4 (F := Ideal) v0 v3 v8 v25 (ix2 r d)
      = attend (scoreBlk (fun d => k0_pay3 (F := Ideal) v0 v3 (ix2 r ⟨d.val, by omega⟩)) v8) (fun t => v25 (ix3 0 t d)) := by
  unfold k0_pay4
  generalize k0_pay3 (F := Ideal) v0 v3 = Q
  pointwise
  rfl

/-- The second head. -/
theorem pay6_at (v0 : FVec Ideal S1x512x1024 .f32) (v3 : FVec Ideal S1024x1024 .bf16) (v30 v47 : FVec Ideal S1x256x256 .bf16) (r : Fin 512) (d : Fin 256) :
    k0_pay6 (F := Ideal) (k0_pay5 v0 v3 v30) v47 (ix2 r d)
      = attend (scoreBlk (fun d => k0_pay3 (F := Ideal) v0 v3 (ix2 r ⟨256 + d.val, by omega⟩)) v30) (fun t => v47 (ix3 0 t d)) := by
  unfold k0_pay6 k0_pay5
  generalize k0_pay3 (F := Ideal) v0 v3 = Q
  pointwise
  rfl

/-- The third head. -/
theorem pay7_at (Q : FVec Ideal S512x1024 .f32) (v52 v69 : FVec Ideal S1x256x256 .bf16) (r : Fin 512) (d : Fin 256) :
    k0_pay7 (F := Ideal) Q v52 v69 (ix2 r d)
      = attend (scoreBlk (fun d => Q (ix2 r ⟨512 + d.val, by omega⟩)) v52) (fun t => v69 (ix3 0 t d)) := by
  pointwise [k0_pay7]
  rfl

/-- The queries of the last head. -/
theorem pay8_at (Q : FVec Ideal S512x1024 .f32) (r : Fin 512) (d : Fin 256) :
    k0_pay8 (F := Ideal) Q (ix2 r d) = Q (ix2 r ⟨768 + d.val, by omega⟩) := by
  pointwise [k0_pay8]

/-- The row before the normalisation, the first three heads and the last one's queries given. -/
abbrev rowBlk (v1 : FVec Ideal S512x1024 .f32) (v27 v49 v71 : FVec Ideal S512x256 .f32) (v73 : FVec Ideal S512x256 .bf16) (v74 v91 : FVec Ideal S1x256x256 .bf16) (v96 : FVec Ideal S1024x1024 .bf16) (r : Fin 512) (j : Fin 1024) : EReal :=
  alpha * v1 (ix2 r j) + ∑ k : Fin 1024, cat (fun d => v27 (ix2 r d)) (fun d => v49 (ix2 r d)) (fun d => v71 (ix2 r d))
    (fun d => attend (scoreBlk (fun d => v73 (ix2 r d)) v74) (fun t => v91 (ix3 0 t d))) k * v96 (ix2 k j)

/-- That row less its mean. -/
theorem pay11_at (v1 : FVec Ideal S512x1024 .f32) (v27 v49 v71 : FVec Ideal S512x256 .f32) (v73 : FVec Ideal S512x256 .bf16) (v74 v91 : FVec Ideal S1x256x256 .bf16) (v96 : FVec Ideal S1024x1024 .bf16) (r : Fin 512) (j : Fin 1024) :
    k0_pay11 (F := Ideal) v1 v27 v49 v71 v73 v74 v91 v96 (ix2 r j)
      = rowBlk v1 v27 v49 v71 v73 v74 v91 v96 r j - Ideal.div (∑ x, rowBlk v1 v27 v49 v71 v73 v74 v91 v96 r x) (Ideal.ofBits FTy.f32 0x44800000#32) := by
  pointwise [k0_pay11]
  rfl

/-- The stored row over its deviation, with gain and bias. -/
theorem pay1_at (C : FVec Ideal S512x1024 .f32) (G B : FVec Ideal S1x1024 .f32) (r : Fin 512) (j : Fin 1024) :
    k0_pay1 (F := Ideal) (k0_pay9 G) (k0_pay10 B) C (mulf C C) (ix3 0 r j)
      = C (ix2 r j) * Ideal.rsqrt (Ideal.div (∑ x, C (ix2 r x) * C (ix2 r x)) (Ideal.ofBits FTy.f32 0x44800000#32)
        + Ideal.ofBits FTy.f32 0x3727C5AC#32) * G (ix2 0 j) + B (ix2 0 j) := by
  pointwise [k0_pay1, k0_pay9, k0_pay10]

/-- The stored row is the normalisation of the row before it. -/
theorem stored_at (v1 : FVec Ideal S512x1024 .f32) (v27 v49 v71 : FVec Ideal S512x256 .f32) (v73 : FVec Ideal S512x256 .bf16) (v74 v91 : FVec Ideal S1x256x256 .bf16) (v96 : FVec Ideal S1024x1024 .bf16) (G B : FVec Ideal S1x1024 .f32) (r : Fin 512) (j : Fin 1024) :
    k0_pay1 (F := Ideal) (k0_pay9 G) (k0_pay10 B) (k0_pay11 v1 v27 v49 v71 v73 v74 v91 v96) (k0_pay12 v1 v27 v49 v71 v73 v74 v91 v96) (ix3 0 r j)
      = lnorm (rowBlk v1 v27 v49 v71 v73 v74 v91 v96 r) (G (ix2 0 j)) (B (ix2 0 j)) j := by
  unfold k0_pay12
  refine (pay1_at ..).trans ?_
  simp only [pay11_at]
  rfl

/-- The keys of head 0. -/
theorem ld_k0 (W : Vec Ideal S1x1024x256 .bf16) (d t : Fin 256) : View.ld (Val := Elt Ideal) (e' := .bf16) W r0_2 (ix3 0 d t) = W (ix3 0 ⟨256 * 0 + d.val, by omega⟩ t) := by
  show W _ = _
  refine congrArg W (funext fun a => Fin.ext ?_)
  match a with
  | ⟨0, _⟩ => rfl
  | ⟨1, _⟩ => show 0 + 1 * d.val = 256 * 0 + d.val; omega
  | ⟨2, _⟩ => show 0 + 1 * t.val = t.val; omega
/-- The values of head 0. -/
theorem ld_v0 (W : Vec Ideal S1x256x1024 .bf16) (t d : Fin 256) : View.ld (Val := Elt Ideal) (e' := .bf16) W r0_3 (ix3 0 t d) = W (ix3 0 t ⟨256 * 0 + d.val, by omega⟩) := by
  show W _ = _
  refine congrArg W (funext fun a => Fin.ext ?_)
  match a with
  | ⟨0, _⟩ => rfl
  | ⟨1, _⟩ => show 0 + 1 * t.val = t.val; omega
  | ⟨2, _⟩ => show 0 + 1 * d.val = 256 * 0 + d.val; omega
/-- The keys of head 1. -/
theorem ld_k1 (W : Vec Ideal S1x1024x256 .bf16) (d t : Fin 256) : View.ld (Val := Elt Ideal) (e' := .bf16) W r0_4 (ix3 0 d t) = W (ix3 0 ⟨256 * 1 + d.val, by omega⟩ t) := by
  show W _ = _
  refine congrArg W (funext fun a => Fin.ext ?_)
  match a with
  | ⟨0, _⟩ => rfl
  | ⟨1, _⟩ => show 256 + 1 * d.val = 256 * 1 + d.val; omega
  | ⟨2, _⟩ => show 0 + 1 * t.val = t.val; omega
/-- The values of head 1. -/
theorem ld_v1 (W : Vec Ideal S1x256x1024 .bf16) (t d : Fin 256) : View.ld (Val := Elt Ideal) (e' := .bf16) W r0_5 (ix3 0 t d) = W (ix3 0 t ⟨256 * 1 + d.val, by omega⟩) := by
  show W _ = _
  refine congrArg W (funext fun a => Fin.ext ?_)
  match a with
  | ⟨0, _⟩ => rfl
  | ⟨1, _⟩ => show 0 + 1 * t.val = t.val; omega
  | ⟨2, _⟩ => show 256 + 1 * d.val = 256 * 1 + d.val; omega
/-- The keys of head 2. -/
theorem ld_k2 (W : Vec Ideal S1x1024x256 .bf16) (d t : Fin 256) : View.ld (Val := Elt Ideal) (e' := .bf16) W r0_6 (ix3 0 d t) = W (ix3 0 ⟨256 * 2 + d.val, by omega⟩ t) := by
  show W _ = _
  refine congrArg W (funext fun a => Fin.ext ?_)
  match a with
  | ⟨0, _⟩ => rfl
  | ⟨1, _⟩ => show 512 + 1 * d.val = 256 * 2 + d.val; omega
  | ⟨2, _⟩ => show 0 + 1 * t.val = t.val; omega
/-- The values of head 2. -/
theorem ld_v2 (W : Vec Ideal S1x256x1024 .bf16) (t d : Fin 256) : View.ld (Val := Elt Ideal) (e' := .bf16) W r0_7 (ix3 0 t d) = W (ix3 0 t ⟨256 * 2 + d.val, by omega⟩) := by
  show W _ = _
  refine congrArg W (funext fun a => Fin.ext ?_)
  match a with
  | ⟨0, _⟩ => rfl
  | ⟨1, _⟩ => show 0 + 1 * t.val = t.val; omega
  | ⟨2, _⟩ => show 512 + 1 * d.val = 256 * 2 + d.val; omega
/-- The keys of head 3. -/
theorem ld_k3 (W : Vec Ideal S1x1024x256 .bf16) (d t : Fin 256) : View.ld (Val := Elt Ideal) (e' := .bf16) W r0_8 (ix3 0 d t) = W (ix3 0 ⟨256 * 3 + d.val, by omega⟩ t) := by
  show W _ = _
  refine congrArg W (funext fun a => Fin.ext ?_)
  match a with
  | ⟨0, _⟩ => rfl
  | ⟨1, _⟩ => show 768 + 1 * d.val = 256 * 3 + d.val; omega
  | ⟨2, _⟩ => show 0 + 1 * t.val = t.val; omega
/-- The values of head 3. -/
theorem ld_v3 (W : Vec Ideal S1x256x1024 .bf16) (t d : Fin 256) : View.ld (Val := Elt Ideal) (e' := .bf16) W r0_9 (ix3 0 t d) = W (ix3 0 t ⟨256 * 3 + d.val, by omega⟩) := by
  show W _ = _
  refine congrArg W (funext fun a => Fin.ext ?_)
  match a with
  | ⟨0, _⟩ => rfl
  | ⟨1, _⟩ => show 0 + 1 * t.val = t.val; omega
  | ⟨2, _⟩ => show 768 + 1 * d.val = 256 * 3 + d.val; omega

variable (m : (ℓ : Loc nD τ sig) → Buf (Elt Ideal) ℓ)

/-- Where each window's block lies. -/
theorem idx : ∀ t : Fin cfg0.N, win0_0.index t = ![t.val / 32, t.val % 32, 0] ∧ win0_1.index t = ![0, 0] ∧ win0_2.index t = ![t.val / 32, 0, 0]
    ∧ win0_3.index t = ![t.val / 32, 0, 0] ∧ win0_4.index t = ![0, 0] ∧ win0_5.index t = ![0, 0] ∧ win0_6.index t = ![0, 0] ∧ win0_7.index t = ![t.val / 32, t.val % 32, 0] :=
  (by decide +kernel : ∀ t : Fin grid0.N, _)

/-- The residual stream. -/
abbrev argX (c : Dev nD) : FVec Ideal S2x16384x1024 .f32 := m ((c : Thread nD τ).loc main_arg0)
/-- The memory's keys and values. -/
abbrev argM (c : Dev nD) : FVec Ideal S512x2048 .f32 := m ((c : Thread nD τ).loc main_arg1)
/-- The query projection. -/
abbrev argQ (c : Dev nD) : FVec Ideal S1x1024x1024 .f32 := m ((c : Thread nD τ).loc main_arg2)
/-- The output projection. -/
abbrev argO (c : Dev nD) : FVec Ideal S1x1024x1024 .f32 := m ((c : Thread nD τ).loc main_arg3)
/-- The normalisation's gain. -/
abbrev argG (c : Dev nD) : FVec Ideal S1x1024 .f32 := m ((c : Thread nD τ).loc main_arg4)
/-- The normalisation's bias. -/
abbrev argB (c : Dev nD) : FVec Ideal S1x1024 .f32 := m ((c : Thread nD τ).loc main_arg5)

/-- The keys, transposed. -/
theorem V3_at (c : Dev nD) (b : Fin 2) (d : Fin 1024) (t : Fin 256) : (V m c main_v3 : FVec Ideal S2x1024x256 .bf16) (ix3 b d t)
    = argM m c (ix2 ⟨b.val * 256 + t.val, by omega⟩ ⟨d.val, by omega⟩) := by
  after_reads_at
/-- The values. -/
theorem V6_at (c : Dev nD) (b : Fin 2) (t : Fin 256) (d : Fin 1024) : (V m c main_v6 : FVec Ideal S2x256x1024 .bf16) (ix3 b t d)
    = argM m c (ix2 ⟨b.val * 256 + t.val, by omega⟩ ⟨1024 + d.val, by omega⟩) := by
  after_reads_at
/-- The query projection's weights. -/
theorem V8_at (c : Dev nD) (R C : Fin 1024) : (V m c main_v8 : FVec Ideal S1024x1024 .bf16) (ix2 R C) = argQ m c (ix3 0 R C) := by
  after_reads_at
/-- The output projection's weights. -/
theorem V10_at (c : Dev nD) (R C : Fin 1024) : (V m c main_v10 : FVec Ideal S1024x1024 .bf16) (ix2 R C) = argO m c (ix3 0 R C) := by
  after_reads_at
/-- The gain. -/
theorem V12_at (c : Dev nD) (C : Fin 1024) : (V m c main_v12 : FVec Ideal S1x1024 .f32) (ix2 0 C) = argG m c (ix2 0 C) := by
  after_reads_at
/-- The bias. -/
theorem V14_at (c : Dev nD) (C : Fin 1024) : (V m c main_v14 : FVec Ideal S1x1024 .f32) (ix2 0 C) = argB m c (ix2 0 C) := by
  after_reads_at

/-- The result array: each row attended over its memory and normalised. -/
abbrev resultArr (X : FVec Ideal S2x16384x1024 .f32) (M : FVec Ideal S512x2048 .f32) (Q O : FVec Ideal S1x1024x1024 .f32) (G B : FVec Ideal S1x1024 .f32) : FVec Ideal S2x16384x1024 .f32 :=
  fun y => lnorm (memRow (fun j => X (ix3 (y 0) (y 1) j)) (fun k j => Q (ix3 0 k j))
    (fun t j => M (ix2 ⟨(y 0).val * 256 + t.val, by have : (y 0).val < 2 := (y 0).isLt; omega⟩ ⟨j.val, by omega⟩))
    (fun t j => M (ix2 ⟨(y 0).val * 256 + t.val, by have : (y 0).val < 2 := (y 0).isLt; omega⟩ ⟨1024 + j.val, by omega⟩)) (fun k j => O (ix3 0 k j))) (G (ix2 0 (y 2))) (B (ix2 0 (y 2))) (y 2)

/-- There are sixty-four points. -/
theorem lt64 (t : Fin cfg0.N) : t.val < 64 := t.isLt

/-- The rows of a point. -/
theorem blk0 (c : Dev nD) (t : Fin cfg0.N) (r : Fin 512) (j : Fin 1024) : iblk m c 0 t (ix3 0 r j)
    = argX m c (ix3 ⟨t.val / 32, by have := lt64 t; omega⟩ ⟨t.val % 32 * 512 + r.val, by omega⟩ j) := by
  refine Eq.trans ?_ (congrFun (V_main_arg0 m c) (ix3 ⟨t.val / 32, by have := lt64 t; omega⟩ ⟨t.val % 32 * 512 + r.val, by omega⟩ j))
  unfold iblk
  blk_ext [idx t]
/-- The query projection a point reads. -/
theorem blk1 (c : Dev nD) (t : Fin cfg0.N) (k j : Fin 1024) : iblk m c 1 t (ix2 k j) = argQ m c (ix3 0 k j) := by
  refine Eq.trans ?_ (V8_at m c k j)
  unfold iblk
  blk_ext [idx t]
/-- The keys a point reads. -/
theorem blk2 (c : Dev nD) (t : Fin cfg0.N) (d : Fin 1024) (u : Fin 256) : iblk m c 2 t (ix3 0 d u)
    = argM m c (ix2 ⟨t.val / 32 * 256 + u.val, by have := lt64 t; omega⟩ ⟨d.val, by omega⟩) := by
  refine Eq.trans ?_ (V3_at m c ⟨t.val / 32, by have := lt64 t; omega⟩ d u)
  unfold iblk
  blk_ext [idx t]
/-- The values a point reads. -/
theorem blk3 (c : Dev nD) (t : Fin cfg0.N) (u : Fin 256) (d : Fin 1024) : iblk m c 3 t (ix3 0 u d)
    = argM m c (ix2 ⟨t.val / 32 * 256 + u.val, by have := lt64 t; omega⟩ ⟨1024 + d.val, by omega⟩) := by
  refine Eq.trans ?_ (V6_at m c ⟨t.val / 32, by have := lt64 t; omega⟩ u d)
  unfold iblk
  blk_ext [idx t]
/-- The output projection a point reads. -/
theorem blk4 (c : Dev nD) (t : Fin cfg0.N) (k j : Fin 1024) : iblk m c 4 t (ix2 k j) = argO m c (ix3 0 k j) := by
  refine Eq.trans ?_ (V10_at m c k j)
  unfold iblk
  blk_ext [idx t]
/-- The gain a point reads. -/
theorem blk5 (c : Dev nD) (t : Fin cfg0.N) (k : Fin 1024) : iblk m c 5 t (ix2 0 k) = argG m c (ix2 0 k) := by
  refine Eq.trans ?_ (V12_at m c k)
  unfold iblk
  blk_ext [idx t]
/-- The bias a point reads. -/
theorem blk6 (c : Dev nD) (t : Fin cfg0.N) (k : Fin 1024) : iblk m c 6 t (ix2 0 k) = argB m c (ix2 0 k) := by
  refine Eq.trans ?_ (V14_at m c k)
  unfold iblk
  blk_ext [idx t]

/-- The residual row of a point. -/
abbrev rowX (c : Dev nD) (t : Fin cfg0.N) (r : Fin 512) : Fin 1024 → EReal :=
  fun j => argX m c (ix3 ⟨t.val / 32, by have := lt64 t; omega⟩ ⟨t.val % 32 * 512 + r.val, by omega⟩ j)
/-- The keys of a point. -/
abbrev keys (c : Dev nD) (t : Fin cfg0.N) : Fin 256 → Fin 1024 → EReal :=
  fun u j => argM m c (ix2 ⟨t.val / 32 * 256 + u.val, by have := lt64 t; omega⟩ ⟨j.val, by omega⟩)
/-- The values of a point. -/
abbrev vals (c : Dev nD) (t : Fin cfg0.N) : Fin 256 → Fin 1024 → EReal :=
  fun u j => argM m c (ix2 ⟨t.val / 32 * 256 + u.val, by have := lt64 t; omega⟩ ⟨1024 + j.val, by omega⟩)
/-- The query weights. -/
abbrev wq (c : Dev nD) : Fin 1024 → Fin 1024 → EReal := fun k j => argQ m c (ix3 0 k j)

/-- A point's projected rows. -/
theorem q_at (c : Dev nD) (t : Fin cfg0.N) (r : Fin 512) (j : Fin 1024) :
    k0_pay3 (F := Ideal) (iblk m c 0 t) (iblk m c 1 t) (ix2 r j) = proj (rowX m c t r) (wq m c) j := by
  refine (pay3_at ..).trans ?_
  exact congrArg₂ (fun a b => proj a b j) (funext fun k => blk0 m c t r k) (funext fun k => funext fun j => blk1 m c t k j)

/-- A head from its parts. -/
theorem head_of (q : Fin 256 → EReal) (Q : Fin 1024 → EReal) (K V : Fin 256 → Fin 1024 → EReal) (KB : FVec Ideal S1x256x256 .bf16) (v : Fin 256 → EReal) (h : Fin 4) (d : Fin 256)
    (hq : ∀ x : Fin 256, q x = Q ⟨256 * h.val + x.val, by omega⟩) (hk : ∀ x u : Fin 256, KB (ix3 0 x u) = K u ⟨256 * h.val + x.val, by omega⟩)
    (hv : ∀ u, v u = V u ⟨256 * h.val + d.val, by omega⟩) : attend (scoreBlk q KB) v = head Q K V h d := by
  unfold head
  refine congrArg₂ attend (funext fun u => ?_) (funext hv)
  unfold score
  exact congrArg (· * _) (Finset.sum_congr rfl fun x _ => by rw [hq, hk])

/-- A point's head 0. -/
theorem head0_at (c : Dev nD) (t : Fin cfg0.N) (r : Fin 512) (d : Fin 256) :
    k0_pay4 (F := Ideal) (iblk m c 0 t) (iblk m c 1 t) (View.ld (iblk m c 2 t) r0_2) (View.ld (iblk m c 3 t) r0_3) (ix2 r d) = head (proj (rowX m c t r) (wq m c)) (keys m c t) (vals m c t) 0 d := by
  refine (pay4_at ..).trans (head_of _ _ _ _ _ _ 0 d (fun x => ?_) (fun x u => ?_) fun u => ?_)
  · refine (q_at m c t r _).trans (congrArg _ (Fin.ext ?_))
    show x.val = 256 * 0 + x.val
    omega
  · exact (ld_k0 _ x u).trans (blk2 m c t _ u)
  · exact (ld_v0 _ u d).trans (blk3 m c t u _)
/-- A point's head 1. -/
theorem head1_at (c : Dev nD) (t : Fin cfg0.N) (r : Fin 512) (d : Fin 256) :
    k0_pay6 (F := Ideal) (k0_pay5 (iblk m c 0 t) (iblk m c 1 t) (View.ld (iblk m c 2 t) r0_4)) (View.ld (iblk m c 3 t) r0_5) (ix2 r d) = head (proj (rowX m c t r) (wq m c)) (keys m c t) (vals m c t) 1 d := by
  refine (pay6_at ..).trans (head_of _ _ _ _ _ _ 1 d (fun x => ?_) (fun x u => ?_) fun u => ?_)
  · refine (q_at m c t r _).trans (congrArg _ (Fin.ext ?_))
    show 256 + x.val = 256 * 1 + x.val
    omega
  · exact (ld_k1 _ x u).trans (blk2 m c t _ u)
  · exact (ld_v1 _ u d).trans (blk3 m c t u _)
/-- A point's head 2. -/
theorem head2_at (c : Dev nD) (t : Fin cfg0.N) (r : Fin 512) (d : Fin 256) :
    k0_pay7 (F := Ideal) (k0_pay3 (iblk m c 0 t) (iblk m c 1 t)) (View.ld (iblk m c 2 t) r0_6) (View.ld (iblk m c 3 t) r0_7) (ix2 r d) = head (proj (rowX m c t r) (wq m c)) (keys m c t) (vals m c t) 2 d := by
  refine (pay7_at ..).trans (head_of _ _ _ _ _ _ 2 d (fun x => ?_) (fun x u => ?_) fun u => ?_)
  · refine (q_at m c t r _).trans (congrArg _ (Fin.ext ?_))
    show 512 + x.val = 256 * 2 + x.val
    omega
  · exact (ld_k2 _ x u).trans (blk2 m c t _ u)
  · exact (ld_v2 _ u d).trans (blk3 m c t u _)
/-- A point's head 3. -/
theorem head3_at (c : Dev nD) (t : Fin cfg0.N) (r : Fin 512) (d : Fin 256) :
    attend (scoreBlk (fun d => k0_pay8 (F := Ideal) (k0_pay3 (iblk m c 0 t) (iblk m c 1 t)) (ix2 r d)) (View.ld (iblk m c 2 t) r0_8)) (fun u => View.ld (iblk m c 3 t) r0_9 (ix3 0 u d))
      = head (proj (rowX m c t r) (wq m c)) (keys m c t) (vals m c t) 3 d := by
  refine head_of _ _ _ _ _ _ 3 d (fun x => ?_) (fun x u => ?_) fun u => ?_
  · refine (pay8_at _ r x).trans ((q_at m c t r _).trans (congrArg _ (Fin.ext ?_)))
    show 768 + x.val = 256 * 3 + x.val
    omega
  · exact (ld_k3 _ x u).trans (blk2 m c t _ u)
  · exact (ld_v3 _ u d).trans (blk3 m c t u _)

/-- The residual rows without their leading axis. -/
theorem pay2_at (v0 : FVec Ideal S1x512x1024 .f32) (r : Fin 512) (j : Fin 1024) : k0_pay2 (F := Ideal) v0 (ix2 r j) = v0 (ix3 0 r j) := by
  pointwise [k0_pay2]

/-- A point's row before the normalisation, from the argument arrays. -/
theorem row_at (c : Dev nD) (t : Fin cfg0.N) (r : Fin 512) (j : Fin 1024) :
    rowBlk (k0_pay2 (iblk m c 0 t)) (k0_pay4 (iblk m c 0 t) (iblk m c 1 t) (View.ld (iblk m c 2 t) r0_2) (View.ld (iblk m c 3 t) r0_3))
      (k0_pay6 (k0_pay5 (iblk m c 0 t) (iblk m c 1 t) (View.ld (iblk m c 2 t) r0_4)) (View.ld (iblk m c 3 t) r0_5))
      (k0_pay7 (k0_pay3 (iblk m c 0 t) (iblk m c 1 t)) (View.ld (iblk m c 2 t) r0_6) (View.ld (iblk m c 3 t) r0_7))
      (k0_pay8 (k0_pay3 (iblk m c 0 t) (iblk m c 1 t))) (View.ld (iblk m c 2 t) r0_8) (View.ld (iblk m c 3 t) r0_9) (iblk m c 4 t) r j
      = memRow (rowX m c t r) (wq m c) (keys m c t) (vals m c t) (fun k j => argO m c (ix3 0 k j)) j := by
  unfold memRow
  refine congrArg₂ (fun a b => alpha * a + b) ((pay2_at _ r j).trans (blk0 m c t r j)) (Finset.sum_congr rfl fun k _ => ?_)
  refine congrArg₂ (· * ·) ?_ (blk4 m c t k j)
  refine Eq.trans ?_ (cat_eq (head (proj (rowX m c t r) (wq m c)) (keys m c t) (vals m c t)) k)
  rw [funext (head0_at m c t r), funext (head1_at m c t r), funext (head2_at m c t r), funext (head3_at m c t r)]

/-- The array the launch leaves. -/
theorem final (c : Dev nD) : (dats m 0 c).arrAt 7 (cfgs 0).N = resultArr (argX m c) (argM m c) (argQ m c) (argO m c) (argG m c) (argB m c) := by
  refine (dats m 0 c).arrAt_eq_of_covers 7 _ (by decide +kernel) fun t _ y => ?_
  blk_simp
  rw [after0_7]
  unfold_out out0_7
  frame_out
  idx_vars y
  have ht := lt64 t
  have hz : y0 = 0 := Subsingleton.elim _ _
  subst hz
  have e : (win0_7.blk t).view.emb (ix3 0 y1 y2) = ix3 ⟨t.val / 32, by omega⟩ ⟨t.val % 32 * 512 + y1.val, by have : y1.val < 512 := y1.isLt; omega⟩ y2 := by blk_ext [idx t]
  rw [e]
  refine (stored_at ..).trans ?_
  rw [blk5, blk6]
  exact congrArg (fun f => lnorm f _ _ _) (funext fun j => row_at m c t y1 j)

/-- The run ends with every row attended over its memory and normalised, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v15) = resultArr (argX m c) (argM m c) (argQ m c) (argO m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 7).trans (final m c), h.2.1 c⟩) (θ_run_and (run_main m ρ) (frame m ρ))

end Cert.Kernel3Ideal.Gen

end
-- ==== Proof.XattnRef.lean ====
module

public import proofs.«01_k».proof.Proof.Gen.Reference3Ideal.Run
public import proofs.«01_k».proof.Proof.LayerMath

/-! # What the reference of the attention over the memory computes -/

@[expose] public section

set_option maxRecDepth 16384

noncomputable section

namespace Cert.Reference3Ideal.Value

open Cert.Reference3Ideal Cert.Reference3Ideal.Gen Idealize.ShloMosaic Idealize.ShloMosaic.TcCoe Idealize.SL.Sem Cert.Layer

variable (m : (ℓ : Loc nD τ sig) → Buf (Elt Ideal) ℓ)

/-- The projected queries, by head. -/
def queries (X : FVec Ideal S2x16384x1024 .f32) (W : FVec Ideal S1x1024x1024 .f32) : FVec Ideal S2x16384x4x256 .f32 :=
  (shapeCast _ (Host.dotGeneral dot_S2x16384x1024_S1024x1024_S2x16384x1024_2_0_01_1_n_n none X (shapeCast _ W shapeCasts_S1x1024x1024_S1024x1024)) shapeCasts_S2x16384x1024_S2x16384x4x256)
/-- The memory's keys, by head. -/
def keysR (M : FVec Ideal S512x2048 .f32) : FVec Ideal S2x256x4x256 .f32 :=
  (shapeCast _ (extractStridedSlice S512x1024 ![0, 0] M slices_S512x2048_S512x1024_0_0) shapeCasts_S512x1024_S2x256x4x256)
/-- The memory's values, by head. -/
def valsR (M : FVec Ideal S512x2048 .f32) : FVec Ideal S2x256x4x256 .f32 :=
  (shapeCast _ (extractStridedSlice S512x1024 ![0, 1024] M slices_S512x2048_S512x1024_0_1024) shapeCasts_S512x1024_S2x256x4x256)
/-- The scaled scores. -/
def scores (Q : FVec Ideal S2x16384x4x256 .f32) (K : FVec Ideal S2x256x4x256 .f32) : FVec Ideal S2x4x16384x256 .f32 :=
  (mulf (Host.dotGeneral dot_S2x16384x4x256_S2x256x4x256_S2x4x16384x256_3_3_1_1_02_02 none Q K) (broadcastInDim S2x4x16384x256 ![] bcast_S_S2x4x16384x256 (constant S_ .f32 0x3D800000#32)))
/-- Each row's greatest score. -/
def greatest (S : FVec Ideal S2x4x16384x256 .f32) : FVec Ideal S2x4x16384 .f32 :=
  (Host.reduce FloatOps.maximumf S (constant S_ .f32 0xFF800000#32) reducesTo_S2x4x16384x256_S2x4x16384_d3 h_S_)
/-- The scores' exponentials, each row's greatest taken off first. -/
def exps (S : FVec Ideal S2x4x16384x256 .f32) (M : FVec Ideal S2x4x16384 .f32) : FVec Ideal S2x4x16384x256 .f32 :=
  (Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) M)))))
/-- The heads' outputs side by side. -/
def attn (E : FVec Ideal S2x4x16384x256 .f32) (V : FVec Ideal S2x256x4x256 .f32) : FVec Ideal S2x16384x1024 .f32 :=
  (shapeCast _ (transpose S2x16384x4x256 [0, 3, 1, 2] (Host.dotGeneral dot_S2x256x4x256_S2x4x16384x256_S2x4x256x16384_1_3_3_2_02_01 none V (Host.divf E (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd E (constant S_ .f32 0x00000000#32) reducesTo_S2x4x16384x256_S2x4x16384_d3 h_S_))))) transposes_S2x4x256x16384_S2x16384x4x256_0_3_1_2) shapeCasts_S2x16384x4x256_S2x16384x1024)
/-- The rows before the layer normalisation. -/
def before (X O : FVec Ideal S2x16384x1024 .f32) (W : FVec Ideal S1x1024x1024 .f32) : FVec Ideal S2x16384x1024 .f32 :=
  (addf (mulf (broadcastInDim S2x16384x1024 ![] bcast_S_S2x16384x1024 (constant S_ .f32 0x3F9837F0#32)) X) (Host.dotGeneral dot_S2x16384x1024_S1024x1024_S2x16384x1024_2_0_01_1_n_n none O (shapeCast _ W shapeCasts_S1x1024x1024_S1024x1024)))
/-- Each row less its mean. -/
def centred (Y : FVec Ideal S2x16384x1024 .f32) : FVec Ideal S2x16384x1024 .f32 :=
  (subf Y (broadcastInDim S2x16384x1024 ![0, 1, 2] bcast_S2x16384x1_S2x16384x1024_0_1_2 (Host.divf (broadcastInDim S2x16384x1 ![0, 1] bcast_S2x16384_S2x16384x1_0_1 (Host.reduceAdd Y (constant S_ .f32 0x00000000#32) reducesTo_S2x16384x1024_S2x16384_d2 h_S_)) (broadcastInDim S2x16384x1 ![] bcast_S_S2x16384x1 (constant S_ .f32 0x44800000#32)))))
/-- Each row over its deviation, with gain and bias. -/
def normed (C : FVec Ideal S2x16384x1024 .f32) (G B : FVec Ideal S1x1024 .f32) : FVec Ideal S2x16384x1024 .f32 :=
  addf (mulf (mulf C (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf C C) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x3727C5AC#32)))))) (broadcastInDim S2x16384x1024 ![0, 1, 2] bcast_S1x1x1024_S2x16384x1024_0_1_2 (broadcastInDim S1x1x1024 ![2] bcast_S1024_S1x1x1024_2 (shapeCast _ G shapeCasts_S1x1024_S1024)))) (broadcastInDim S2x16384x1024 ![0, 1, 2] bcast_S1x1x1024_S2x16384x1024_0_1_2 (broadcastInDim S1x1x1024 ![2] bcast_S1024_S1x1x1024_2 (shapeCast _ B shapeCasts_S1x1024_S1024)))

/-- A query is a projected element. -/
theorem queries_at (X : FVec Ideal S2x16384x1024 .f32) (W : FVec Ideal S1x1024x1024 .f32) (b : Fin 2) (s : Fin 16384) (h : Fin 4) (d : Fin 256) :
    queries X W (ix4 b s h d) = proj (fun k => X (ix3 b s k)) (fun k j => W (ix3 0 k j)) ⟨256 * h.val + d.val, by omega⟩ := by
  pointwise [queries]
  unfold proj
  simp only [Nat.mul_comm h.val 256]
/-- A key. -/
theorem keysR_at (M : FVec Ideal S512x2048 .f32) (b : Fin 2) (t : Fin 256) (h : Fin 4) (d : Fin 256) :
    keysR M (ix4 b t h d) = M (ix2 ⟨b.val * 256 + t.val, by omega⟩ ⟨256 * h.val + d.val, by omega⟩) := by
  pointwise [keysR]
  simp only [Nat.mul_comm h.val 256]
/-- A value. -/
theorem valsR_at (M : FVec Ideal S512x2048 .f32) (b : Fin 2) (t : Fin 256) (h : Fin 4) (d : Fin 256) :
    valsR M (ix4 b t h d) = M (ix2 ⟨b.val * 256 + t.val, by omega⟩ ⟨1024 + (256 * h.val + d.val), by omega⟩) := by
  pointwise [valsR]
  simp only [Nat.mul_comm h.val 256]
/-- A score. -/
theorem scores_at (Q : FVec Ideal S2x16384x4x256 .f32) (K : FVec Ideal S2x256x4x256 .f32) (b : Fin 2) (h : Fin 4) (s : Fin 16384) (t : Fin 256) :
    scores Q K (ix4 b h s t) = (∑ d : Fin 256, Q (ix4 b s h d) * K (ix4 b t h d)) * Ideal.ofBits FTy.f32 0x3D800000#32 := by
  pointwise [scores]
/-- A row's greatest score. -/
theorem greatest_at (S : FVec Ideal S2x4x16384x256 .f32) (b : Fin 2) (h : Fin 4) (s : Fin 16384) :
    greatest S (ix3 b h s) = rowMax (fun t => S (ix4 b h s t)) := by
  pointwise [greatest]
  rfl
/-- An exponential. -/
theorem exps_at (S : FVec Ideal S2x4x16384x256 .f32) (M : FVec Ideal S2x4x16384 .f32) (b : Fin 2) (h : Fin 4) (s : Fin 16384) (t : Fin 256) :
    exps S M (ix4 b h s t) = Ideal.exp (S (ix4 b h s t) - M (ix3 b h s)) := by
  pointwise [exps]
  rw [ofBits_bot, max_eq_right bot_le]
/-- A head's output. -/
theorem attn_at (E : FVec Ideal S2x4x16384x256 .f32) (V : FVec Ideal S2x256x4x256 .f32) (b : Fin 2) (s : Fin 16384) (j : Fin 1024) :
    attn E V (ix3 b s j) = ∑ t : Fin 256, V (ix4 b t ⟨j.val / 256, by omega⟩ ⟨j.val % 256, by omega⟩)
      * Ideal.div (E (ix4 b ⟨j.val / 256, by omega⟩ s t)) (∑ u, E (ix4 b ⟨j.val / 256, by omega⟩ s u)) := by
  pointwise [attn]
/-- A row before the normalisation. -/
theorem before_at (X O : FVec Ideal S2x16384x1024 .f32) (W : FVec Ideal S1x1024x1024 .f32) (b : Fin 2) (s : Fin 16384) (j : Fin 1024) :
    before X O W (ix3 b s j) = alpha * X (ix3 b s j) + ∑ k : Fin 1024, O (ix3 b s k) * W (ix3 0 k j) := by
  pointwise [before]
  rfl
/-- An element less its row's mean. -/
theorem centred_at (Y : FVec Ideal S2x16384x1024 .f32) (b : Fin 2) (s : Fin 16384) (j : Fin 1024) :
    centred Y (ix3 b s j) = Y (ix3 b s j) - Ideal.div (∑ z, Y (ix3 b s z)) (Ideal.ofBits FTy.f32 0x44800000#32) := by
  pointwise [centred]
/-- An element over its row's deviation. -/
theorem normed_at (C : FVec Ideal S2x16384x1024 .f32) (G B : FVec Ideal S1x1024 .f32) (b : Fin 2) (s : Fin 16384) (j : Fin 1024) :
    normed C G B (ix3 b s j) = C (ix3 b s j) * Ideal.rsqrt (Ideal.div (∑ x, C (ix3 b s x) * C (ix3 b s x)) (Ideal.ofBits FTy.f32 0x44800000#32)
        + Ideal.ofBits FTy.f32 0x3727C5AC#32) * G (ix2 0 j) + B (ix2 0 j) := by
  pointwise [normed]

/-- The residual stream. -/
abbrev argX (c : Dev nD) : FVec Ideal S2x16384x1024 .f32 := m ((c : Thread nD τ).loc main_arg0)
/-- The memory's keys and values. -/
abbrev argM (c : Dev nD) : FVec Ideal S512x2048 .f32 := m ((c : Thread nD τ).loc main_arg1)
/-- The query projection. -/
abbrev argQ (c : Dev nD) : FVec Ideal S1x1024x1024 .f32 := m ((c : Thread nD τ).loc main_arg2)
/-- The output projection. -/
abbrev argO (c : Dev nD) : FVec Ideal S1x1024x1024 .f32 := m ((c : Thread nD τ).loc main_arg3)
/-- The normalisation's gain. -/
abbrev argG (c : Dev nD) : FVec Ideal S1x1024 .f32 := m ((c : Thread nD τ).loc main_arg4)
/-- The normalisation's bias. -/
abbrev argB (c : Dev nD) : FVec Ideal S1x1024 .f32 := m ((c : Thread nD τ).loc main_arg5)

/-- The result is made of these steps. -/
theorem result_steps (c : Dev nD) : (res_out0 m c : FVec Ideal S2x16384x1024 .f32)
    = normed (centred (before (argX m c) (attn (exps (scores (queries (argX m c) (argQ m c)) (keysR (argM m c))) (greatest (scores (queries (argX m c) (argQ m c)) (keysR (argM m c))))) (valsR (argM m c))) (argO m c))) (argG m c) (argB m c) := by
  show res_main_v54 m c = _
  unfold res_main_v54
  rfl

/-- A score of the result, from the argument arrays. -/
theorem scores_row (X : FVec Ideal S2x16384x1024 .f32) (M : FVec Ideal S512x2048 .f32) (W : FVec Ideal S1x1024x1024 .f32) (b : Fin 2) (h : Fin 4) (s : Fin 16384) (t : Fin 256) :
    scores (queries X W) (keysR M) (ix4 b h s t)
      = score (proj (fun k => X (ix3 b s k)) (fun k j => W (ix3 0 k j))) (fun t j => M (ix2 ⟨b.val * 256 + t.val, by omega⟩ ⟨j.val, by omega⟩)) h t := by
  rw [scores_at]
  unfold score
  exact congrArg (· * _) (Finset.sum_congr rfl fun d _ => by rw [queries_at, keysR_at])

/-- An attention element of the result, where rows, query weights and keys are real. -/
theorem attn_row (X : FVec Ideal S2x16384x1024 .f32) (M : FVec Ideal S512x2048 .f32) (W : FVec Ideal S1x1024x1024 .f32)
    (hx : ∀ b s j, ∃ r : ℝ, X (ix3 b s j) = (r : EReal)) (hw : ∀ k j, ∃ r : ℝ, W (ix3 0 k j) = (r : EReal)) (hk : ∀ (t : Fin 512) (j : Fin 1024), ∃ r : ℝ, M (ix2 t ⟨j.val, by omega⟩) = (r : EReal))
    (b : Fin 2) (s : Fin 16384) (j : Fin 1024) :
    attn (exps (scores (queries X W) (keysR M)) (greatest (scores (queries X W) (keysR M)))) (valsR M) (ix3 b s j)
      = head (proj (fun k => X (ix3 b s k)) (fun k j => W (ix3 0 k j))) (fun t j => M (ix2 ⟨b.val * 256 + t.val, by omega⟩ ⟨j.val, by omega⟩))
        (fun t j => M (ix2 ⟨b.val * 256 + t.val, by omega⟩ ⟨1024 + j.val, by omega⟩)) ⟨j.val / 256, by omega⟩ ⟨j.val % 256, by omega⟩ := by
  rw [attn_at]
  unfold head
  rw [← attend_div _ _ fun t => real_score _ _ _ (fun k => hx b s k) hw (fun t j => hk _ j) _ t]
  simp only [exps_at, greatest_at, scores_row, valsR_at]
  rfl

/-- A result element: its row attended over the memory and normalised. -/
theorem result_at (c : Dev nD)
    (hx : ∀ b s j, ∃ r : ℝ, argX m c (ix3 b s j) = (r : EReal)) (hw : ∀ k j, ∃ r : ℝ, argQ m c (ix3 0 k j) = (r : EReal))
    (hk : ∀ (t : Fin 512) (j : Fin 1024), ∃ r : ℝ, argM m c (ix2 t ⟨j.val, by omega⟩) = (r : EReal)) (b : Fin 2) (s : Fin 16384) (j : Fin 1024) :
    (res_out0 m c : FVec Ideal S2x16384x1024 .f32) (ix3 b s j)
      = lnorm (memRow (fun j => argX m c (ix3 b s j)) (fun k j => argQ m c (ix3 0 k j)) (fun t j => argM m c (ix2 ⟨b.val * 256 + t.val, by omega⟩ ⟨j.val, by omega⟩))
        (fun t j => argM m c (ix2 ⟨b.val * 256 + t.val, by omega⟩ ⟨1024 + j.val, by omega⟩)) (fun k j => argO m c (ix3 0 k j))) (argG m c (ix2 0 j)) (argB m c (ix2 0 j)) j := by
  rw [result_steps, normed_at]
  simp only [centred_at, before_at, attn_row _ _ _ hx hw hk]
  rfl

end Cert.Reference3Ideal.Value

end
-- ==== Proof.FiniteAttention.lean ====
module

public import proofs.«01_k».proof.Pre_finite_attention
public import proofs.«01_k».proof.Proof.FinitePre

/-! # The precondition of the attention over the memory -/

@[expose] public section

set_option maxRecDepth 16384

noncomputable section

namespace Cert.Pre_finite_attention

open Idealize.ShloMosaic Idealize.ShloMosaic.TcCoe

/-- The relations of shapes the precondition's operations take. -/
theorem holds_facts : Facts := by constructor <;> decide

/-- The relations of shapes, as an instance. -/
instance : Facts := holds_facts

variable (X : FVec Ideal S2x16384x1024 .f32) (M : FVec Ideal S512x2048 .f32) (Q O : FVec Ideal S1x1024x1024 .f32) (G B : FVec Ideal S1x1024 .f32)

/-- Where the precondition holds, at each index a row's element, a weight and a key are real. -/
theorem real_at (h : fn (F := Ideal) X M Q O G B = fun _ => 1#1) (i : Fin 32) (p : Fin 2) (r : Fin 512) (j : Fin 1024) :
    (∃ a : ℝ, X (ix3 ⟨i.val / 16, by omega⟩ ⟨i.val % 16 * 1024 + p.val * 512 + r.val, by omega⟩ j) = (a : EReal))
      ∧ (∃ a : ℝ, Q (ix3 0 ⟨p.val * 512 + r.val, by omega⟩ j) = (a : EReal)) ∧ (∃ a : ℝ, M (ix2 r ⟨j.val, by omega⟩) = (a : EReal)) := by
  have e2 := congrFun h (ix4 i p r j)
  unfold fn at e2
  obtain ⟨e3, e4⟩ := Cert.Pre_finite_inputs.and_one _ _ e2
  obtain ⟨e5, e6⟩ := Cert.Pre_finite_inputs.and_one _ _ e3
  refine ⟨Cert.Pre_finite_inputs.real_of_abs _ ?_, Cert.Pre_finite_inputs.real_of_abs _ ?_, Cert.Pre_finite_inputs.real_of_abs _ ?_⟩
  · rw [← e5]
    pointwise
    rfl
  · rw [← e6]
    pointwise
    rfl
  · rw [← e4]
    pointwise
    rfl

/-- Every element of the rows is real. -/
theorem real_row (h : fn (F := Ideal) X M Q O G B = fun _ => 1#1) (b : Fin 2) (s : Fin 16384) (j : Fin 1024) : ∃ a : ℝ, X (ix3 b s j) = (a : EReal) := by
  have e := (real_at X M Q O G B h ⟨(b.val * 16384 + s.val) / 1024, by omega⟩ ⟨(b.val * 16384 + s.val) % 1024 / 512, by omega⟩ ⟨(b.val * 16384 + s.val) % 512, by omega⟩ j).1
  rwa [show (ix3 _ _ j : S2x16384x1024.Idx) = ix3 b s j from congrArg₂ (fun x y => ix3 x y j) (Fin.ext (by show _ = b.val; dsimp only; omega)) (Fin.ext (by show _ = s.val; dsimp only; omega))] at e

/-- Every weight of the query projection is real. -/
theorem real_weight (h : fn (F := Ideal) X M Q O G B = fun _ => 1#1) (k j : Fin 1024) : ∃ a : ℝ, Q (ix3 0 k j) = (a : EReal) := by
  have e := (real_at X M Q O G B h 0 ⟨k.val / 512, by omega⟩ ⟨k.val % 512, by omega⟩ j).2.1
  rwa [show (⟨k.val / 512 * 512 + k.val % 512, by omega⟩ : Fin 1024) = k from Fin.ext (by show k.val / 512 * 512 + k.val % 512 = k.val; omega)] at e

/-- Every key is real. -/
theorem real_key (h : fn (F := Ideal) X M Q O G B = fun _ => 1#1) (t : Fin 512) (j : Fin 1024) : ∃ a : ℝ, M (ix2 t ⟨j.val, by omega⟩) = (a : EReal) :=
  (real_at X M Q O G B h 0 0 t j).2.2

end Cert.Pre_finite_attention

end
-- ==== Proof.MixValue.lean ====
module

public import proofs.«01_k».proof.Proof.Gen.Kernel4Ideal.Frame
public import Idealize.ShloMosaic.Lib.Pipeline.ValueKit
public import Idealize.ShloMosaic.Lib.Pointwise
public import proofs.«01_k».proof.Proof.LayerMath
public import Idealize.ShloMosaic.Lib.StableHlo.RunRead
public import Idealize.ShloMosaic.Lib.StableHlo.ReadAt

/-! # What the output projection's launch computes -/

@[expose] public section

set_option maxRecDepth 16384

noncomputable section

namespace Cert.Kernel4Ideal.Gen

open Idealize.ShloMosaic Idealize.ShloMosaic.TcCoe Idealize.SL.Sem Cert.Layer

/-- The row before the normalisation. -/
theorem pay2_at (v0 : FVec Ideal S512x512 .f32) (v11 : FVec Ideal S1x512 .f32) (v16 : FVec Ideal S512x1024 .bf16) (v19 : FVec Ideal S512x512 .f32) (v21 : FVec Ideal S512x1024 .bf16) (v25 : FVec Ideal S512x1024 .f32) (r : Fin 512) (j : Fin 1024) :
    k0_pay2 (F := Ideal) v0 v11 v16 v19 v21 v25 (ix2 r j) = alpha * v25 (ix2 r j)
      + (∑ k : Fin 512, rmsRow (fun x => v0 (ix2 r x)) (fun x => v11 (ix2 0 x)) k * v16 (ix2 k j) + ∑ k : Fin 512, v19 (ix2 r k) * v21 (ix2 k j)) := by
  pointwise [k0_pay2]
  rfl

/-- The stored row is its normalisation. -/
theorem pay1_at (v0 : FVec Ideal S512x512 .f32) (v11 : FVec Ideal S1x512 .f32) (v16 : FVec Ideal S512x1024 .bf16) (v19 : FVec Ideal S512x512 .f32) (v21 : FVec Ideal S512x1024 .bf16) (v25 : FVec Ideal S512x1024 .f32) (v30 v32 : FVec Ideal S1x1024 .f32) (r : Fin 512) (j : Fin 1024) :
    k0_pay1 (F := Ideal) (k0_pay2 v0 v11 v16 v19 v21 v25) (k0_pay3 v30) (k0_pay4 v32) (k0_pay5 v0 v11 v16 v19 v21 v25) (ix2 r j)
      = lnorm (fun j => k0_pay2 (F := Ideal) v0 v11 v16 v19 v21 v25 (ix2 r j)) (v30 (ix2 0 j)) (v32 (ix2 0 j)) j := by
  unfold k0_pay5
  generalize k0_pay2 (F := Ideal) v0 v11 v16 v19 v21 v25 = Y
  pointwise [k0_pay1, k0_pay3, k0_pay4]
  rfl

variable (m : (ℓ : Loc nD τ sig) → Buf (Elt Ideal) ℓ)

/-- Where each window's block lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The attention's output. -/
abbrev argO (c : Dev nD) : FVec Ideal S32768x512 .f32 := m ((c : Thread nD τ).loc main_arg0)
/-- The recurrence's output. -/
abbrev argH (c : Dev nD) : FVec Ideal S32768x512 .f32 := m ((c : Thread nD τ).loc main_arg1)
/-- The residual stream. -/
abbrev argX (c : Dev nD) : FVec Ideal S2x16384x1024 .f32 := m ((c : Thread nD τ).loc main_arg2)
/-- The attention's gain. -/
abbrev argN (c : Dev nD) : FVec Ideal S1x512 .f32 := m ((c : Thread nD τ).loc main_arg3)
/-- The output projection. -/
abbrev argW (c : Dev nD) : FVec Ideal S1x1024x1024 .f32 := m ((c : Thread nD τ).loc main_arg4)
/-- The normalisation's gain. -/
abbrev argG (c : Dev nD) : FVec Ideal S1x1024 .f32 := m ((c : Thread nD τ).loc main_arg5)
/-- The normalisation's bias. -/
abbrev argB (c : Dev nD) : FVec Ideal S1x1024 .f32 := m ((c : Thread nD τ).loc main_arg6)

/-- The rows the kernel is given are the argument's. -/
theorem V0_at (c : Dev nD) (R : Fin 32768) (C : Fin 1024) : (V m c main_v0 : FVec Ideal S32768x1024 .f32) (ix2 R C)
    = argX m c (ix3 ⟨R.val / 16384, by omega⟩ ⟨R.val % 16384, by omega⟩ C) := by
  after_reads_at
/-- The mixing weights it is given are the argument's. -/
theorem V2_at (c : Dev nD) (R C : Fin 1024) : (V m c main_v2 : FVec Ideal S1024x1024 .bf16) (ix2 R C) = argW m c (ix3 0 R C) := by
  after_reads_at
/-- So is the inner gain. -/
theorem V4_at (c : Dev nD) (C : Fin 512) : (V m c main_v4 : FVec Ideal S1x512 .f32) (ix2 0 C) = argN m c (ix2 0 C) := by
  after_reads_at
/-- So is the normalisation's gain. -/
theorem V6_at (c : Dev nD) (C : Fin 1024) : (V m c main_v6 : FVec Ideal S1x1024 .f32) (ix2 0 C) = argG m c (ix2 0 C) := by
  after_reads_at
/-- So is its bias. -/
theorem V8_at (c : Dev nD) (C : Fin 1024) : (V m c main_v8 : FVec Ideal S1x1024 .f32) (ix2 0 C) = argB m c (ix2 0 C) := by
  after_reads_at

/-- The result array: each row mixed and normalised. -/
abbrev resultArr (O H : FVec Ideal S32768x512 .f32) (X : FVec Ideal S2x16384x1024 .f32) (N : FVec Ideal S1x512 .f32) (W : FVec Ideal S1x1024x1024 .f32) (G B : FVec Ideal S1x1024 .f32) : FVec Ideal S32768x1024 .f32 :=
  fun y => lnorm (mixRow (fun k => O (ix2 (y 0) k)) (fun k => N (ix2 0 k)) (fun k => H (ix2 (y 0) k))
    (fun j => X (ix3 ⟨(y 0).val / 16384, by have : (y 0).val < 32768 := (y 0).isLt; omega⟩ ⟨(y 0).val % 16384, by omega⟩ j)) (fun k j => W (ix3 0 k j))) (G (ix2 0 (y 1))) (B (ix2 0 (y 1))) (y 1)

/-- There are sixty-four points. -/
theorem lt64 (t : Fin cfg0.N) : t.val < 64 := t.isLt

/-- A grid point's block of the first branch. -/
theorem blk0 (c : Dev nD) (t : Fin cfg0.N) (r k : Fin 512) : iblk m c 0 t (ix2 r k) = argO m c (ix2 ⟨t.val * 512 + r.val, by have := lt64 t; omega⟩ k) := by
  refine Eq.trans ?_ (congrFun (V_main_arg0 m c) (ix2 ⟨t.val * 512 + r.val, by have := lt64 t; omega⟩ k))
  unfold iblk
  blk_ext [idx t]
/-- Its block of the second branch. -/
theorem blk1 (c : Dev nD) (t : Fin cfg0.N) (r k : Fin 512) : iblk m c 1 t (ix2 r k) = argH m c (ix2 ⟨t.val * 512 + r.val, by have := lt64 t; omega⟩ k) := by
  refine Eq.trans ?_ (congrFun (V_main_arg1 m c) (ix2 ⟨t.val * 512 + r.val, by have := lt64 t; omega⟩ k))
  unfold iblk
  blk_ext [idx t]
/-- Its block of rows. -/
theorem blk2 (c : Dev nD) (t : Fin cfg0.N) (r : Fin 512) (j : Fin 1024) : iblk m c 2 t (ix2 r j)
    = argX m c (ix3 ⟨(t.val * 512 + r.val) / 16384, by have := lt64 t; omega⟩ ⟨(t.val * 512 + r.val) % 16384, by omega⟩ j) := by
  refine Eq.trans ?_ (V0_at m c ⟨t.val * 512 + r.val, by have := lt64 t; omega⟩ j)
  unfold iblk
  blk_ext [idx t]
/-- The upper half of the projection. -/
theorem ld_top (W : Vec Ideal S1024x1024 .bf16) (k : Fin 512) (j : Fin 1024) : View.ld (Val := Elt Ideal) (e' := .bf16) W r0_2 (ix2 k j) = W (ix2 ⟨k.val, by omega⟩ j) := by
  show W _ = _
  refine congrArg W (funext fun a => Fin.ext ?_)
  match a with
  | ⟨0, _⟩ => show 0 + 1 * k.val = k.val; omega
  | ⟨1, _⟩ => show 0 + 1 * j.val = j.val; omega
/-- The lower half of the projection. -/
theorem ld_bottom (W : Vec Ideal S1024x1024 .bf16) (k : Fin 512) (j : Fin 1024) : View.ld (Val := Elt Ideal) (e' := .bf16) W r0_3 (ix2 k j) = W (ix2 ⟨512 + k.val, by omega⟩ j) := by
  show W _ = _
  refine congrArg W (funext fun a => Fin.ext ?_)
  match a with
  | ⟨0, _⟩ => show 512 + 1 * k.val = 512 + k.val; omega
  | ⟨1, _⟩ => show 0 + 1 * j.val = j.val; omega
/-- The mixing weights, whole at each grid point. -/
theorem blk3 (c : Dev nD) (t : Fin cfg0.N) (k j : Fin 1024) : iblk m c 3 t (ix2 k j) = argW m c (ix3 0 k j) := by
  refine Eq.trans ?_ (V2_at m c k j)
  unfold iblk
  blk_ext [idx t]
/-- Their upper half. -/
theorem blk3a (c : Dev nD) (t : Fin cfg0.N) (k : Fin 512) (j : Fin 1024) : View.ld (iblk m c 3 t) r0_2 (ix2 k j) = argW m c (ix3 0 ⟨k.val, by omega⟩ j) := by
  refine (ld_top _ k j).trans ((blk3 m c t _ j).trans rfl)
/-- Their lower half. -/
theorem blk3b (c : Dev nD) (t : Fin cfg0.N) (k : Fin 512) (j : Fin 1024) : View.ld (iblk m c 3 t) r0_3 (ix2 k j) = argW m c (ix3 0 ⟨512 + k.val, by omega⟩ j) := by
  refine (ld_bottom _ k j).trans ((blk3 m c t _ j).trans rfl)
/-- The inner gain. -/
theorem blk4 (c : Dev nD) (t : Fin cfg0.N) (k : Fin 512) : iblk m c 4 t (ix2 0 k) = argN m c (ix2 0 k) := by
  refine Eq.trans ?_ (V4_at m c k)
  unfold iblk
  blk_ext [idx t]
/-- The normalisation's gain. -/
theorem blk5 (c : Dev nD) (t : Fin cfg0.N) (k : Fin 1024) : iblk m c 5 t (ix2 0 k) = argG m c (ix2 0 k) := by
  refine Eq.trans ?_ (V6_at m c k)
  unfold iblk
  blk_ext [idx t]
/-- Its bias. -/
theorem blk6 (c : Dev nD) (t : Fin cfg0.N) (k : Fin 1024) : iblk m c 6 t (ix2 0 k) = argB m c (ix2 0 k) := by
  refine Eq.trans ?_ (V8_at m c k)
  unfold iblk
  blk_ext [idx t]

/-- A stored row, from the argument arrays. -/
theorem row_at (c : Dev nD) (t : Fin cfg0.N) (r : Fin 512) (j : Fin 1024) :
    k0_pay2 (F := Ideal) (iblk m c 0 t) (iblk m c 4 t) (View.ld (iblk m c 3 t) r0_2) (iblk m c 1 t) (View.ld (iblk m c 3 t) r0_3) (iblk m c 2 t) (ix2 r j)
      = mixRow (fun k => argO m c (ix2 ⟨t.val * 512 + r.val, by have := lt64 t; omega⟩ k)) (fun k => argN m c (ix2 0 k))
        (fun k => argH m c (ix2 ⟨t.val * 512 + r.val, by have := lt64 t; omega⟩ k))
        (fun j => argX m c (ix3 ⟨(t.val * 512 + r.val) / 16384, by have := lt64 t; omega⟩ ⟨(t.val * 512 + r.val) % 16384, by omega⟩ j)) (fun k j => argW m c (ix3 0 k j)) j := by
  refine (pay2_at ..).trans ?_
  unfold mixRow
  rw [blk2]
  refine congrArg (alpha * _ + ·) (congrArg₂ (· + ·) (Finset.sum_congr rfl fun k _ => ?_) (Finset.sum_congr rfl fun k _ => ?_))
  · rw [blk3a]
    exact congrArg (· * _) (congrArg₂ (fun a b => rmsRow a b k) (funext fun x => blk0 m c t r x) (funext fun x => blk4 m c t x))
  · rw [blk3b, blk1]

/-- The array the launch leaves. -/
theorem final (c : Dev nD) : (dats m 0 c).arrAt 7 (cfgs 0).N = resultArr (argO m c) (argH m c) (argX m c) (argN m c) (argW m c) (argG m c) (argB m c) := by
  refine (dats m 0 c).arrAt_eq_of_covers 7 _ (by decide +kernel) fun t _ y => ?_
  blk_simp
  rw [after0_7]
  frame_out
  idx_vars y
  have ht := lt64 t
  have e : (win0_7.blk t).view.emb (ix2 y0 y1) = ix2 ⟨t.val * 512 + y0.val, by have := y0.isLt; omega⟩ y1 := by blk_ext [idx t]
  rw [e]
  refine (pay1_at ..).trans ?_
  rw [blk5, blk6]
  exact congrArg (fun f => lnorm f _ _ _) (funext fun j => row_at m c t y0 j)

/-- The run ends with every row mixed and normalised, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v9) = resultArr (argO m c) (argH m c) (argX m c) (argN m c) (argW m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c), h.2.1 c⟩) (θ_run_and (run_main m ρ) (frame m ρ))

end Cert.Kernel4Ideal.Gen

end
-- ==== Proof.MixRef.lean ====
module

public import proofs.«01_k».proof.Proof.Gen.Reference4Ideal.Run
public import proofs.«01_k».proof.Proof.LayerMath

/-! # What the reference of the output projection computes -/

@[expose] public section

set_option maxRecDepth 16384

noncomputable section

namespace Cert.Reference4Ideal.Value

open Cert.Reference4Ideal Cert.Reference4Ideal.Gen Idealize.ShloMosaic Idealize.ShloMosaic.TcCoe Idealize.SL.Sem Cert.Layer

variable (m : (ℓ : Loc nD τ sig) → Buf (Elt Ideal) ℓ)

/-- The attention's rows, normalised and scaled. -/
def scaled (O : FVec Ideal S32768x512 .f32) (N : FVec Ideal S1x512 .f32) : FVec Ideal S32768x512 .f32 :=
  (mulf (mulf O (broadcastInDim S32768x512 ![0, 1] bcast_S32768x1_S32768x512_0_1 (Host.rsqrt (addf (Host.divf (broadcastInDim S32768x1 ![0] bcast_S32768_S32768x1_0 (Host.reduceAdd (mulf O O) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 (broadcastInDim S1x512 ![1] bcast_S512_S1x512_1 (shapeCast _ N shapeCasts_S1x512_S512))))
/-- The rows before the layer normalisation. -/
def before (S H : FVec Ideal S32768x512 .f32) (X : FVec Ideal S2x16384x1024 .f32) (W : FVec Ideal S1x1024x1024 .f32) : FVec Ideal S32768x1024 .f32 :=
  (addf (mulf (broadcastInDim S32768x1024 ![] bcast_S_S32768x1024 (constant S_ .f32 0x3F9837F0#32)) (shapeCast _ X shapeCasts_S2x16384x1024_S32768x1024)) (Host.dotGeneral dot_S32768x1024_S1024x1024_S32768x1024_1_0_0_1_n_n none (concatenate S32768x1024 1 [⟨S32768x512, S⟩, ⟨S32768x512, H⟩] concatenates_S32768x512_S32768x512_S32768x1024_d1) (shapeCast _ W shapeCasts_S1x1024x1024_S1024x1024)))
/-- Each row less its mean. -/
def centred (Y : FVec Ideal S32768x1024 .f32) : FVec Ideal S32768x1024 .f32 :=
  (subf Y (broadcastInDim S32768x1024 ![0, 1] bcast_S32768x1_S32768x1024_0_1 (Host.divf (broadcastInDim S32768x1 ![0] bcast_S32768_S32768x1_0 (Host.reduceAdd Y (constant S_ .f32 0x00000000#32) reducesTo_S32768x1024_S32768_d1 h_S_)) (broadcastInDim S32768x1 ![] bcast_S_S32768x1 (constant S_ .f32 0x44800000#32)))))
/-- Each row over its deviation, with gain and bias. -/
def normed (C : FVec Ideal S32768x1024 .f32) (G B : FVec Ideal S1x1024 .f32) : FVec Ideal S32768x1024 .f32 :=
  addf (mulf (mulf C (broadcastInDim S32768x1024 ![0, 1] bcast_S32768x1_S32768x1024_0_1 (Host.rsqrt (addf (Host.divf (broadcastInDim S32768x1 ![0] bcast_S32768_S32768x1_0 (Host.reduceAdd (mulf C C) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (shapeCast _ G shapeCasts_S1x1024_S1024)))) (broadcastInDim S32768x1024 ![0, 1] bcast_S1x1024_S32768x1024_0_1 (broadcastInDim S1x1024 ![1] bcast_S1024_S1x1024_1 (shapeCast _ B shapeCasts_S1x1024_S1024)))

/-- The scaled branch at an index. -/
theorem scaled_at (O : FVec Ideal S32768x512 .f32) (N : FVec Ideal S1x512 .f32) (R : Fin 32768) (k : Fin 512) :
    scaled O N (ix2 R k) = rmsRow (fun k => O (ix2 R k)) (fun k => N (ix2 0 k)) k := by
  pointwise [scaled]
  rfl
/-- The mixed rows at an index. -/
theorem before_at (S H : FVec Ideal S32768x512 .f32) (X : FVec Ideal S2x16384x1024 .f32) (W : FVec Ideal S1x1024x1024 .f32) (R : Fin 32768) (j : Fin 1024) :
    before S H X W (ix2 R j) = alpha * X (ix3 ⟨R.val / 16384, by omega⟩ ⟨R.val % 16384, by omega⟩ j)
      + (∑ k : Fin 512, S (ix2 R k) * W (ix3 0 ⟨k.val, by omega⟩ j) + ∑ k : Fin 512, H (ix2 R k) * W (ix3 0 ⟨512 + k.val, by omega⟩ j)) := by
  pointwise [before]
  rfl
/-- The centred rows at an index. -/
theorem centred_at (Y : FVec Ideal S32768x1024 .f32) (R : Fin 32768) (j : Fin 1024) :
    centred Y (ix2 R j) = Y (ix2 R j) - Ideal.div (∑ z, Y (ix2 R z)) (Ideal.ofBits FTy.f32 0x44800000#32) := by
  pointwise [centred]
/-- The normalised rows at an index. -/
theorem normed_at (C : FVec Ideal S32768x1024 .f32) (G B : FVec Ideal S1x1024 .f32) (R : Fin 32768) (j : Fin 1024) :
    normed C G B (ix2 R j) = C (ix2 R j) * Ideal.rsqrt (Ideal.div (∑ x, C (ix2 R x) * C (ix2 R x)) (Ideal.ofBits FTy.f32 0x44800000#32)
        + Ideal.ofBits FTy.f32 0x3727C5AC#32) * G (ix2 0 j) + B (ix2 0 j) := by
  pointwise [normed]

/-- The attention's output. -/
abbrev argO (c : Dev nD) : FVec Ideal S32768x512 .f32 := m ((c : Thread nD τ).loc main_arg0)
/-- The recurrence's output. -/
abbrev argH (c : Dev nD) : FVec Ideal S32768x512 .f32 := m ((c : Thread nD τ).loc main_arg1)
/-- The residual stream. -/
abbrev argX (c : Dev nD) : FVec Ideal S2x16384x1024 .f32 := m ((c : Thread nD τ).loc main_arg2)
/-- The attention's gain. -/
abbrev argN (c : Dev nD) : FVec Ideal S1x512 .f32 := m ((c : Thread nD τ).loc main_arg3)
/-- The output projection. -/
abbrev argW (c : Dev nD) : FVec Ideal S1x1024x1024 .f32 := m ((c : Thread nD τ).loc main_arg4)
/-- The normalisation's gain. -/
abbrev argG (c : Dev nD) : FVec Ideal S1x1024 .f32 := m ((c : Thread nD τ).loc main_arg5)
/-- The normalisation's bias. -/
abbrev argB (c : Dev nD) : FVec Ideal S1x1024 .f32 := m ((c : Thread nD τ).loc main_arg6)

/-- The result is made of these steps. -/
theorem result_steps (c : Dev nD) : (res_out0 m c : FVec Ideal S32768x1024 .f32)
    = normed (centred (before (scaled (argO m c) (argN m c)) (argH m c) (argX m c) (argW m c))) (argG m c) (argB m c) := by
  show res_main_v46 m c = _
  unfold res_main_v46
  rfl

/-- A result element: its row mixed and normalised. -/
theorem result_at (c : Dev nD) (R : Fin 32768) (j : Fin 1024) : (res_out0 m c : FVec Ideal S32768x1024 .f32) (ix2 R j)
    = lnorm (mixRow (fun k => argO m c (ix2 R k)) (fun k => argN m c (ix2 0 k)) (fun k => argH m c (ix2 R k))
      (fun j => argX m c (ix3 ⟨R.val / 16384, by omega⟩ ⟨R.val % 16384, by omega⟩ j)) (fun k j => argW m c (ix3 0 k j))) (argG m c (ix2 0 j)) (argB m c (ix2 0 j)) j := by
  rw [result_steps, normed_at]
  simp only [centred_at, before_at, scaled_at]
  rfl

end Cert.Reference4Ideal.Value

end
-- ==== Proof.LayerClaims.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.ExpertsValue
public import proofs.«01_k».proof.Proof.ExpertsRef
public import proofs.«01_k».proof.Proof.Gen.Kernel5Ideal
public import proofs.«01_k».proof.Proof.Gen.Kernel5
public import proofs.«01_k».proof.Proof.Gen.Pre_tables_in_range
public import proofs.«01_k».proof.Proof.InprojValue
public import proofs.«01_k».proof.Proof.InprojRef
public import proofs.«01_k».proof.Proof.Gen.Kernel3.Frame
public import proofs.«01_k».proof.Proof.Gen.Kernel3Ideal.Value
public import proofs.«01_k».proof.Proof.Gen.Reference3Ideal.Run
public import proofs.«01_k».proof.Proof.XattnValue
public import proofs.«01_k».proof.Proof.XattnRef
public import proofs.«01_k».proof.Proof.FiniteAttention
public import proofs.«01_k».proof.Proof.Gen.Kernel4.Frame
public import proofs.«01_k».proof.Proof.Gen.Kernel4Ideal.Value
public import proofs.«01_k».proof.Proof.Gen.Reference4Ideal.Run
public import proofs.«01_k».proof.Proof.MixValue
public import proofs.«01_k».proof.Proof.MixRef

/-! # The claims about the other calls, each assembled from its kernel's and its reference's run -/

@[expose] public section

noncomputable section

namespace Cert.Layer

open Idealize.ShloMosaic Idealize.SL.Sem

/-- The input projection as printed runs to its end and leaves its arguments. -/
theorem frame_kernel2 : Cert.quiescent_Kernel2 (hKernel2 := Cert.Kernel2.Gen.facts) := fun m ρ _ => Cert.Kernel2.Gen.frame (F := Bits) m ρ

/-- The input projection at the ideal numbers does too. -/
theorem frame_ideal2 : Cert.quiescent_Kernel2Ideal (hKernel2Ideal := Cert.Kernel2Ideal.Gen.facts) := fun m ρ _ => Cert.Kernel2Ideal.Gen.frame (F := Ideal) m ρ

/-- And so does its reference. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩) (Cert.Reference2Ideal.Value.run m ρ)

/-- The attention over the memory as printed runs to its end and leaves its arguments. -/
theorem frame_kernel3 : Cert.quiescent_Kernel3 (hKernel3 := Cert.Kernel3.Gen.facts) := fun m ρ _ => Cert.Kernel3.Gen.frame (F := Bits) m ρ

/-- The attention over the memory at the ideal numbers does too. -/
theorem frame_ideal3 : Cert.quiescent_Kernel3Ideal (hKernel3Ideal := Cert.Kernel3Ideal.Gen.facts) := fun m ρ _ => Cert.Kernel3Ideal.Gen.frame (F := Ideal) m ρ

/-- And so does its reference. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run m ρ)

/-- The mixing as printed runs to its end and leaves its arguments. -/
theorem frame_kernel4 : Cert.quiescent_Kernel4 (hKernel4 := Cert.Kernel4.Gen.facts) := fun m ρ _ => Cert.Kernel4.Gen.frame (F := Bits) m ρ

/-- The mixing at the ideal numbers does too. -/
theorem frame_ideal4 : Cert.quiescent_Kernel4Ideal (hKernel4Ideal := Cert.Kernel4Ideal.Gen.facts) := fun m ρ _ => Cert.Kernel4Ideal.Gen.frame (F := Ideal) m ρ

/-- And so does its reference. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run m ρ)

/-- Where the tables are in range, their blocks lie in the arrays, at the machine's words. -/
theorem ok_bits (m : (ℓ : Loc Cert.Kernel5Ideal.nD Cert.Kernel5Ideal.τ Cert.Kernel5Ideal.sig) → Buf (Elt Bits) ℓ)
    (h : ∀ c : Dev Cert.Kernel5Ideal.nD, Cert.Pre_tables_in_range.fn (F := Bits) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) = fun _ => 1#1) :
    Cert.Kernel5Ideal.Gen.Ok m :=
  Cert.Kernel5Ideal.Gen.ok_of_range _ (fun t => (Cert.Pre_tables_in_range.range_at _ _ _ _ _ _ (h 0) t).1) (Cert.Pre_tables_in_range.range_at _ _ _ _ _ _ (h 0) 0).2

/-- Where the tables are in range, every word of the first names an expert. -/
theorem words_ideal (m : (ℓ : Loc Cert.Kernel5Ideal.nD Cert.Kernel5Ideal.τ Cert.Kernel5Ideal.sig) → Buf (Elt Ideal) ℓ) (h : Cert.Pre_Kernel5Ideal m) (t : Fin 288) :
    0 ≤ (Cert.Kernel5Ideal.Gen.tbl m 0 (ix1 t) : BitVec 32).toInt ∧ (Cert.Kernel5Ideal.Gen.tbl m 0 (ix1 t) : BitVec 32).toInt < 32 :=
  (Cert.Pre_tables_in_range.range_at _ _ _ _ _ _ (h 0) t).1

/-- Where the tables are in range, at least one block is in use. -/
theorem count_ideal (m : (ℓ : Loc Cert.Kernel5Ideal.nD Cert.Kernel5Ideal.τ Cert.Kernel5Ideal.sig) → Buf (Elt Ideal) ℓ) (h : Cert.Pre_Kernel5Ideal m) :
    1 ≤ (Cert.Kernel5Ideal.Gen.tbl m 1 (ix1 0) : BitVec 32).toInt :=
  (Cert.Pre_tables_in_range.range_at _ _ _ _ _ _ (h 0) 0).2

/-- Where the tables are in range, their blocks lie in the arrays, at the ideal numbers. -/
theorem ok_ideal (m : (ℓ : Loc Cert.Kernel5Ideal.nD Cert.Kernel5Ideal.τ Cert.Kernel5Ideal.sig) → Buf (Elt Ideal) ℓ) (h : Cert.Pre_Kernel5Ideal m) : Cert.Kernel5Ideal.Gen.Ok m :=
  Cert.Kernel5Ideal.Gen.ok_of_range _ (words_ideal m h) (count_ideal m h)

/-- The two printings of the expert call run the same body. -/
theorem bodies_agree5 : @Cert.Kernel5.defs₀ Bits _ Cert.Kernel5.Gen.facts = @Cert.Kernel5Ideal.defs₀ Bits _ Cert.Kernel5Ideal.Gen.facts :=
  congrArg Defs.onTc (funext fun l => funext fun x => by
    obtain ⟨n, hn⟩ := l
    match n, hn with
    | 0, _ => rfl
    | n + 1, h => exact absurd h (by omega))

/-- So their procedure tables agree. -/
theorem tables_agree5 : @Cert.Kernel5.defs Bits _ Cert.Kernel5.Gen.facts = @Cert.Kernel5Ideal.defs Bits _ Cert.Kernel5Ideal.Gen.facts :=
  congrArg (Pipeline.defs (Cert.Kernel5Ideal.pcfgs (F := Bits))) bodies_agree5

/-- The expert call as printed runs to its end and leaves its arguments, where the tables are in range. -/
theorem frame_kernel5 : Cert.quiescent_Kernel5 (hKernel5 := Cert.Kernel5.Gen.facts) (hPre_tables_in_range := Cert.Pre_tables_in_range.Gen.facts) := fun m ρ hpre => by
  rw [tables_agree5]
  exact (θ_run Cert.Kernel5Ideal.defs _ _).mono (fun _ h => h) (Cert.Kernel5Ideal.Gen.frame (F := Bits) m ρ (ok_bits m hpre))

/-- The expert call at the ideal numbers does too. -/
theorem frame_ideal5 : Cert.quiescent_Kernel5Ideal (hKernel5Ideal := Cert.Kernel5Ideal.Gen.facts) (hPre_tables_in_range := Cert.Pre_tables_in_range.Gen.facts) := fun m ρ hpre =>
  Cert.Kernel5Ideal.Gen.frame (F := Ideal) m ρ (ok_ideal m hpre)

/-- And so does its reference. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run m ρ)

/-- The input projection's results are its reference's. -/
theorem values2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Gen.colsArr (Cert.Kernel2Ideal.Gen.argX m c) (Cert.Kernel2Ideal.Gen.argW m c),
    fun c => Cert.Kernel2Ideal.Gen.selKeysArr (Cert.Kernel2Ideal.Gen.argX m c) (Cert.Kernel2Ideal.Gen.argW m c),
    fun c => Cert.Kernel2Ideal.Gen.winKeysArr (Cert.Kernel2Ideal.Gen.argX m c) (Cert.Kernel2Ideal.Gen.argW m c),
    fun c => Cert.Kernel2Ideal.Gen.selValsArr (Cert.Kernel2Ideal.Gen.argX m c) (Cert.Kernel2Ideal.Gen.argW m c),
    fun c => Cert.Kernel2Ideal.Gen.winValsArr (Cert.Kernel2Ideal.Gen.argX m c) (Cert.Kernel2Ideal.Gen.argW m c),
    Cert.Kernel2Ideal.Gen.run_value m g, ?_⟩
  refine (θ_run Cert.Reference2Ideal.defs _ _).mono (fun r h c => ⟨(h c).1.trans ?_, (h c).2.1.trans ?_, (h c).2.2.1.trans ?_, (h c).2.2.2.1.trans ?_,
    (h c).2.2.2.2.1.trans ?_, (h c).2.2.2.2.2⟩) (Cert.Reference2Ideal.Value.run_steps m' g')
  all_goals
    have e0 : Cert.Reference2Ideal.Value.argX m' c = Cert.Kernel2Ideal.Gen.argX m c := (hagree c).1
    have e1 : Cert.Reference2Ideal.Value.argW m' c = Cert.Kernel2Ideal.Gen.argW m c := (hagree c).2
    rw [e0, e1]
    refine funext fun y => ?_
    idx_vars y
  · refine (Cert.Reference2Ideal.Value.colsR_at _ y0 y1).trans ?_
    exact congrArg (fun f => moved f y1) (funext fun i => Cert.Reference2Ideal.Value.rowsR_at _ _ _ _ i)
  · exact Cert.Reference2Ideal.Value.selKeysR_at _ _ y0 y1 y2 y3
  · exact Cert.Reference2Ideal.Value.winKeysR_at _ _ y0 y1 y2 y3
  · exact Cert.Reference2Ideal.Value.selValsR_at _ _ y0 y1 y2 y3
  · exact Cert.Reference2Ideal.Value.winValsR_at _ _ y0 y1 y2 y3

/-- Where rows, query weights and keys are finite, the attention's result is its reference's. -/
theorem values3 : Cert.algebraic_Kernel3Ideal_Reference3Ideal_pre_finite_attention (hKernel3Ideal := Cert.Kernel3Ideal.Gen.facts)
    (hReference3Ideal := Cert.Reference3Ideal.Gen.facts) (hPre_finite_attention := Cert.Pre_finite_attention.holds_facts) := by
  intro m g m' g' hpre hagree
  refine ⟨fun c => Cert.Kernel3Ideal.Gen.resultArr (Cert.Kernel3Ideal.Gen.argX m c) (Cert.Kernel3Ideal.Gen.argM m c) (Cert.Kernel3Ideal.Gen.argQ m c)
    (Cert.Kernel3Ideal.Gen.argO m c) (Cert.Kernel3Ideal.Gen.argG m c) (Cert.Kernel3Ideal.Gen.argB m c), Cert.Kernel3Ideal.Gen.run_value m g, ?_⟩
  refine (θ_run Cert.Reference3Ideal.defs _ _).mono (fun r h c => ⟨(h c).1.trans ?_, (h c).2⟩) (Cert.Reference3Ideal.Value.run m' g')
  have e0 : Cert.Reference3Ideal.Value.argX m' c = Cert.Kernel3Ideal.Gen.argX m c := (hagree c).1
  have e1 : Cert.Reference3Ideal.Value.argM m' c = Cert.Kernel3Ideal.Gen.argM m c := (hagree c).2.1
  have e2 : Cert.Reference3Ideal.Value.argQ m' c = Cert.Kernel3Ideal.Gen.argQ m c := (hagree c).2.2.1
  have e3 : Cert.Reference3Ideal.Value.argO m' c = Cert.Kernel3Ideal.Gen.argO m c := (hagree c).2.2.2.1
  have e4 : Cert.Reference3Ideal.Value.argG m' c = Cert.Kernel3Ideal.Gen.argG m c := (hagree c).2.2.2.2.1
  have e5 : Cert.Reference3Ideal.Value.argB m' c = Cert.Kernel3Ideal.Gen.argB m c := (hagree c).2.2.2.2.2
  refine funext fun y => ?_
  idx_vars y
  refine (Cert.Reference3Ideal.Value.result_at m' c ?_ ?_ ?_ y0 y1 y2).trans ?_
  · rw [e0]; exact Cert.Pre_finite_attention.real_row _ _ _ _ _ _ (hpre c)
  · rw [e2]; exact Cert.Pre_finite_attention.real_weight _ _ _ _ _ _ (hpre c)
  · rw [e1]; exact Cert.Pre_finite_attention.real_key _ _ _ _ _ _ (hpre c)
  · rw [e0, e1, e2, e3, e4, e5]
    rfl

/-- The mixing's result is its reference's. -/
theorem values4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Kernel4Ideal.Gen.resultArr (Cert.Kernel4Ideal.Gen.argO m c) (Cert.Kernel4Ideal.Gen.argH m c) (Cert.Kernel4Ideal.Gen.argX m c)
    (Cert.Kernel4Ideal.Gen.argN m c) (Cert.Kernel4Ideal.Gen.argW m c) (Cert.Kernel4Ideal.Gen.argG m c) (Cert.Kernel4Ideal.Gen.argB m c),
    Cert.Kernel4Ideal.Gen.run_value m g, ?_⟩
  refine (θ_run Cert.Reference4Ideal.defs _ _).mono (fun r h c => ⟨(h c).1.trans ?_, (h c).2⟩) (Cert.Reference4Ideal.Value.run m' g')
  have e0 : Cert.Reference4Ideal.Value.argO m' c = Cert.Kernel4Ideal.Gen.argO m c := (hagree c).1
  have e1 : Cert.Reference4Ideal.Value.argH m' c = Cert.Kernel4Ideal.Gen.argH m c := (hagree c).2.1
  have e2 : Cert.Reference4Ideal.Value.argX m' c = Cert.Kernel4Ideal.Gen.argX m c := (hagree c).2.2.1
  have e3 : Cert.Reference4Ideal.Value.argN m' c = Cert.Kernel4Ideal.Gen.argN m c := (hagree c).2.2.2.1
  have e4 : Cert.Reference4Ideal.Value.argW m' c = Cert.Kernel4Ideal.Gen.argW m c := (hagree c).2.2.2.2.1
  have e5 : Cert.Reference4Ideal.Value.argG m' c = Cert.Kernel4Ideal.Gen.argG m c := (hagree c).2.2.2.2.2.1
  have e6 : Cert.Reference4Ideal.Value.argB m' c = Cert.Kernel4Ideal.Gen.argB m c := (hagree c).2.2.2.2.2.2
  refine funext fun y => ?_
  idx_vars y
  refine (Cert.Reference4Ideal.Value.result_at m' c y0 y1).trans ?_
  rw [e0, e1, e2, e3, e4, e5, e6]
  rfl

/-- Where the tables are in range, the expert call's result is its reference's. -/
theorem values5 : Cert.algebraic_Kernel5Ideal_Reference5Ideal (hKernel5Ideal := Cert.Kernel5Ideal.Gen.facts)
    (hReference5Ideal := Cert.Reference5Ideal.Gen.facts) (hPre_tables_in_range := Cert.Pre_tables_in_range.Gen.facts) := by
  intro m g m' g' hpre hagree
  refine ⟨fun c => Cert.Kernel5Ideal.Gen.resultArr m c, Cert.Kernel5Ideal.Gen.run_value m g (ok_ideal m hpre) (words_ideal m hpre) (count_ideal m hpre), ?_⟩
  refine (θ_run Cert.Reference5Ideal.defs _ _).mono (fun r h c => ⟨(h c).1.trans ?_, (h c).2⟩) (Cert.Reference5Ideal.Value.run_value m' g')
  rw [(hagree c).1, (hagree c).2.1, (hagree c).2.2.1, (hagree c).2.2.2.1, (hagree c).2.2.2.2.1, (hagree c).2.2.2.2.2]
  refine funext fun y => ?_
  idx_vars y
  exact Cert.Reference5Ideal.Value.result_at _ _ _ _ _ _ y0 y1

end Cert.Layer

end
-- ==== Proof.lean ====
module

public import proofs.«01_k».proof.Defs
public import proofs.«01_k».proof.Proof.Launch
public import proofs.«01_k».proof.Proof.RefFrame
public import proofs.«01_k».proof.Proof.RefValue
public import proofs.«01_k».proof.Proof.FinitePre
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Points
public import proofs.«01_k».proof.Proof.Gen.KernelIdeal.Frame
public import proofs.«01_k».proof.Proof.LayerClaims
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The two printings of the kernel run the same body. -/
theorem bodies_agree :
    @Cert.Kernel.defs₀ Bits _ Cert.Kernel.Gen.facts = @Cert.KernelIdeal.defs₀ Bits _ Cert.KernelIdeal.Gen.facts :=
  congrArg Defs.onTc (funext fun l => funext fun x => by
    obtain ⟨n, hn⟩ := l
    match n, hn with
    | 0, _ => rfl
    | n + 1, h => exact absurd h (by omega))

/-- So their procedure tables agree. -/
theorem tables_agree :
    @Cert.Kernel.defs Bits _ Cert.Kernel.Gen.facts = @Cert.KernelIdeal.defs Bits _ Cert.KernelIdeal.Gen.facts :=
  congrArg (Pipeline.defs (Cert.KernelIdeal.pcfgs (F := Bits))) bodies_agree

/-- The kernel as printed: the one run, at the machine's words. -/
theorem frame_kernel : Cert.quiescent_Kernel (hKernel := Cert.Kernel.Gen.facts) := fun m ρ _ => by
  rw [tables_agree]
  exact (θ_run Cert.KernelIdeal.defs _ _).mono (fun _ h => h) (Cert.KernelIdeal.Gen.frame (F := Bits) m ρ)

/-- The kernel at the ideal numbers: the same run. -/
theorem frame_ideal : Cert.quiescent_KernelIdeal (hKernelIdeal := Cert.KernelIdeal.Gen.facts) := fun m ρ _ =>
  Cert.KernelIdeal.Gen.frame (F := Ideal) m ρ

/-- The reference at the ideal numbers. -/
theorem frame_reference : Cert.quiescent_ReferenceIdeal (hReferenceIdeal := Cert.ReferenceIdeal.Gen.facts) := fun m ρ _ =>
  Cert.ReferenceIdeal.Value.frame (F := Ideal) m ρ

/-- Where queries, values and bound logits are finite, the kernel's result is the reference's. -/
theorem values_agree : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.holds_facts) := by
  intro m g m' g' hpre hagree
  have H : ∀ c, Cert.KernelIdeal.Gen.Finite (Cert.KernelIdeal.Gen.argX m c) (Cert.KernelIdeal.Gen.argL m c) :=
    fun c => Cert.Pre_finite_inputs.finite_of _ _ _ (hpre c)
  have H' : ∀ c, Cert.KernelIdeal.Gen.Finite (Cert.ReferenceIdeal.Value.argX m' c) (Cert.ReferenceIdeal.Value.argL m' c) := by
    intro c
    have e0 : Cert.ReferenceIdeal.Value.argX m' c = Cert.KernelIdeal.Gen.argX m c := (hagree c).1
    have e1 : Cert.ReferenceIdeal.Value.argL m' c = Cert.KernelIdeal.Gen.argL m c := (hagree c).2.1
    rw [e0, e1]
    exact H c
  refine ⟨fun c => Cert.KernelIdeal.Gen.resultArr (Cert.KernelIdeal.Gen.argX m c) (Cert.KernelIdeal.Gen.argL m c) (Cert.KernelIdeal.Gen.argG m c),
    Cert.KernelIdeal.Gen.run_value m g H, ?_⟩
  refine (θ_run Cert.ReferenceIdeal.defs _ _).mono (fun r h c => ⟨(h c).1.trans ?_, (h c).2⟩) (Cert.ReferenceIdeal.Value.run_value m' g' H')
  have e0 : Cert.ReferenceIdeal.Value.argX m' c = Cert.KernelIdeal.Gen.argX m c := (hagree c).1
  have e1 : Cert.ReferenceIdeal.Value.argL m' c = Cert.KernelIdeal.Gen.argL m c := (hagree c).2.1
  have e2 : Cert.ReferenceIdeal.Value.argG m' c = Cert.KernelIdeal.Gen.argG m c := (hagree c).2.2
  rw [e0, e1, e2]

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_inputs.holds_facts, Cert.Pre_finite_attention.holds_facts, Cert.Pre_tables_in_range.Gen.facts,
  frame_kernel, frame_ideal, fun m ρ _ => frame_ideal m ρ trivial, frame_reference, fun m ρ _ => frame_reference m ρ trivial,
  Cert.Layer.frame_kernel2, Cert.Layer.frame_ideal2, Cert.Layer.frame_reference2,
  Cert.Layer.frame_kernel3, Cert.Layer.frame_ideal3, fun m ρ _ => Cert.Layer.frame_ideal3 m ρ trivial, Cert.Layer.frame_reference3,
  fun m ρ _ => Cert.Layer.frame_reference3 m ρ trivial,
  Cert.Layer.frame_kernel4, Cert.Layer.frame_ideal4, Cert.Layer.frame_reference4,
  Cert.Layer.frame_kernel5, Cert.Layer.frame_ideal5, Cert.Layer.frame_reference5, fun m ρ _ => Cert.Layer.frame_reference5 m ρ trivial,
  trivial, values_agree, trivial, Cert.Layer.values2, trivial, Cert.Layer.values3, trivial, Cert.Layer.values4, trivial, Cert.Layer.values5⟩

end Cert.Proof

end
